-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InDsa (m : (ℓ : Loc Cert.InDsa.nD Cert.InDsa.τ Cert.InDsa.sig) → Buf (Elt Bits) ℓ) : Prop :=
  True

def Pre_InDsaIdeal (m : (ℓ : Loc Cert.InDsaIdeal.nD Cert.InDsaIdeal.τ Cert.InDsaIdeal.sig) → Buf (Elt Ideal) ℓ) : Prop :=
  True

def Pre_InDsaRefIdeal (m : (ℓ : Loc Cert.InDsaRefIdeal.nD Cert.InDsaRefIdeal.τ Cert.InDsaRefIdeal.sig) → Buf (Elt Ideal) ℓ) : Prop :=
  True

def Pre_InRwkv (m : (ℓ : Loc Cert.InRwkv.nD Cert.InRwkv.τ Cert.InRwkv.sig) → Buf (Elt Bits) ℓ) : Prop :=
  True

def Pre_InRwkvIdeal (m : (ℓ : Loc Cert.InRwkvIdeal.nD Cert.InRwkvIdeal.τ Cert.InRwkvIdeal.sig) → Buf (Elt Ideal) ℓ) : Prop :=
  True

def Pre_InRwkvRefIdeal (m : (ℓ : Loc Cert.InRwkvRefIdeal.nD Cert.InRwkvRefIdeal.τ Cert.InRwkvRefIdeal.sig) → Buf (Elt Ideal) ℓ) : Prop :=
  True

def Pre_InMem (m : (ℓ : Loc Cert.InMem.nD Cert.InMem.τ Cert.InMem.sig) → Buf (Elt Bits) ℓ) : Prop :=
  True

def Pre_InMemIdeal (m : (ℓ : Loc Cert.InMemIdeal.nD Cert.InMemIdeal.τ Cert.InMemIdeal.sig) → Buf (Elt Ideal) ℓ) : Prop :=
  True

def Pre_InMemRefIdeal (m : (ℓ : Loc Cert.InMemRefIdeal.nD Cert.InMemRefIdeal.τ Cert.InMemRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_DsaPrep (m : (ℓ : Loc Cert.DsaPrep.nD Cert.DsaPrep.τ Cert.DsaPrep.sig) → Buf (Elt Bits) ℓ) : Prop :=
  True

def Pre_DsaPrepIdeal (m : (ℓ : Loc Cert.DsaPrepIdeal.nD Cert.DsaPrepIdeal.τ Cert.DsaPrepIdeal.sig) → Buf (Elt Ideal) ℓ) : Prop :=
  True

def Pre_DsaPrepRefIdeal (m : (ℓ : Loc Cert.DsaPrepRefIdeal.nD Cert.DsaPrepRefIdeal.τ Cert.DsaPrepRefIdeal.sig) → Buf (Elt Ideal) ℓ) : Prop :=
  True

def Pre_RwkvPrep (m : (ℓ : Loc Cert.RwkvPrep.nD Cert.RwkvPrep.τ Cert.RwkvPrep.sig) → Buf (Elt Bits) ℓ) : Prop :=
  True

def Pre_RwkvPrepIdeal (m : (ℓ : Loc Cert.RwkvPrepIdeal.nD Cert.RwkvPrepIdeal.τ Cert.RwkvPrepIdeal.sig) → Buf (Elt Ideal) ℓ) : Prop :=
  True

def Pre_RwkvPrepIdeal_finite_keys [hPre_finite_keys : Cert.Pre_finite_keys.Facts] (m : (ℓ : Loc Cert.RwkvPrepIdeal.nD Cert.RwkvPrepIdeal.τ Cert.RwkvPrepIdeal.sig) → Buf (Elt Ideal) ℓ) : Prop :=
  ∀ c : Dev Cert.RwkvPrepIdeal.nD,
    (Cert.Pre_finite_keys.fn (F := Ideal) (m ((c.tc : Thread Cert.RwkvPrepIdeal.nD Cert.RwkvPrepIdeal.τ).loc Cert.RwkvPrepIdeal.main_arg0)) (m ((c.tc : Thread Cert.RwkvPrepIdeal.nD Cert.RwkvPrepIdeal.τ).loc Cert.RwkvPrepIdeal.main_arg1)) (m ((c.tc : Thread Cert.RwkvPrepIdeal.nD Cert.RwkvPrepIdeal.τ).loc Cert.RwkvPrepIdeal.main_arg2)) (m ((c.tc : Thread Cert.RwkvPrepIdeal.nD Cert.RwkvPrepIdeal.τ).loc Cert.RwkvPrepIdeal.main_arg3)) (m ((c.tc : Thread Cert.RwkvPrepIdeal.nD Cert.RwkvPrepIdeal.τ).loc Cert.RwkvPrepIdeal.main_arg4)) (m ((c.tc : Thread Cert.RwkvPrepIdeal.nD Cert.RwkvPrepIdeal.τ).loc Cert.RwkvPrepIdeal.main_arg5)) (m ((c.tc : Thread Cert.RwkvPrepIdeal.nD Cert.RwkvPrepIdeal.τ).loc Cert.RwkvPrepIdeal.main_arg6)) (m ((c.tc : Thread Cert.RwkvPrepIdeal.nD Cert.RwkvPrepIdeal.τ).loc Cert.RwkvPrepIdeal.main_arg7)) (m ((c.tc : Thread Cert.RwkvPrepIdeal.nD Cert.RwkvPrepIdeal.τ).loc Cert.RwkvPrepIdeal.main_arg8)) (m ((c.tc : Thread Cert.RwkvPrepIdeal.nD Cert.RwkvPrepIdeal.τ).loc Cert.RwkvPrepIdeal.main_arg9))) = (fun _ => 1#1)

def Pre_RwkvPrepRefIdeal (m : (ℓ : Loc Cert.RwkvPrepRefIdeal.nD Cert.RwkvPrepRefIdeal.τ Cert.RwkvPrepRefIdeal.sig) → Buf (Elt Ideal) ℓ) : Prop :=
  True

def Pre_RwkvPrepRefIdeal_finite_keys [hPre_finite_keys : Cert.Pre_finite_keys.Facts] (m : (ℓ : Loc Cert.RwkvPrepRefIdeal.nD Cert.RwkvPrepRefIdeal.τ Cert.RwkvPrepRefIdeal.sig) → Buf (Elt Ideal) ℓ) : Prop :=
  ∀ c : Dev Cert.RwkvPrepRefIdeal.nD,
    (Cert.Pre_finite_keys.fn (F := Ideal) (m ((c.tc : Thread Cert.RwkvPrepRefIdeal.nD Cert.RwkvPrepRefIdeal.τ).loc Cert.RwkvPrepRefIdeal.main_arg0)) (m ((c.tc : Thread Cert.RwkvPrepRefIdeal.nD Cert.RwkvPrepRefIdeal.τ).loc Cert.RwkvPrepRefIdeal.main_arg1)) (m ((c.tc : Thread Cert.RwkvPrepRefIdeal.nD Cert.RwkvPrepRefIdeal.τ).loc Cert.RwkvPrepRefIdeal.main_arg2)) (m ((c.tc : Thread Cert.RwkvPrepRefIdeal.nD Cert.RwkvPrepRefIdeal.τ).loc Cert.RwkvPrepRefIdeal.main_arg3)) (m ((c.tc : Thread Cert.RwkvPrepRefIdeal.nD Cert.RwkvPrepRefIdeal.τ).loc Cert.RwkvPrepRefIdeal.main_arg4)) (m ((c.tc : Thread Cert.RwkvPrepRefIdeal.nD Cert.RwkvPrepRefIdeal.τ).loc Cert.RwkvPrepRefIdeal.main_arg5)) (m ((c.tc : Thread Cert.RwkvPrepRefIdeal.nD Cert.RwkvPrepRefIdeal.τ).loc Cert.RwkvPrepRefIdeal.main_arg6)) (m ((c.tc : Thread Cert.RwkvPrepRefIdeal.nD Cert.RwkvPrepRefIdeal.τ).loc Cert.RwkvPrepRefIdeal.main_arg7)) (m ((c.tc : Thread Cert.RwkvPrepRefIdeal.nD Cert.RwkvPrepRefIdeal.τ).loc Cert.RwkvPrepRefIdeal.main_arg8)) (m ((c.tc : Thread Cert.RwkvPrepRefIdeal.nD Cert.RwkvPrepRefIdeal.τ).loc Cert.RwkvPrepRefIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_InDsa [hInDsa : Cert.InDsa.Facts] : Prop :=
  ∀ (m : (ℓ : Loc Cert.InDsa.nD Cert.InDsa.τ Cert.InDsa.sig) → Buf (Elt Bits) ℓ) (g : Dev Cert.InDsa.nD → PrngReg), Pre_InDsa m →
    θ_run (Cert.InDsa.defs (F := Bits)) (onTc (τ := Cert.InDsa.τ) (Cert.InDsa.main (F := Bits))) ⟨m, fun _ => 0, g⟩ (fun r => (∀ c : Dev Cert.InDsa.nD,
      r.2.mem ((c.tc : Thread Cert.InDsa.nD Cert.InDsa.τ).loc Cert.InDsa.main_arg0) = m ((c.tc : Thread Cert.InDsa.nD Cert.InDsa.τ).loc Cert.InDsa.main_arg0)
      ∧ r.2.mem ((c.tc : Thread Cert.InDsa.nD Cert.InDsa.τ).loc Cert.InDsa.main_arg1) = m ((c.tc : Thread Cert.InDsa.nD Cert.InDsa.τ).loc Cert.InDsa.main_arg1))
      ∧ r.2.sem = fun _ => 0)

def quiescent_InDsaIdeal [hInDsaIdeal : Cert.InDsaIdeal.Facts] : Prop :=
  ∀ (m : (ℓ : Loc Cert.InDsaIdeal.nD Cert.InDsaIdeal.τ Cert.InDsaIdeal.sig) → Buf (Elt Ideal) ℓ) (g : Dev Cert.InDsaIdeal.nD → PrngReg), Pre_InDsaIdeal m →
    θ_run (Cert.InDsaIdeal.defs (F := Ideal)) (onTc (τ := Cert.InDsaIdeal.τ) (Cert.InDsaIdeal.main (F := Ideal))) ⟨m, fun _ => 0, g⟩ (fun r => (∀ c : Dev Cert.InDsaIdeal.nD,
      r.2.mem ((c.tc : Thread Cert.InDsaIdeal.nD Cert.InDsaIdeal.τ).loc Cert.InDsaIdeal.main_arg0) = m ((c.tc : Thread Cert.InDsaIdeal.nD Cert.InDsaIdeal.τ).loc Cert.InDsaIdeal.main_arg0)
      ∧ r.2.mem ((c.tc : Thread Cert.InDsaIdeal.nD Cert.InDsaIdeal.τ).loc Cert.InDsaIdeal.main_arg1) = m ((c.tc : Thread Cert.InDsaIdeal.nD Cert.InDsaIdeal.τ).loc Cert.InDsaIdeal.main_arg1))
      ∧ r.2.sem = fun _ => 0)

def quiescent_InDsaRefIdeal [hInDsaRefIdeal : Cert.InDsaRefIdeal.Facts] : Prop :=
  ∀ (m : (ℓ : Loc Cert.InDsaRefIdeal.nD Cert.InDsaRefIdeal.τ Cert.InDsaRefIdeal.sig) → Buf (Elt Ideal) ℓ) (g : Dev Cert.InDsaRefIdeal.nD → PrngReg), Pre_InDsaRefIdeal m →
    θ_run (Cert.InDsaRefIdeal.defs (F := Ideal)) (onTc (τ := Cert.InDsaRefIdeal.τ) (Cert.InDsaRefIdeal.main (F := Ideal))) ⟨m, fun _ => 0, g⟩ (fun r => (∀ c : Dev Cert.InDsaRefIdeal.nD,
      r.2.mem ((c.tc : Thread Cert.InDsaRefIdeal.nD Cert.InDsaRefIdeal.τ).loc Cert.InDsaRefIdeal.main_arg0) = m ((c.tc : Thread Cert.InDsaRefIdeal.nD Cert.InDsaRefIdeal.τ).loc Cert.InDsaRefIdeal.main_arg0)
      ∧ r.2.mem ((c.tc : Thread Cert.InDsaRefIdeal.nD Cert.InDsaRefIdeal.τ).loc Cert.InDsaRefIdeal.main_arg1) = m ((c.tc : Thread Cert.InDsaRefIdeal.nD Cert.InDsaRefIdeal.τ).loc Cert.InDsaRefIdeal.main_arg1))
      ∧ r.2.sem = fun _ => 0)

def quiescent_InRwkv [hInRwkv : Cert.InRwkv.Facts] : Prop :=
  ∀ (m : (ℓ : Loc Cert.InRwkv.nD Cert.InRwkv.τ Cert.InRwkv.sig) → Buf (Elt Bits) ℓ) (g : Dev Cert.InRwkv.nD → PrngReg), Pre_InRwkv m →
    θ_run (Cert.InRwkv.defs (F := Bits)) (onTc (τ := Cert.InRwkv.τ) (Cert.InRwkv.main (F := Bits))) ⟨m, fun _ => 0, g⟩ (fun r => (∀ c : Dev Cert.InRwkv.nD,
      r.2.mem ((c.tc : Thread Cert.InRwkv.nD Cert.InRwkv.τ).loc Cert.InRwkv.main_arg0) = m ((c.tc : Thread Cert.InRwkv.nD Cert.InRwkv.τ).loc Cert.InRwkv.main_arg0)
      ∧ r.2.mem ((c.tc : Thread Cert.InRwkv.nD Cert.InRwkv.τ).loc Cert.InRwkv.main_arg1) = m ((c.tc : Thread Cert.InRwkv.nD Cert.InRwkv.τ).loc Cert.InRwkv.main_arg1))
      ∧ r.2.sem = fun _ => 0)

def quiescent_InRwkvIdeal [hInRwkvIdeal : Cert.InRwkvIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg), Pre_InRwkvIdeal m →
    θ_run (Cert.InRwkvIdeal.defs (F := Ideal)) (onTc (τ := Cert.InRwkvIdeal.τ) (Cert.InRwkvIdeal.main (F := Ideal))) ⟨m, fun _ => 0, g⟩ (fun r => (∀ c : Dev Cert.InRwkvIdeal.nD,
      r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
      ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ r.2.sem = fun _ => 0)

def quiescent_InRwkvRefIdeal [hInRwkvRefIdeal : Cert.InRwkvRefIdeal.Facts] : Prop :=
  ∀ (m : (ℓ : Loc Cert.InRwkvRefIdeal.nD Cert.InRwkvRefIdeal.τ Cert.InRwkvRefIdeal.sig) → Buf (Elt Ideal) ℓ) (g : Dev Cert.InRwkvRefIdeal.nD → PrngReg), Pre_InRwkvRefIdeal m →
    θ_run (Cert.InRwkvRefIdeal.defs (F := Ideal)) (onTc (τ := Cert.InRwkvRefIdeal.τ) (Cert.InRwkvRefIdeal.main (F := Ideal))) ⟨m, fun _ => 0, g⟩ (fun r => (∀ c : Dev Cert.InRwkvRefIdeal.nD,
      r.2.mem ((c.tc : Thread Cert.InRwkvRefIdeal.nD Cert.InRwkvRefIdeal.τ).loc Cert.InRwkvRefIdeal.main_arg0) = m ((c.tc : Thread Cert.InRwkvRefIdeal.nD Cert.InRwkvRefIdeal.τ).loc Cert.InRwkvRefIdeal.main_arg0)
      ∧ r.2.mem ((c.tc : Thread Cert.InRwkvRefIdeal.nD Cert.InRwkvRefIdeal.τ).loc Cert.InRwkvRefIdeal.main_arg1) = m ((c.tc : Thread Cert.InRwkvRefIdeal.nD Cert.InRwkvRefIdeal.τ).loc Cert.InRwkvRefIdeal.main_arg1))
      ∧ r.2.sem = fun _ => 0)

def quiescent_InMem [hInMem : Cert.InMem.Facts] : Prop :=
  ∀ (m : (ℓ : Loc Cert.InMem.nD Cert.InMem.τ Cert.InMem.sig) → Buf (Elt Bits) ℓ) (g : Dev Cert.InMem.nD → PrngReg), Pre_InMem m →
    θ_run (Cert.InMem.defs (F := Bits)) (onTc (τ := Cert.InMem.τ) (Cert.InMem.main (F := Bits))) ⟨m, fun _ => 0, g⟩ (fun r => (∀ c : Dev Cert.InMem.nD,
      r.2.mem ((c.tc : Thread Cert.InMem.nD Cert.InMem.τ).loc Cert.InMem.main_arg0) = m ((c.tc : Thread Cert.InMem.nD Cert.InMem.τ).loc Cert.InMem.main_arg0)
      ∧ r.2.mem ((c.tc : Thread Cert.InMem.nD Cert.InMem.τ).loc Cert.InMem.main_arg1) = m ((c.tc : Thread Cert.InMem.nD Cert.InMem.τ).loc Cert.InMem.main_arg1))
      ∧ r.2.sem = fun _ => 0)

def quiescent_InMemIdeal [hInMemIdeal : Cert.InMemIdeal.Facts] : Prop :=
  ∀ (m : (ℓ : Loc Cert.InMemIdeal.nD Cert.InMemIdeal.τ Cert.InMemIdeal.sig) → Buf (Elt Ideal) ℓ) (g : Dev Cert.InMemIdeal.nD → PrngReg), Pre_InMemIdeal m →
    θ_run (Cert.InMemIdeal.defs (F := Ideal)) (onTc (τ := Cert.InMemIdeal.τ) (Cert.InMemIdeal.main (F := Ideal))) ⟨m, fun _ => 0, g⟩ (fun r => (∀ c : Dev Cert.InMemIdeal.nD,
      r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
      ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ r.2.sem = fun _ => 0)

def quiescent_InMemRefIdeal [hInMemRefIdeal : Cert.InMemRefIdeal.Facts] : Prop :=
  ∀ (m : (ℓ : Loc Cert.InMemRefIdeal.nD Cert.InMemRefIdeal.τ Cert.InMemRefIdeal.sig) → Buf (Elt Ideal) ℓ) (g : Dev Cert.InMemRefIdeal.nD → PrngReg), Pre_InMemRefIdeal m →
    θ_run (Cert.InMemRefIdeal.defs (F := Ideal)) (onTc (τ := Cert.InMemRefIdeal.τ) (Cert.InMemRefIdeal.main (F := Ideal))) ⟨m, fun _ => 0, g⟩ (fun r => (∀ c : Dev Cert.InMemRefIdeal.nD,
      r.2.mem ((c.tc : Thread Cert.InMemRefIdeal.nD Cert.InMemRefIdeal.τ).loc Cert.InMemRefIdeal.main_arg0) = m ((c.tc : Thread Cert.InMemRefIdeal.nD Cert.InMemRefIdeal.τ).loc Cert.InMemRefIdeal.main_arg0)
      ∧ r.2.mem ((c.tc : Thread Cert.InMemRefIdeal.nD Cert.InMemRefIdeal.τ).loc Cert.InMemRefIdeal.main_arg1) = m ((c.tc : Thread Cert.InMemRefIdeal.nD Cert.InMemRefIdeal.τ).loc Cert.InMemRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_DsaPrep [hDsaPrep : Cert.DsaPrep.Facts] : Prop :=
  ∀ (m : (ℓ : Loc Cert.DsaPrep.nD Cert.DsaPrep.τ Cert.DsaPrep.sig) → Buf (Elt Bits) ℓ) (g : Dev Cert.DsaPrep.nD → PrngReg), Pre_DsaPrep m →
    θ_run (Cert.DsaPrep.defs (F := Bits)) (onTc (τ := Cert.DsaPrep.τ) (Cert.DsaPrep.main (F := Bits))) ⟨m, fun _ => 0, g⟩ (fun r => (∀ c : Dev Cert.DsaPrep.nD,
      r.2.mem ((c.tc : Thread Cert.DsaPrep.nD Cert.DsaPrep.τ).loc Cert.DsaPrep.main_arg0) = m ((c.tc : Thread Cert.DsaPrep.nD Cert.DsaPrep.τ).loc Cert.DsaPrep.main_arg0)
      ∧ r.2.mem ((c.tc : Thread Cert.DsaPrep.nD Cert.DsaPrep.τ).loc Cert.DsaPrep.main_arg1) = m ((c.tc : Thread Cert.DsaPrep.nD Cert.DsaPrep.τ).loc Cert.DsaPrep.main_arg1)
      ∧ r.2.mem ((c.tc : Thread Cert.DsaPrep.nD Cert.DsaPrep.τ).loc Cert.DsaPrep.main_arg2) = m ((c.tc : Thread Cert.DsaPrep.nD Cert.DsaPrep.τ).loc Cert.DsaPrep.main_arg2)
      ∧ r.2.mem ((c.tc : Thread Cert.DsaPrep.nD Cert.DsaPrep.τ).loc Cert.DsaPrep.main_arg3) = m ((c.tc : Thread Cert.DsaPrep.nD Cert.DsaPrep.τ).loc Cert.DsaPrep.main_arg3)
      ∧ r.2.mem ((c.tc : Thread Cert.DsaPrep.nD Cert.DsaPrep.τ).loc Cert.DsaPrep.main_arg4) = m ((c.tc : Thread Cert.DsaPrep.nD Cert.DsaPrep.τ).loc Cert.DsaPrep.main_arg4)
      ∧ r.2.mem ((c.tc : Thread Cert.DsaPrep.nD Cert.DsaPrep.τ).loc Cert.DsaPrep.main_arg5) = m ((c.tc : Thread Cert.DsaPrep.nD Cert.DsaPrep.τ).loc Cert.DsaPrep.main_arg5))
      ∧ r.2.sem = fun _ => 0)

def quiescent_DsaPrepIdeal [hDsaPrepIdeal : Cert.DsaPrepIdeal.Facts] : Prop :=
  ∀ (m : (ℓ : Loc Cert.DsaPrepIdeal.nD Cert.DsaPrepIdeal.τ Cert.DsaPrepIdeal.sig) → Buf (Elt Ideal) ℓ) (g : Dev Cert.DsaPrepIdeal.nD → PrngReg), Pre_DsaPrepIdeal m →
    θ_run (Cert.DsaPrepIdeal.defs (F := Ideal)) (onTc (τ := Cert.DsaPrepIdeal.τ) (Cert.DsaPrepIdeal.main (F := Ideal))) ⟨m, fun _ => 0, g⟩ (fun r => (∀ c : Dev Cert.DsaPrepIdeal.nD,
      r.2.mem ((c.tc : Thread Cert.DsaPrepIdeal.nD Cert.DsaPrepIdeal.τ).loc Cert.DsaPrepIdeal.main_arg0) = m ((c.tc : Thread Cert.DsaPrepIdeal.nD Cert.DsaPrepIdeal.τ).loc Cert.DsaPrepIdeal.main_arg0)
      ∧ r.2.mem ((c.tc : Thread Cert.DsaPrepIdeal.nD Cert.DsaPrepIdeal.τ).loc Cert.DsaPrepIdeal.main_arg1) = m ((c.tc : Thread Cert.DsaPrepIdeal.nD Cert.DsaPrepIdeal.τ).loc Cert.DsaPrepIdeal.main_arg1)
      ∧ r.2.mem ((c.tc : Thread Cert.DsaPrepIdeal.nD Cert.DsaPrepIdeal.τ).loc Cert.DsaPrepIdeal.main_arg2) = m ((c.tc : Thread Cert.DsaPrepIdeal.nD Cert.DsaPrepIdeal.τ).loc Cert.DsaPrepIdeal.main_arg2)
      ∧ r.2.mem ((c.tc : Thread Cert.DsaPrepIdeal.nD Cert.DsaPrepIdeal.τ).loc Cert.DsaPrepIdeal.main_arg3) = m ((c.tc : Thread Cert.DsaPrepIdeal.nD Cert.DsaPrepIdeal.τ).loc Cert.DsaPrepIdeal.main_arg3)
      ∧ r.2.mem ((c.tc : Thread Cert.DsaPrepIdeal.nD Cert.DsaPrepIdeal.τ).loc Cert.DsaPrepIdeal.main_arg4) = m ((c.tc : Thread Cert.DsaPrepIdeal.nD Cert.DsaPrepIdeal.τ).loc Cert.DsaPrepIdeal.main_arg4)
      ∧ r.2.mem ((c.tc : Thread Cert.DsaPrepIdeal.nD Cert.DsaPrepIdeal.τ).loc Cert.DsaPrepIdeal.main_arg5) = m ((c.tc : Thread Cert.DsaPrepIdeal.nD Cert.DsaPrepIdeal.τ).loc Cert.DsaPrepIdeal.main_arg5))
      ∧ r.2.sem = fun _ => 0)

def quiescent_DsaPrepRefIdeal [hDsaPrepRefIdeal : Cert.DsaPrepRefIdeal.Facts] : Prop :=
  ∀ (m : (ℓ : Loc Cert.DsaPrepRefIdeal.nD Cert.DsaPrepRefIdeal.τ Cert.DsaPrepRefIdeal.sig) → Buf (Elt Ideal) ℓ) (g : Dev Cert.DsaPrepRefIdeal.nD → PrngReg), Pre_DsaPrepRefIdeal m →
    θ_run (Cert.DsaPrepRefIdeal.defs (F := Ideal)) (onTc (τ := Cert.DsaPrepRefIdeal.τ) (Cert.DsaPrepRefIdeal.main (F := Ideal))) ⟨m, fun _ => 0, g⟩ (fun r => (∀ c : Dev Cert.DsaPrepRefIdeal.nD,
      r.2.mem ((c.tc : Thread Cert.DsaPrepRefIdeal.nD Cert.DsaPrepRefIdeal.τ).loc Cert.DsaPrepRefIdeal.main_arg0) = m ((c.tc : Thread Cert.DsaPrepRefIdeal.nD Cert.DsaPrepRefIdeal.τ).loc Cert.DsaPrepRefIdeal.main_arg0)
      ∧ r.2.mem ((c.tc : Thread Cert.DsaPrepRefIdeal.nD Cert.DsaPrepRefIdeal.τ).loc Cert.DsaPrepRefIdeal.main_arg1) = m ((c.tc : Thread Cert.DsaPrepRefIdeal.nD Cert.DsaPrepRefIdeal.τ).loc Cert.DsaPrepRefIdeal.main_arg1)
      ∧ r.2.mem ((c.tc : Thread Cert.DsaPrepRefIdeal.nD Cert.DsaPrepRefIdeal.τ).loc Cert.DsaPrepRefIdeal.main_arg2) = m ((c.tc : Thread Cert.DsaPrepRefIdeal.nD Cert.DsaPrepRefIdeal.τ).loc Cert.DsaPrepRefIdeal.main_arg2)
      ∧ r.2.mem ((c.tc : Thread Cert.DsaPrepRefIdeal.nD Cert.DsaPrepRefIdeal.τ).loc Cert.DsaPrepRefIdeal.main_arg3) = m ((c.tc : Thread Cert.DsaPrepRefIdeal.nD Cert.DsaPrepRefIdeal.τ).loc Cert.DsaPrepRefIdeal.main_arg3)
      ∧ r.2.mem ((c.tc : Thread Cert.DsaPrepRefIdeal.nD Cert.DsaPrepRefIdeal.τ).loc Cert.DsaPrepRefIdeal.main_arg4) = m ((c.tc : Thread Cert.DsaPrepRefIdeal.nD Cert.DsaPrepRefIdeal.τ).loc Cert.DsaPrepRefIdeal.main_arg4)
      ∧ r.2.mem ((c.tc : Thread Cert.DsaPrepRefIdeal.nD Cert.DsaPrepRefIdeal.τ).loc Cert.DsaPrepRefIdeal.main_arg5) = m ((c.tc : Thread Cert.DsaPrepRefIdeal.nD Cert.DsaPrepRefIdeal.τ).loc Cert.DsaPrepRefIdeal.main_arg5))
      ∧ r.2.sem = fun _ => 0)

def quiescent_RwkvPrep [hRwkvPrep : Cert.RwkvPrep.Facts] : Prop :=
  ∀ (m : (ℓ : Loc Cert.RwkvPrep.nD Cert.RwkvPrep.τ Cert.RwkvPrep.sig) → Buf (Elt Bits) ℓ) (g : Dev Cert.RwkvPrep.nD → PrngReg), Pre_RwkvPrep m →
    θ_run (Cert.RwkvPrep.defs (F := Bits)) (onTc (τ := Cert.RwkvPrep.τ) (Cert.RwkvPrep.main (F := Bits))) ⟨m, fun _ => 0, g⟩ (fun r => (∀ c : Dev Cert.RwkvPrep.nD,
      r.2.mem ((c.tc : Thread Cert.RwkvPrep.nD Cert.RwkvPrep.τ).loc Cert.RwkvPrep.main_arg0) = m ((c.tc : Thread Cert.RwkvPrep.nD Cert.RwkvPrep.τ).loc Cert.RwkvPrep.main_arg0)
      ∧ r.2.mem ((c.tc : Thread Cert.RwkvPrep.nD Cert.RwkvPrep.τ).loc Cert.RwkvPrep.main_arg1) = m ((c.tc : Thread Cert.RwkvPrep.nD Cert.RwkvPrep.τ).loc Cert.RwkvPrep.main_arg1)
      ∧ r.2.mem ((c.tc : Thread Cert.RwkvPrep.nD Cert.RwkvPrep.τ).loc Cert.RwkvPrep.main_arg2) = m ((c.tc : Thread Cert.RwkvPrep.nD Cert.RwkvPrep.τ).loc Cert.RwkvPrep.main_arg2)
      ∧ r.2.mem ((c.tc : Thread Cert.RwkvPrep.nD Cert.RwkvPrep.τ).loc Cert.RwkvPrep.main_arg3) = m ((c.tc : Thread Cert.RwkvPrep.nD Cert.RwkvPrep.τ).loc Cert.RwkvPrep.main_arg3)
      ∧ r.2.mem ((c.tc : Thread Cert.RwkvPrep.nD Cert.RwkvPrep.τ).loc Cert.RwkvPrep.main_arg4) = m ((c.tc : Thread Cert.RwkvPrep.nD Cert.RwkvPrep.τ).loc Cert.RwkvPrep.main_arg4)
      ∧ r.2.mem ((c.tc : Thread Cert.RwkvPrep.nD Cert.RwkvPrep.τ).loc Cert.RwkvPrep.main_arg5) = m ((c.tc : Thread Cert.RwkvPrep.nD Cert.RwkvPrep.τ).loc Cert.RwkvPrep.main_arg5)
      ∧ r.2.mem ((c.tc : Thread Cert.RwkvPrep.nD Cert.RwkvPrep.τ).loc Cert.RwkvPrep.main_arg6) = m ((c.tc : Thread Cert.RwkvPrep.nD Cert.RwkvPrep.τ).loc Cert.RwkvPrep.main_arg6)
      ∧ r.2.mem ((c.tc : Thread Cert.RwkvPrep.nD Cert.RwkvPrep.τ).loc Cert.RwkvPrep.main_arg7) = m ((c.tc : Thread Cert.RwkvPrep.nD Cert.RwkvPrep.τ).loc Cert.RwkvPrep.main_arg7)
      ∧ r.2.mem ((c.tc : Thread Cert.RwkvPrep.nD Cert.RwkvPrep.τ).loc Cert.RwkvPrep.main_arg8) = m ((c.tc : Thread Cert.RwkvPrep.nD Cert.RwkvPrep.τ).loc Cert.RwkvPrep.main_arg8)
      ∧ r.2.mem ((c.tc : Thread Cert.RwkvPrep.nD Cert.RwkvPrep.τ).loc Cert.RwkvPrep.main_arg9) = m ((c.tc : Thread Cert.RwkvPrep.nD Cert.RwkvPrep.τ).loc Cert.RwkvPrep.main_arg9))
      ∧ r.2.sem = fun _ => 0)

def quiescent_RwkvPrepIdeal [hRwkvPrepIdeal : Cert.RwkvPrepIdeal.Facts] : Prop :=
  ∀ (m : (ℓ : Loc Cert.RwkvPrepIdeal.nD Cert.RwkvPrepIdeal.τ Cert.RwkvPrepIdeal.sig) → Buf (Elt Ideal) ℓ) (g : Dev Cert.RwkvPrepIdeal.nD → PrngReg), Pre_RwkvPrepIdeal m →
    θ_run (Cert.RwkvPrepIdeal.defs (F := Ideal)) (onTc (τ := Cert.RwkvPrepIdeal.τ) (Cert.RwkvPrepIdeal.main (F := Ideal))) ⟨m, fun _ => 0, g⟩ (fun r => (∀ c : Dev Cert.RwkvPrepIdeal.nD,
      r.2.mem ((c.tc : Thread Cert.RwkvPrepIdeal.nD Cert.RwkvPrepIdeal.τ).loc Cert.RwkvPrepIdeal.main_arg0) = m ((c.tc : Thread Cert.RwkvPrepIdeal.nD Cert.RwkvPrepIdeal.τ).loc Cert.RwkvPrepIdeal.main_arg0)
      ∧ r.2.mem ((c.tc : Thread Cert.RwkvPrepIdeal.nD Cert.RwkvPrepIdeal.τ).loc Cert.RwkvPrepIdeal.main_arg1) = m ((c.tc : Thread Cert.RwkvPrepIdeal.nD Cert.RwkvPrepIdeal.τ).loc Cert.RwkvPrepIdeal.main_arg1)
      ∧ r.2.mem ((c.tc : Thread Cert.RwkvPrepIdeal.nD Cert.RwkvPrepIdeal.τ).loc Cert.RwkvPrepIdeal.main_arg2) = m ((c.tc : Thread Cert.RwkvPrepIdeal.nD Cert.RwkvPrepIdeal.τ).loc Cert.RwkvPrepIdeal.main_arg2)
      ∧ r.2.mem ((c.tc : Thread Cert.RwkvPrepIdeal.nD Cert.RwkvPrepIdeal.τ).loc Cert.RwkvPrepIdeal.main_arg3) = m ((c.tc : Thread Cert.RwkvPrepIdeal.nD Cert.RwkvPrepIdeal.τ).loc Cert.RwkvPrepIdeal.main_arg3)
      ∧ r.2.mem ((c.tc : Thread Cert.RwkvPrepIdeal.nD Cert.RwkvPrepIdeal.τ).loc Cert.RwkvPrepIdeal.main_arg4) = m ((c.tc : Thread Cert.RwkvPrepIdeal.nD Cert.RwkvPrepIdeal.τ).loc Cert.RwkvPrepIdeal.main_arg4)
      ∧ r.2.mem ((c.tc : Thread Cert.RwkvPrepIdeal.nD Cert.RwkvPrepIdeal.τ).loc Cert.RwkvPrepIdeal.main_arg5) = m ((c.tc : Thread Cert.RwkvPrepIdeal.nD Cert.RwkvPrepIdeal.τ).loc Cert.RwkvPrepIdeal.main_arg5)
      ∧ r.2.mem ((c.tc : Thread Cert.RwkvPrepIdeal.nD Cert.RwkvPrepIdeal.τ).loc Cert.RwkvPrepIdeal.main_arg6) = m ((c.tc : Thread Cert.RwkvPrepIdeal.nD Cert.RwkvPrepIdeal.τ).loc Cert.RwkvPrepIdeal.main_arg6)
      ∧ r.2.mem ((c.tc : Thread Cert.RwkvPrepIdeal.nD Cert.RwkvPrepIdeal.τ).loc Cert.RwkvPrepIdeal.main_arg7) = m ((c.tc : Thread Cert.RwkvPrepIdeal.nD Cert.RwkvPrepIdeal.τ).loc Cert.RwkvPrepIdeal.main_arg7)
      ∧ r.2.mem ((c.tc : Thread Cert.RwkvPrepIdeal.nD Cert.RwkvPrepIdeal.τ).loc Cert.RwkvPrepIdeal.main_arg8) = m ((c.tc : Thread Cert.RwkvPrepIdeal.nD Cert.RwkvPrepIdeal.τ).loc Cert.RwkvPrepIdeal.main_arg8)
      ∧ r.2.mem ((c.tc : Thread Cert.RwkvPrepIdeal.nD Cert.RwkvPrepIdeal.τ).loc Cert.RwkvPrepIdeal.main_arg9) = m ((c.tc : Thread Cert.RwkvPrepIdeal.nD Cert.RwkvPrepIdeal.τ).loc Cert.RwkvPrepIdeal.main_arg9))
      ∧ r.2.sem = fun _ => 0)

def quiescent_RwkvPrepIdeal_pre_finite_keys [hRwkvPrepIdeal : Cert.RwkvPrepIdeal.Facts] [hPre_finite_keys : Cert.Pre_finite_keys.Facts] : Prop :=
  ∀ (m : (ℓ : Loc Cert.RwkvPrepIdeal.nD Cert.RwkvPrepIdeal.τ Cert.RwkvPrepIdeal.sig) → Buf (Elt Ideal) ℓ) (g : Dev Cert.RwkvPrepIdeal.nD → PrngReg), Pre_RwkvPrepIdeal_finite_keys m →
    θ_run (Cert.RwkvPrepIdeal.defs (F := Ideal)) (onTc (τ := Cert.RwkvPrepIdeal.τ) (Cert.RwkvPrepIdeal.main (F := Ideal))) ⟨m, fun _ => 0, g⟩ (fun r => (∀ c : Dev Cert.RwkvPrepIdeal.nD,
      r.2.mem ((c.tc : Thread Cert.RwkvPrepIdeal.nD Cert.RwkvPrepIdeal.τ).loc Cert.RwkvPrepIdeal.main_arg0) = m ((c.tc : Thread Cert.RwkvPrepIdeal.nD Cert.RwkvPrepIdeal.τ).loc Cert.RwkvPrepIdeal.main_arg0)
      ∧ r.2.mem ((c.tc : Thread Cert.RwkvPrepIdeal.nD Cert.RwkvPrepIdeal.τ).loc Cert.RwkvPrepIdeal.main_arg1) = m ((c.tc : Thread Cert.RwkvPrepIdeal.nD Cert.RwkvPrepIdeal.τ).loc Cert.RwkvPrepIdeal.main_arg1)
      ∧ r.2.mem ((c.tc : Thread Cert.RwkvPrepIdeal.nD Cert.RwkvPrepIdeal.τ).loc Cert.RwkvPrepIdeal.main_arg2) = m ((c.tc : Thread Cert.RwkvPrepIdeal.nD Cert.RwkvPrepIdeal.τ).loc Cert.RwkvPrepIdeal.main_arg2)
      ∧ r.2.mem ((c.tc : Thread Cert.RwkvPrepIdeal.nD Cert.RwkvPrepIdeal.τ).loc Cert.RwkvPrepIdeal.main_arg3) = m ((c.tc : Thread Cert.RwkvPrepIdeal.nD Cert.RwkvPrepIdeal.τ).loc Cert.RwkvPrepIdeal.main_arg3)
      ∧ r.2.mem ((c.tc : Thread Cert.RwkvPrepIdeal.nD Cert.RwkvPrepIdeal.τ).loc Cert.RwkvPrepIdeal.main_arg4) = m ((c.tc : Thread Cert.RwkvPrepIdeal.nD Cert.RwkvPrepIdeal.τ).loc Cert.RwkvPrepIdeal.main_arg4)
      ∧ r.2.mem ((c.tc : Thread Cert.RwkvPrepIdeal.nD Cert.RwkvPrepIdeal.τ).loc Cert.RwkvPrepIdeal.main_arg5) = m ((c.tc : Thread Cert.RwkvPrepIdeal.nD Cert.RwkvPrepIdeal.τ).loc Cert.RwkvPrepIdeal.main_arg5)
      ∧ r.2.mem ((c.tc : Thread Cert.RwkvPrepIdeal.nD Cert.RwkvPrepIdeal.τ).loc Cert.RwkvPrepIdeal.main_arg6) = m ((c.tc : Thread Cert.RwkvPrepIdeal.nD Cert.RwkvPrepIdeal.τ).loc Cert.RwkvPrepIdeal.main_arg6)
      ∧ r.2.mem ((c.tc : Thread Cert.RwkvPrepIdeal.nD Cert.RwkvPrepIdeal.τ).loc Cert.RwkvPrepIdeal.main_arg7) = m ((c.tc : Thread Cert.RwkvPrepIdeal.nD Cert.RwkvPrepIdeal.τ).loc Cert.RwkvPrepIdeal.main_arg7)
      ∧ r.2.mem ((c.tc : Thread Cert.RwkvPrepIdeal.nD Cert.RwkvPrepIdeal.τ).loc Cert.RwkvPrepIdeal.main_arg8) = m ((c.tc : Thread Cert.RwkvPrepIdeal.nD Cert.RwkvPrepIdeal.τ).loc Cert.RwkvPrepIdeal.main_arg8)
      ∧ r.2.mem ((c.tc : Thread Cert.RwkvPrepIdeal.nD Cert.RwkvPrepIdeal.τ).loc Cert.RwkvPrepIdeal.main_arg9) = m ((c.tc : Thread Cert.RwkvPrepIdeal.nD Cert.RwkvPrepIdeal.τ).loc Cert.RwkvPrepIdeal.main_arg9))
      ∧ r.2.sem = fun _ => 0)

def quiescent_RwkvPrepRefIdeal [hRwkvPrepRefIdeal : Cert.RwkvPrepRefIdeal.Facts] : Prop :=
  ∀ (m : (ℓ : Loc Cert.RwkvPrepRefIdeal.nD Cert.RwkvPrepRefIdeal.τ Cert.RwkvPrepRefIdeal.sig) → Buf (Elt Ideal) ℓ) (g : Dev Cert.RwkvPrepRefIdeal.nD → PrngReg), Pre_RwkvPrepRefIdeal m →
    θ_run (Cert.RwkvPrepRefIdeal.defs (F := Ideal)) (onTc (τ := Cert.RwkvPrepRefIdeal.τ) (Cert.RwkvPrepRefIdeal.main (F := Ideal))) ⟨m, fun _ => 0, g⟩ (fun r => (∀ c : Dev Cert.RwkvPrepRefIdeal.nD,
      r.2.mem ((c.tc : Thread Cert.RwkvPrepRefIdeal.nD Cert.RwkvPrepRefIdeal.τ).loc Cert.RwkvPrepRefIdeal.main_arg0) = m ((c.tc : Thread Cert.RwkvPrepRefIdeal.nD Cert.RwkvPrepRefIdeal.τ).loc Cert.RwkvPrepRefIdeal.main_arg0)
      ∧ r.2.mem ((c.tc : Thread Cert.RwkvPrepRefIdeal.nD Cert.RwkvPrepRefIdeal.τ).loc Cert.RwkvPrepRefIdeal.main_arg1) = m ((c.tc : Thread Cert.RwkvPrepRefIdeal.nD Cert.RwkvPrepRefIdeal.τ).loc Cert.RwkvPrepRefIdeal.main_arg1)
      ∧ r.2.mem ((c.tc : Thread Cert.RwkvPrepRefIdeal.nD Cert.RwkvPrepRefIdeal.τ).loc Cert.RwkvPrepRefIdeal.main_arg2) = m ((c.tc : Thread Cert.RwkvPrepRefIdeal.nD Cert.RwkvPrepRefIdeal.τ).loc Cert.RwkvPrepRefIdeal.main_arg2)
      ∧ r.2.mem ((c.tc : Thread Cert.RwkvPrepRefIdeal.nD Cert.RwkvPrepRefIdeal.τ).loc Cert.RwkvPrepRefIdeal.main_arg3) = m ((c.tc : Thread Cert.RwkvPrepRefIdeal.nD Cert.RwkvPrepRefIdeal.τ).loc Cert.RwkvPrepRefIdeal.main_arg3)
      ∧ r.2.mem ((c.tc : Thread Cert.RwkvPrepRefIdeal.nD Cert.RwkvPrepRefIdeal.τ).loc Cert.RwkvPrepRefIdeal.main_arg4) = m ((c.tc : Thread Cert.RwkvPrepRefIdeal.nD Cert.RwkvPrepRefIdeal.τ).loc Cert.RwkvPrepRefIdeal.main_arg4)
      ∧ r.2.mem ((c.tc : Thread Cert.RwkvPrepRefIdeal.nD Cert.RwkvPrepRefIdeal.τ).loc Cert.RwkvPrepRefIdeal.main_arg5) = m ((c.tc : Thread Cert.RwkvPrepRefIdeal.nD Cert.RwkvPrepRefIdeal.τ).loc Cert.RwkvPrepRefIdeal.main_arg5)
      ∧ r.2.mem ((c.tc : Thread Cert.RwkvPrepRefIdeal.nD Cert.RwkvPrepRefIdeal.τ).loc Cert.RwkvPrepRefIdeal.main_arg6) = m ((c.tc : Thread Cert.RwkvPrepRefIdeal.nD Cert.RwkvPrepRefIdeal.τ).loc Cert.RwkvPrepRefIdeal.main_arg6)
      ∧ r.2.mem ((c.tc : Thread Cert.RwkvPrepRefIdeal.nD Cert.RwkvPrepRefIdeal.τ).loc Cert.RwkvPrepRefIdeal.main_arg7) = m ((c.tc : Thread Cert.RwkvPrepRefIdeal.nD Cert.RwkvPrepRefIdeal.τ).loc Cert.RwkvPrepRefIdeal.main_arg7)
      ∧ r.2.mem ((c.tc : Thread Cert.RwkvPrepRefIdeal.nD Cert.RwkvPrepRefIdeal.τ).loc Cert.RwkvPrepRefIdeal.main_arg8) = m ((c.tc : Thread Cert.RwkvPrepRefIdeal.nD Cert.RwkvPrepRefIdeal.τ).loc Cert.RwkvPrepRefIdeal.main_arg8)
      ∧ r.2.mem ((c.tc : Thread Cert.RwkvPrepRefIdeal.nD Cert.RwkvPrepRefIdeal.τ).loc Cert.RwkvPrepRefIdeal.main_arg9) = m ((c.tc : Thread Cert.RwkvPrepRefIdeal.nD Cert.RwkvPrepRefIdeal.τ).loc Cert.RwkvPrepRefIdeal.main_arg9))
      ∧ r.2.sem = fun _ => 0)

def quiescent_RwkvPrepRefIdeal_pre_finite_keys [hRwkvPrepRefIdeal : Cert.RwkvPrepRefIdeal.Facts] [hPre_finite_keys : Cert.Pre_finite_keys.Facts] : Prop :=
  ∀ (m : (ℓ : Loc Cert.RwkvPrepRefIdeal.nD Cert.RwkvPrepRefIdeal.τ Cert.RwkvPrepRefIdeal.sig) → Buf (Elt Ideal) ℓ) (g : Dev Cert.RwkvPrepRefIdeal.nD → PrngReg), Pre_RwkvPrepRefIdeal_finite_keys m →
    θ_run (Cert.RwkvPrepRefIdeal.defs (F := Ideal)) (onTc (τ := Cert.RwkvPrepRefIdeal.τ) (Cert.RwkvPrepRefIdeal.main (F := Ideal))) ⟨m, fun _ => 0, g⟩ (fun r => (∀ c : Dev Cert.RwkvPrepRefIdeal.nD,
      r.2.mem ((c.tc : Thread Cert.RwkvPrepRefIdeal.nD Cert.RwkvPrepRefIdeal.τ).loc Cert.RwkvPrepRefIdeal.main_arg0) = m ((c.tc : Thread Cert.RwkvPrepRefIdeal.nD Cert.RwkvPrepRefIdeal.τ).loc Cert.RwkvPrepRefIdeal.main_arg0)
      ∧ r.2.mem ((c.tc : Thread Cert.RwkvPrepRefIdeal.nD Cert.RwkvPrepRefIdeal.τ).loc Cert.RwkvPrepRefIdeal.main_arg1) = m ((c.tc : Thread Cert.RwkvPrepRefIdeal.nD Cert.RwkvPrepRefIdeal.τ).loc Cert.RwkvPrepRefIdeal.main_arg1)
      ∧ r.2.mem ((c.tc : Thread Cert.RwkvPrepRefIdeal.nD Cert.RwkvPrepRefIdeal.τ).loc Cert.RwkvPrepRefIdeal.main_arg2) = m ((c.tc : Thread Cert.RwkvPrepRefIdeal.nD Cert.RwkvPrepRefIdeal.τ).loc Cert.RwkvPrepRefIdeal.main_arg2)
      ∧ r.2.mem ((c.tc : Thread Cert.RwkvPrepRefIdeal.nD Cert.RwkvPrepRefIdeal.τ).loc Cert.RwkvPrepRefIdeal.main_arg3) = m ((c.tc : Thread Cert.RwkvPrepRefIdeal.nD Cert.RwkvPrepRefIdeal.τ).loc Cert.RwkvPrepRefIdeal.main_arg3)
      ∧ r.2.mem ((c.tc : Thread Cert.RwkvPrepRefIdeal.nD Cert.RwkvPrepRefIdeal.τ).loc Cert.RwkvPrepRefIdeal.main_arg4) = m ((c.tc : Thread Cert.RwkvPrepRefIdeal.nD Cert.RwkvPrepRefIdeal.τ).loc Cert.RwkvPrepRefIdeal.main_arg4)
      ∧ r.2.mem ((c.tc : Thread Cert.RwkvPrepRefIdeal.nD Cert.RwkvPrepRefIdeal.τ).loc Cert.RwkvPrepRefIdeal.main_arg5) = m ((c.tc : Thread Cert.RwkvPrepRefIdeal.nD Cert.RwkvPrepRefIdeal.τ).loc Cert.RwkvPrepRefIdeal.main_arg5)
      ∧ r.2.mem ((c.tc : Thread Cert.RwkvPrepRefIdeal.nD Cert.RwkvPrepRefIdeal.τ).loc Cert.RwkvPrepRefIdeal.main_arg6) = m ((c.tc : Thread Cert.RwkvPrepRefIdeal.nD Cert.RwkvPrepRefIdeal.τ).loc Cert.RwkvPrepRefIdeal.main_arg6)
      ∧ r.2.mem ((c.tc : Thread Cert.RwkvPrepRefIdeal.nD Cert.RwkvPrepRefIdeal.τ).loc Cert.RwkvPrepRefIdeal.main_arg7) = m ((c.tc : Thread Cert.RwkvPrepRefIdeal.nD Cert.RwkvPrepRefIdeal.τ).loc Cert.RwkvPrepRefIdeal.main_arg7)
      ∧ r.2.mem ((c.tc : Thread Cert.RwkvPrepRefIdeal.nD Cert.RwkvPrepRefIdeal.τ).loc Cert.RwkvPrepRefIdeal.main_arg8) = m ((c.tc : Thread Cert.RwkvPrepRefIdeal.nD Cert.RwkvPrepRefIdeal.τ).loc Cert.RwkvPrepRefIdeal.main_arg8)
      ∧ r.2.mem ((c.tc : Thread Cert.RwkvPrepRefIdeal.nD Cert.RwkvPrepRefIdeal.τ).loc Cert.RwkvPrepRefIdeal.main_arg9) = m ((c.tc : Thread Cert.RwkvPrepRefIdeal.nD Cert.RwkvPrepRefIdeal.τ).loc Cert.RwkvPrepRefIdeal.main_arg9))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_v54) = v1 c
          ∧ r.2.mem ((c.tc : Thread Cert.MergeRefIdeal.nD Cert.MergeRefIdeal.τ).loc Cert.MergeRefIdeal.main_v56) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_InDsa_InDsaIdeal : Prop :=
  True

def algebraic_InDsaIdeal_InDsaRefIdeal [hInDsaIdeal : Cert.InDsaIdeal.Facts] [hInDsaRefIdeal : Cert.InDsaRefIdeal.Facts] : Prop :=
  ∀ (m : (ℓ : Loc Cert.InDsaIdeal.nD Cert.InDsaIdeal.τ Cert.InDsaIdeal.sig) → Buf (Elt Ideal) ℓ) (g : Dev Cert.InDsaIdeal.nD → PrngReg)
    (m' : (ℓ : Loc Cert.InDsaRefIdeal.nD Cert.InDsaRefIdeal.τ Cert.InDsaRefIdeal.sig) → Buf (Elt Ideal) ℓ) (g' : Dev Cert.InDsaRefIdeal.nD → PrngReg), Pre_InDsaIdeal m →
    (∀ c : Dev Cert.InDsaIdeal.nD,
      m' ((c.tc : Thread Cert.InDsaRefIdeal.nD Cert.InDsaRefIdeal.τ).loc Cert.InDsaRefIdeal.main_arg0) = m ((c.tc : Thread Cert.InDsaIdeal.nD Cert.InDsaIdeal.τ).loc Cert.InDsaIdeal.main_arg0)
      ∧ m' ((c.tc : Thread Cert.InDsaRefIdeal.nD Cert.InDsaRefIdeal.τ).loc Cert.InDsaRefIdeal.main_arg1) = m ((c.tc : Thread Cert.InDsaIdeal.nD Cert.InDsaIdeal.τ).loc Cert.InDsaIdeal.main_arg1)) →
    ∃ (v0 : (c : Dev Cert.InDsaIdeal.nD) → Buf (Elt Ideal) ((c.tc : Thread Cert.InDsaIdeal.nD Cert.InDsaIdeal.τ).loc Cert.InDsaIdeal.main_v4)),
      θ_run (Cert.InDsaIdeal.defs (F := Ideal)) (onTc (τ := Cert.InDsaIdeal.τ) (Cert.InDsaIdeal.main (F := Ideal))) ⟨m, fun _ => 0, g⟩ (fun r => ∀ c : Dev Cert.InDsaIdeal.nD,
          r.2.mem ((c.tc : Thread Cert.InDsaIdeal.nD Cert.InDsaIdeal.τ).loc Cert.InDsaIdeal.main_v4) = v0 c
          ∧ r.2.mem ((c.tc : Thread Cert.InDsaIdeal.nD Cert.InDsaIdeal.τ).loc Cert.InDsaIdeal.main_arg0) = m ((c.tc : Thread Cert.InDsaIdeal.nD Cert.InDsaIdeal.τ).loc Cert.InDsaIdeal.main_arg0)
          ∧ r.2.mem ((c.tc : Thread Cert.InDsaIdeal.nD Cert.InDsaIdeal.τ).loc Cert.InDsaIdeal.main_arg1) = m ((c.tc : Thread Cert.InDsaIdeal.nD Cert.InDsaIdeal.τ).loc Cert.InDsaIdeal.main_arg1))
      ∧ θ_run (Cert.InDsaRefIdeal.defs (F := Ideal)) (onTc (τ := Cert.InDsaRefIdeal.τ) (Cert.InDsaRefIdeal.main (F := Ideal))) ⟨m', fun _ => 0, g'⟩ (fun r => ∀ c : Dev Cert.InDsaRefIdeal.nD,
          r.2.mem ((c.tc : Thread Cert.InDsaRefIdeal.nD Cert.InDsaRefIdeal.τ).loc Cert.InDsaRefIdeal.main_v2) = v0 c
          ∧ r.2.mem ((c.tc : Thread Cert.InDsaRefIdeal.nD Cert.InDsaRefIdeal.τ).loc Cert.InDsaRefIdeal.main_arg0) = m' ((c.tc : Thread Cert.InDsaRefIdeal.nD Cert.InDsaRefIdeal.τ).loc Cert.InDsaRefIdeal.main_arg0)
          ∧ r.2.mem ((c.tc : Thread Cert.InDsaRefIdeal.nD Cert.InDsaRefIdeal.τ).loc Cert.InDsaRefIdeal.main_arg1) = m' ((c.tc : Thread Cert.InDsaRefIdeal.nD Cert.InDsaRefIdeal.τ).loc Cert.InDsaRefIdeal.main_arg1))

def preserves_InRwkv_InRwkvIdeal : Prop :=
  True

def algebraic_InRwkvIdeal_InRwkvRefIdeal [hInRwkvIdeal : Cert.InRwkvIdeal.Facts] [hInRwkvRefIdeal : Cert.InRwkvRefIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg)
    (m' : (ℓ : Loc Cert.InRwkvRefIdeal.nD Cert.InRwkvRefIdeal.τ Cert.InRwkvRefIdeal.sig) → Buf (Elt Ideal) ℓ) (g' : Dev Cert.InRwkvRefIdeal.nD → PrngReg), Pre_InRwkvIdeal m →
    (∀ c : Dev Cert.InRwkvIdeal.nD,
      m' ((c.tc : Thread Cert.InRwkvRefIdeal.nD Cert.InRwkvRefIdeal.τ).loc Cert.InRwkvRefIdeal.main_arg0) = m ((c.tc : Thread Cert.InRwkvIdeal.nD Cert.InRwkvIdeal.τ).loc Cert.InRwkvIdeal.main_arg0)
      ∧ m' ((c.tc : Thread Cert.InRwkvRefIdeal.nD Cert.InRwkvRefIdeal.τ).loc Cert.InRwkvRefIdeal.main_arg1) = m ((c.tc : Thread Cert.InRwkvIdeal.nD Cert.InRwkvIdeal.τ).loc Cert.InRwkvIdeal.main_arg1)) →
    ∃ (v0 : (c : Dev Cert.InRwkvIdeal.nD) → Buf (Elt Ideal) ((c.tc : Thread Cert.InRwkvIdeal.nD Cert.InRwkvIdeal.τ).loc Cert.InRwkvIdeal.main_v4)),
      θ_run (Cert.InRwkvIdeal.defs (F := Ideal)) (onTc (τ := Cert.InRwkvIdeal.τ) (Cert.InRwkvIdeal.main (F := Ideal))) ⟨m, fun _ => 0, g⟩ (fun r => ∀ c : Dev Cert.InRwkvIdeal.nD,
          r.2.mem ((c.tc : Thread Cert.InRwkvIdeal.nD Cert.InRwkvIdeal.τ).loc Cert.InRwkvIdeal.main_v4) = v0 c
          ∧ r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
          ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ θ_run (Cert.InRwkvRefIdeal.defs (F := Ideal)) (onTc (τ := Cert.InRwkvRefIdeal.τ) (Cert.InRwkvRefIdeal.main (F := Ideal))) ⟨m', fun _ => 0, g'⟩ (fun r => ∀ c : Dev Cert.InRwkvRefIdeal.nD,
          r.2.mem ((c.tc : Thread Cert.InRwkvRefIdeal.nD Cert.InRwkvRefIdeal.τ).loc Cert.InRwkvRefIdeal.main_v2) = v0 c
          ∧ r.2.mem ((c.tc : Thread Cert.InRwkvRefIdeal.nD Cert.InRwkvRefIdeal.τ).loc Cert.InRwkvRefIdeal.main_arg0) = m' ((c.tc : Thread Cert.InRwkvRefIdeal.nD Cert.InRwkvRefIdeal.τ).loc Cert.InRwkvRefIdeal.main_arg0)
          ∧ r.2.mem ((c.tc : Thread Cert.InRwkvRefIdeal.nD Cert.InRwkvRefIdeal.τ).loc Cert.InRwkvRefIdeal.main_arg1) = m' ((c.tc : Thread Cert.InRwkvRefIdeal.nD Cert.InRwkvRefIdeal.τ).loc Cert.InRwkvRefIdeal.main_arg1))

def preserves_InMem_InMemIdeal : Prop :=
  True

def algebraic_InMemIdeal_InMemRefIdeal [hInMemIdeal : Cert.InMemIdeal.Facts] [hInMemRefIdeal : Cert.InMemRefIdeal.Facts] : Prop :=
  ∀ (m : (ℓ : Loc Cert.InMemIdeal.nD Cert.InMemIdeal.τ Cert.InMemIdeal.sig) → Buf (Elt Ideal) ℓ) (g : Dev Cert.InMemIdeal.nD → PrngReg)
    (m' : (ℓ : Loc Cert.InMemRefIdeal.nD Cert.InMemRefIdeal.τ Cert.InMemRefIdeal.sig) → Buf (Elt Ideal) ℓ) (g' : Dev Cert.InMemRefIdeal.nD → PrngReg), Pre_InMemIdeal m →
    (∀ c : Dev Cert.InMemIdeal.nD,
      m' ((c.tc : Thread Cert.InMemRefIdeal.nD Cert.InMemRefIdeal.τ).loc Cert.InMemRefIdeal.main_arg0) = m ((c.tc : Thread Cert.InMemIdeal.nD Cert.InMemIdeal.τ).loc Cert.InMemIdeal.main_arg0)
      ∧ m' ((c.tc : Thread Cert.InMemRefIdeal.nD Cert.InMemRefIdeal.τ).loc Cert.InMemRefIdeal.main_arg1) = m ((c.tc : Thread Cert.InMemIdeal.nD Cert.InMemIdeal.τ).loc Cert.InMemIdeal.main_arg1)) →
    ∃ (v0 : (c : Dev Cert.InMemIdeal.nD) → Buf (Elt Ideal) ((c.tc : Thread Cert.InMemIdeal.nD Cert.InMemIdeal.τ).loc Cert.InMemIdeal.main_v4)),
      θ_run (Cert.InMemIdeal.defs (F := Ideal)) (onTc (τ := Cert.InMemIdeal.τ) (Cert.InMemIdeal.main (F := Ideal))) ⟨m, fun _ => 0, g⟩ (fun r => ∀ c : Dev Cert.InMemIdeal.nD,
          r.2.mem ((c.tc : Thread Cert.InMemIdeal.nD Cert.InMemIdeal.τ).loc Cert.InMemIdeal.main_v4) = v0 c
          ∧ r.2.mem ((c.tc : Thread Cert.InMemIdeal.nD Cert.InMemIdeal.τ).loc Cert.InMemIdeal.main_arg0) = m ((c.tc : Thread Cert.InMemIdeal.nD Cert.InMemIdeal.τ).loc Cert.InMemIdeal.main_arg0)
          ∧ r.2.mem ((c.tc : Thread Cert.InMemIdeal.nD Cert.InMemIdeal.τ).loc Cert.InMemIdeal.main_arg1) = m ((c.tc : Thread Cert.InMemIdeal.nD Cert.InMemIdeal.τ).loc Cert.InMemIdeal.main_arg1))
      ∧ θ_run (Cert.InMemRefIdeal.defs (F := Ideal)) (onTc (τ := Cert.InMemRefIdeal.τ) (Cert.InMemRefIdeal.main (F := Ideal))) ⟨m', fun _ => 0, g'⟩ (fun r => ∀ c : Dev Cert.InMemRefIdeal.nD,
          r.2.mem ((c.tc : Thread Cert.InMemRefIdeal.nD Cert.InMemRefIdeal.τ).loc Cert.InMemRefIdeal.main_v3) = v0 c
          ∧ r.2.mem ((c.tc : Thread Cert.InMemRefIdeal.nD Cert.InMemRefIdeal.τ).loc Cert.InMemRefIdeal.main_arg0) = m' ((c.tc : Thread Cert.InMemRefIdeal.nD Cert.InMemRefIdeal.τ).loc Cert.InMemRefIdeal.main_arg0)
          ∧ r.2.mem ((c.tc : Thread Cert.InMemRefIdeal.nD Cert.InMemRefIdeal.τ).loc Cert.InMemRefIdeal.main_arg1) = m' ((c.tc : Thread Cert.InMemRefIdeal.nD Cert.InMemRefIdeal.τ).loc Cert.InMemRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v25) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v52) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_DsaPrep_DsaPrepIdeal : Prop :=
  True

def algebraic_DsaPrepIdeal_DsaPrepRefIdeal [hDsaPrepIdeal : Cert.DsaPrepIdeal.Facts] [hDsaPrepRefIdeal : Cert.DsaPrepRefIdeal.Facts] : Prop :=
  ∀ (m : (ℓ : Loc Cert.DsaPrepIdeal.nD Cert.DsaPrepIdeal.τ Cert.DsaPrepIdeal.sig) → Buf (Elt Ideal) ℓ) (g : Dev Cert.DsaPrepIdeal.nD → PrngReg)
    (m' : (ℓ : Loc Cert.DsaPrepRefIdeal.nD Cert.DsaPrepRefIdeal.τ Cert.DsaPrepRefIdeal.sig) → Buf (Elt Ideal) ℓ) (g' : Dev Cert.DsaPrepRefIdeal.nD → PrngReg), Pre_DsaPrepIdeal m →
    (∀ c : Dev Cert.DsaPrepIdeal.nD,
      m' ((c.tc : Thread Cert.DsaPrepRefIdeal.nD Cert.DsaPrepRefIdeal.τ).loc Cert.DsaPrepRefIdeal.main_arg0) = m ((c.tc : Thread Cert.DsaPrepIdeal.nD Cert.DsaPrepIdeal.τ).loc Cert.DsaPrepIdeal.main_arg0)
      ∧ m' ((c.tc : Thread Cert.DsaPrepRefIdeal.nD Cert.DsaPrepRefIdeal.τ).loc Cert.DsaPrepRefIdeal.main_arg1) = m ((c.tc : Thread Cert.DsaPrepIdeal.nD Cert.DsaPrepIdeal.τ).loc Cert.DsaPrepIdeal.main_arg1)
      ∧ m' ((c.tc : Thread Cert.DsaPrepRefIdeal.nD Cert.DsaPrepRefIdeal.τ).loc Cert.DsaPrepRefIdeal.main_arg2) = m ((c.tc : Thread Cert.DsaPrepIdeal.nD Cert.DsaPrepIdeal.τ).loc Cert.DsaPrepIdeal.main_arg2)
      ∧ m' ((c.tc : Thread Cert.DsaPrepRefIdeal.nD Cert.DsaPrepRefIdeal.τ).loc Cert.DsaPrepRefIdeal.main_arg3) = m ((c.tc : Thread Cert.DsaPrepIdeal.nD Cert.DsaPrepIdeal.τ).loc Cert.DsaPrepIdeal.main_arg3)
      ∧ m' ((c.tc : Thread Cert.DsaPrepRefIdeal.nD Cert.DsaPrepRefIdeal.τ).loc Cert.DsaPrepRefIdeal.main_arg4) = m ((c.tc : Thread Cert.DsaPrepIdeal.nD Cert.DsaPrepIdeal.τ).loc Cert.DsaPrepIdeal.main_arg4)
      ∧ m' ((c.tc : Thread Cert.DsaPrepRefIdeal.nD Cert.DsaPrepRefIdeal.τ).loc Cert.DsaPrepRefIdeal.main_arg5) = m ((c.tc : Thread Cert.DsaPrepIdeal.nD Cert.DsaPrepIdeal.τ).loc Cert.DsaPrepIdeal.main_arg5)) →
    ∃ (v0 : (c : Dev Cert.DsaPrepIdeal.nD) → Buf (Elt Ideal) ((c.tc : Thread Cert.DsaPrepIdeal.nD Cert.DsaPrepIdeal.τ).loc Cert.DsaPrepIdeal.main_v10_0)) (v1 : (c : Dev Cert.DsaPrepIdeal.nD) → Buf (Elt Ideal) ((c.tc : Thread Cert.DsaPrepIdeal.nD Cert.DsaPrepIdeal.τ).loc Cert.DsaPrepIdeal.main_v10_1)) (v2 : (c : Dev Cert.DsaPrepIdeal.nD) → Buf (Elt Ideal) ((c.tc : Thread Cert.DsaPrepIdeal.nD Cert.DsaPrepIdeal.τ).loc Cert.DsaPrepIdeal.main_v10_2)) (v3 : (c : Dev Cert.DsaPrepIdeal.nD) → Buf (Elt Ideal) ((c.tc : Thread Cert.DsaPrepIdeal.nD Cert.DsaPrepIdeal.τ).loc Cert.DsaPrepIdeal.main_v10_3)) (v4 : (c : Dev Cert.DsaPrepIdeal.nD) → Buf (Elt Ideal) ((c.tc : Thread Cert.DsaPrepIdeal.nD Cert.DsaPrepIdeal.τ).loc Cert.DsaPrepIdeal.main_v10_4)),
      θ_run (Cert.DsaPrepIdeal.defs (F := Ideal)) (onTc (τ := Cert.DsaPrepIdeal.τ) (Cert.DsaPrepIdeal.main (F := Ideal))) ⟨m, fun _ => 0, g⟩ (fun r => ∀ c : Dev Cert.DsaPrepIdeal.nD,
          r.2.mem ((c.tc : Thread Cert.DsaPrepIdeal.nD Cert.DsaPrepIdeal.τ).loc Cert.DsaPrepIdeal.main_v10_0) = v0 c
          ∧ r.2.mem ((c.tc : Thread Cert.DsaPrepIdeal.nD Cert.DsaPrepIdeal.τ).loc Cert.DsaPrepIdeal.main_v10_1) = v1 c
          ∧ r.2.mem ((c.tc : Thread Cert.DsaPrepIdeal.nD Cert.DsaPrepIdeal.τ).loc Cert.DsaPrepIdeal.main_v10_2) = v2 c
          ∧ r.2.mem ((c.tc : Thread Cert.DsaPrepIdeal.nD Cert.DsaPrepIdeal.τ).loc Cert.DsaPrepIdeal.main_v10_3) = v3 c
          ∧ r.2.mem ((c.tc : Thread Cert.DsaPrepIdeal.nD Cert.DsaPrepIdeal.τ).loc Cert.DsaPrepIdeal.main_v10_4) = v4 c
          ∧ r.2.mem ((c.tc : Thread Cert.DsaPrepIdeal.nD Cert.DsaPrepIdeal.τ).loc Cert.DsaPrepIdeal.main_arg0) = m ((c.tc : Thread Cert.DsaPrepIdeal.nD Cert.DsaPrepIdeal.τ).loc Cert.DsaPrepIdeal.main_arg0)
          ∧ r.2.mem ((c.tc : Thread Cert.DsaPrepIdeal.nD Cert.DsaPrepIdeal.τ).loc Cert.DsaPrepIdeal.main_arg1) = m ((c.tc : Thread Cert.DsaPrepIdeal.nD Cert.DsaPrepIdeal.τ).loc Cert.DsaPrepIdeal.main_arg1)
          ∧ r.2.mem ((c.tc : Thread Cert.DsaPrepIdeal.nD Cert.DsaPrepIdeal.τ).loc Cert.DsaPrepIdeal.main_arg2) = m ((c.tc : Thread Cert.DsaPrepIdeal.nD Cert.DsaPrepIdeal.τ).loc Cert.DsaPrepIdeal.main_arg2)
          ∧ r.2.mem ((c.tc : Thread Cert.DsaPrepIdeal.nD Cert.DsaPrepIdeal.τ).loc Cert.DsaPrepIdeal.main_arg3) = m ((c.tc : Thread Cert.DsaPrepIdeal.nD Cert.DsaPrepIdeal.τ).loc Cert.DsaPrepIdeal.main_arg3)
          ∧ r.2.mem ((c.tc : Thread Cert.DsaPrepIdeal.nD Cert.DsaPrepIdeal.τ).loc Cert.DsaPrepIdeal.main_arg4) = m ((c.tc : Thread Cert.DsaPrepIdeal.nD Cert.DsaPrepIdeal.τ).loc Cert.DsaPrepIdeal.main_arg4)
          ∧ r.2.mem ((c.tc : Thread Cert.DsaPrepIdeal.nD Cert.DsaPrepIdeal.τ).loc Cert.DsaPrepIdeal.main_arg5) = m ((c.tc : Thread Cert.DsaPrepIdeal.nD Cert.DsaPrepIdeal.τ).loc Cert.DsaPrepIdeal.main_arg5))
      ∧ θ_run (Cert.DsaPrepRefIdeal.defs (F := Ideal)) (onTc (τ := Cert.DsaPrepRefIdeal.τ) (Cert.DsaPrepRefIdeal.main (F := Ideal))) ⟨m', fun _ => 0, g'⟩ (fun r => ∀ c : Dev Cert.DsaPrepRefIdeal.nD,
          r.2.mem ((c.tc : Thread Cert.DsaPrepRefIdeal.nD Cert.DsaPrepRefIdeal.τ).loc Cert.DsaPrepRefIdeal.main_v41) = v0 c
          ∧ r.2.mem ((c.tc : Thread Cert.DsaPrepRefIdeal.nD Cert.DsaPrepRefIdeal.τ).loc Cert.DsaPrepRefIdeal.main_v43) = v1 c
          ∧ r.2.mem ((c.tc : Thread Cert.DsaPrepRefIdeal.nD Cert.DsaPrepRefIdeal.τ).loc Cert.DsaPrepRefIdeal.main_v39) = v2 c
          ∧ r.2.mem ((c.tc : Thread Cert.DsaPrepRefIdeal.nD Cert.DsaPrepRefIdeal.τ).loc Cert.DsaPrepRefIdeal.main_v44) = v3 c
          ∧ r.2.mem ((c.tc : Thread Cert.DsaPrepRefIdeal.nD Cert.DsaPrepRefIdeal.τ).loc Cert.DsaPrepRefIdeal.main_v45) = v4 c
          ∧ r.2.mem ((c.tc : Thread Cert.DsaPrepRefIdeal.nD Cert.DsaPrepRefIdeal.τ).loc Cert.DsaPrepRefIdeal.main_arg0) = m' ((c.tc : Thread Cert.DsaPrepRefIdeal.nD Cert.DsaPrepRefIdeal.τ).loc Cert.DsaPrepRefIdeal.main_arg0)
          ∧ r.2.mem ((c.tc : Thread Cert.DsaPrepRefIdeal.nD Cert.DsaPrepRefIdeal.τ).loc Cert.DsaPrepRefIdeal.main_arg1) = m' ((c.tc : Thread Cert.DsaPrepRefIdeal.nD Cert.DsaPrepRefIdeal.τ).loc Cert.DsaPrepRefIdeal.main_arg1)
          ∧ r.2.mem ((c.tc : Thread Cert.DsaPrepRefIdeal.nD Cert.DsaPrepRefIdeal.τ).loc Cert.DsaPrepRefIdeal.main_arg2) = m' ((c.tc : Thread Cert.DsaPrepRefIdeal.nD Cert.DsaPrepRefIdeal.τ).loc Cert.DsaPrepRefIdeal.main_arg2)
          ∧ r.2.mem ((c.tc : Thread Cert.DsaPrepRefIdeal.nD Cert.DsaPrepRefIdeal.τ).loc Cert.DsaPrepRefIdeal.main_arg3) = m' ((c.tc : Thread Cert.DsaPrepRefIdeal.nD Cert.DsaPrepRefIdeal.τ).loc Cert.DsaPrepRefIdeal.main_arg3)
          ∧ r.2.mem ((c.tc : Thread Cert.DsaPrepRefIdeal.nD Cert.DsaPrepRefIdeal.τ).loc Cert.DsaPrepRefIdeal.main_arg4) = m' ((c.tc : Thread Cert.DsaPrepRefIdeal.nD Cert.DsaPrepRefIdeal.τ).loc Cert.DsaPrepRefIdeal.main_arg4)
          ∧ r.2.mem ((c.tc : Thread Cert.DsaPrepRefIdeal.nD Cert.DsaPrepRefIdeal.τ).loc Cert.DsaPrepRefIdeal.main_arg5) = m' ((c.tc : Thread Cert.DsaPrepRefIdeal.nD Cert.DsaPrepRefIdeal.τ).loc Cert.DsaPrepRefIdeal.main_arg5))

def preserves_RwkvPrep_RwkvPrepIdeal : Prop :=
  True

def algebraic_RwkvPrepIdeal_RwkvPrepRefIdeal_pre_finite_keys [hRwkvPrepIdeal : Cert.RwkvPrepIdeal.Facts] [hRwkvPrepRefIdeal : Cert.RwkvPrepRefIdeal.Facts] [hPre_finite_keys : Cert.Pre_finite_keys.Facts] : Prop :=
  ∀ (m : (ℓ : Loc Cert.RwkvPrepIdeal.nD Cert.RwkvPrepIdeal.τ Cert.RwkvPrepIdeal.sig) → Buf (Elt Ideal) ℓ) (g : Dev Cert.RwkvPrepIdeal.nD → PrngReg)
    (m' : (ℓ : Loc Cert.RwkvPrepRefIdeal.nD Cert.RwkvPrepRefIdeal.τ Cert.RwkvPrepRefIdeal.sig) → Buf (Elt Ideal) ℓ) (g' : Dev Cert.RwkvPrepRefIdeal.nD → PrngReg), Pre_RwkvPrepIdeal_finite_keys m →
    (∀ c : Dev Cert.RwkvPrepIdeal.nD,
      m' ((c.tc : Thread Cert.RwkvPrepRefIdeal.nD Cert.RwkvPrepRefIdeal.τ).loc Cert.RwkvPrepRefIdeal.main_arg0) = m ((c.tc : Thread Cert.RwkvPrepIdeal.nD Cert.RwkvPrepIdeal.τ).loc Cert.RwkvPrepIdeal.main_arg0)
      ∧ m' ((c.tc : Thread Cert.RwkvPrepRefIdeal.nD Cert.RwkvPrepRefIdeal.τ).loc Cert.RwkvPrepRefIdeal.main_arg1) = m ((c.tc : Thread Cert.RwkvPrepIdeal.nD Cert.RwkvPrepIdeal.τ).loc Cert.RwkvPrepIdeal.main_arg1)
      ∧ m' ((c.tc : Thread Cert.RwkvPrepRefIdeal.nD Cert.RwkvPrepRefIdeal.τ).loc Cert.RwkvPrepRefIdeal.main_arg2) = m ((c.tc : Thread Cert.RwkvPrepIdeal.nD Cert.RwkvPrepIdeal.τ).loc Cert.RwkvPrepIdeal.main_arg2)
      ∧ m' ((c.tc : Thread Cert.RwkvPrepRefIdeal.nD Cert.RwkvPrepRefIdeal.τ).loc Cert.RwkvPrepRefIdeal.main_arg3) = m ((c.tc : Thread Cert.RwkvPrepIdeal.nD Cert.RwkvPrepIdeal.τ).loc Cert.RwkvPrepIdeal.main_arg3)
      ∧ m' ((c.tc : Thread Cert.RwkvPrepRefIdeal.nD Cert.RwkvPrepRefIdeal.τ).loc Cert.RwkvPrepRefIdeal.main_arg4) = m ((c.tc : Thread Cert.RwkvPrepIdeal.nD Cert.RwkvPrepIdeal.τ).loc Cert.RwkvPrepIdeal.main_arg4)
      ∧ m' ((c.tc : Thread Cert.RwkvPrepRefIdeal.nD Cert.RwkvPrepRefIdeal.τ).loc Cert.RwkvPrepRefIdeal.main_arg5) = m ((c.tc : Thread Cert.RwkvPrepIdeal.nD Cert.RwkvPrepIdeal.τ).loc Cert.RwkvPrepIdeal.main_arg5)
      ∧ m' ((c.tc : Thread Cert.RwkvPrepRefIdeal.nD Cert.RwkvPrepRefIdeal.τ).loc Cert.RwkvPrepRefIdeal.main_arg6) = m ((c.tc : Thread Cert.RwkvPrepIdeal.nD Cert.RwkvPrepIdeal.τ).loc Cert.RwkvPrepIdeal.main_arg6)
      ∧ m' ((c.tc : Thread Cert.RwkvPrepRefIdeal.nD Cert.RwkvPrepRefIdeal.τ).loc Cert.RwkvPrepRefIdeal.main_arg7) = m ((c.tc : Thread Cert.RwkvPrepIdeal.nD Cert.RwkvPrepIdeal.τ).loc Cert.RwkvPrepIdeal.main_arg7)
      ∧ m' ((c.tc : Thread Cert.RwkvPrepRefIdeal.nD Cert.RwkvPrepRefIdeal.τ).loc Cert.RwkvPrepRefIdeal.main_arg8) = m ((c.tc : Thread Cert.RwkvPrepIdeal.nD Cert.RwkvPrepIdeal.τ).loc Cert.RwkvPrepIdeal.main_arg8)
      ∧ m' ((c.tc : Thread Cert.RwkvPrepRefIdeal.nD Cert.RwkvPrepRefIdeal.τ).loc Cert.RwkvPrepRefIdeal.main_arg9) = m ((c.tc : Thread Cert.RwkvPrepIdeal.nD Cert.RwkvPrepIdeal.τ).loc Cert.RwkvPrepIdeal.main_arg9)) →
    ∃ (v0 : (c : Dev Cert.RwkvPrepIdeal.nD) → Buf (Elt Ideal) ((c.tc : Thread Cert.RwkvPrepIdeal.nD Cert.RwkvPrepIdeal.τ).loc Cert.RwkvPrepIdeal.main_v26_0)) (v1 : (c : Dev Cert.RwkvPrepIdeal.nD) → Buf (Elt Ideal) ((c.tc : Thread Cert.RwkvPrepIdeal.nD Cert.RwkvPrepIdeal.τ).loc Cert.RwkvPrepIdeal.main_v26_1)) (v2 : (c : Dev Cert.RwkvPrepIdeal.nD) → Buf (Elt Ideal) ((c.tc : Thread Cert.RwkvPrepIdeal.nD Cert.RwkvPrepIdeal.τ).loc Cert.RwkvPrepIdeal.main_v26_2)) (v3 : (c : Dev Cert.RwkvPrepIdeal.nD) → Buf (Elt Ideal) ((c.tc : Thread Cert.RwkvPrepIdeal.nD Cert.RwkvPrepIdeal.τ).loc Cert.RwkvPrepIdeal.main_v26_3)) (v4 : (c : Dev Cert.RwkvPrepIdeal.nD) → Buf (Elt Ideal) ((c.tc : Thread Cert.RwkvPrepIdeal.nD Cert.RwkvPrepIdeal.τ).loc Cert.RwkvPrepIdeal.main_v26_4)) (v5 : (c : Dev Cert.RwkvPrepIdeal.nD) → Buf (Elt Ideal) ((c.tc : Thread Cert.RwkvPrepIdeal.nD Cert.RwkvPrepIdeal.τ).loc Cert.RwkvPrepIdeal.main_v26_5)) (v6 : (c : Dev Cert.RwkvPrepIdeal.nD) → Buf (Elt Ideal) ((c.tc : Thread Cert.RwkvPrepIdeal.nD Cert.RwkvPrepIdeal.τ).loc Cert.RwkvPrepIdeal.main_v26_6)) (v7 : (c : Dev Cert.RwkvPrepIdeal.nD) → Buf (Elt Ideal) ((c.tc : Thread Cert.RwkvPrepIdeal.nD Cert.RwkvPrepIdeal.τ).loc Cert.RwkvPrepIdeal.main_v26_7)),
      θ_run (Cert.RwkvPrepIdeal.defs (F := Ideal)) (onTc (τ := Cert.RwkvPrepIdeal.τ) (Cert.RwkvPrepIdeal.main (F := Ideal))) ⟨m, fun _ => 0, g⟩ (fun r => ∀ c : Dev Cert.RwkvPrepIdeal.nD,
          r.2.mem ((c.tc : Thread Cert.RwkvPrepIdeal.nD Cert.RwkvPrepIdeal.τ).loc Cert.RwkvPrepIdeal.main_v26_0) = v0 c
          ∧ r.2.mem ((c.tc : Thread Cert.RwkvPrepIdeal.nD Cert.RwkvPrepIdeal.τ).loc Cert.RwkvPrepIdeal.main_v26_1) = v1 c
          ∧ r.2.mem ((c.tc : Thread Cert.RwkvPrepIdeal.nD Cert.RwkvPrepIdeal.τ).loc Cert.RwkvPrepIdeal.main_v26_2) = v2 c
          ∧ r.2.mem ((c.tc : Thread Cert.RwkvPrepIdeal.nD Cert.RwkvPrepIdeal.τ).loc Cert.RwkvPrepIdeal.main_v26_3) = v3 c
          ∧ r.2.mem ((c.tc : Thread Cert.RwkvPrepIdeal.nD Cert.RwkvPrepIdeal.τ).loc Cert.RwkvPrepIdeal.main_v26_4) = v4 c
          ∧ r.2.mem ((c.tc : Thread Cert.RwkvPrepIdeal.nD Cert.RwkvPrepIdeal.τ).loc Cert.RwkvPrepIdeal.main_v26_5) = v5 c
          ∧ r.2.mem ((c.tc : Thread Cert.RwkvPrepIdeal.nD Cert.RwkvPrepIdeal.τ).loc Cert.RwkvPrepIdeal.main_v26_6) = v6 c
          ∧ r.2.mem ((c.tc : Thread Cert.RwkvPrepIdeal.nD Cert.RwkvPrepIdeal.τ).loc Cert.RwkvPrepIdeal.main_v26_7) = v7 c
          ∧ r.2.mem ((c.tc : Thread Cert.RwkvPrepIdeal.nD Cert.RwkvPrepIdeal.τ).loc Cert.RwkvPrepIdeal.main_arg0) = m ((c.tc : Thread Cert.RwkvPrepIdeal.nD Cert.RwkvPrepIdeal.τ).loc Cert.RwkvPrepIdeal.main_arg0)
          ∧ r.2.mem ((c.tc : Thread Cert.RwkvPrepIdeal.nD Cert.RwkvPrepIdeal.τ).loc Cert.RwkvPrepIdeal.main_arg1) = m ((c.tc : Thread Cert.RwkvPrepIdeal.nD Cert.RwkvPrepIdeal.τ).loc Cert.RwkvPrepIdeal.main_arg1)
          ∧ r.2.mem ((c.tc : Thread Cert.RwkvPrepIdeal.nD Cert.RwkvPrepIdeal.τ).loc Cert.RwkvPrepIdeal.main_arg2) = m ((c.tc : Thread Cert.RwkvPrepIdeal.nD Cert.RwkvPrepIdeal.τ).loc Cert.RwkvPrepIdeal.main_arg2)
          ∧ r.2.mem ((c.tc : Thread Cert.RwkvPrepIdeal.nD Cert.RwkvPrepIdeal.τ).loc Cert.RwkvPrepIdeal.main_arg3) = m ((c.tc : Thread Cert.RwkvPrepIdeal.nD Cert.RwkvPrepIdeal.τ).loc Cert.RwkvPrepIdeal.main_arg3)
          ∧ r.2.mem ((c.tc : Thread Cert.RwkvPrepIdeal.nD Cert.RwkvPrepIdeal.τ).loc Cert.RwkvPrepIdeal.main_arg4) = m ((c.tc : Thread Cert.RwkvPrepIdeal.nD Cert.RwkvPrepIdeal.τ).loc Cert.RwkvPrepIdeal.main_arg4)
          ∧ r.2.mem ((c.tc : Thread Cert.RwkvPrepIdeal.nD Cert.RwkvPrepIdeal.τ).loc Cert.RwkvPrepIdeal.main_arg5) = m ((c.tc : Thread Cert.RwkvPrepIdeal.nD Cert.RwkvPrepIdeal.τ).loc Cert.RwkvPrepIdeal.main_arg5)
          ∧ r.2.mem ((c.tc : Thread Cert.RwkvPrepIdeal.nD Cert.RwkvPrepIdeal.τ).loc Cert.RwkvPrepIdeal.main_arg6) = m ((c.tc : Thread Cert.RwkvPrepIdeal.nD Cert.RwkvPrepIdeal.τ).loc Cert.RwkvPrepIdeal.main_arg6)
          ∧ r.2.mem ((c.tc : Thread Cert.RwkvPrepIdeal.nD Cert.RwkvPrepIdeal.τ).loc Cert.RwkvPrepIdeal.main_arg7) = m ((c.tc : Thread Cert.RwkvPrepIdeal.nD Cert.RwkvPrepIdeal.τ).loc Cert.RwkvPrepIdeal.main_arg7)
          ∧ r.2.mem ((c.tc : Thread Cert.RwkvPrepIdeal.nD Cert.RwkvPrepIdeal.τ).loc Cert.RwkvPrepIdeal.main_arg8) = m ((c.tc : Thread Cert.RwkvPrepIdeal.nD Cert.RwkvPrepIdeal.τ).loc Cert.RwkvPrepIdeal.main_arg8)
          ∧ r.2.mem ((c.tc : Thread Cert.RwkvPrepIdeal.nD Cert.RwkvPrepIdeal.τ).loc Cert.RwkvPrepIdeal.main_arg9) = m ((c.tc : Thread Cert.RwkvPrepIdeal.nD Cert.RwkvPrepIdeal.τ).loc Cert.RwkvPrepIdeal.main_arg9))
      ∧ θ_run (Cert.RwkvPrepRefIdeal.defs (F := Ideal)) (onTc (τ := Cert.RwkvPrepRefIdeal.τ) (Cert.RwkvPrepRefIdeal.main (F := Ideal))) ⟨m', fun _ => 0, g'⟩ (fun r => ∀ c : Dev Cert.RwkvPrepRefIdeal.nD,
          r.2.mem ((c.tc : Thread Cert.RwkvPrepRefIdeal.nD Cert.RwkvPrepRefIdeal.τ).loc Cert.RwkvPrepRefIdeal.main_v72) = v0 c
          ∧ r.2.mem ((c.tc : Thread Cert.RwkvPrepRefIdeal.nD Cert.RwkvPrepRefIdeal.τ).loc Cert.RwkvPrepRefIdeal.main_v73) = v1 c
          ∧ r.2.mem ((c.tc : Thread Cert.RwkvPrepRefIdeal.nD Cert.RwkvPrepRefIdeal.τ).loc Cert.RwkvPrepRefIdeal.main_v74) = v2 c
          ∧ r.2.mem ((c.tc : Thread Cert.RwkvPrepRefIdeal.nD Cert.RwkvPrepRefIdeal.τ).loc Cert.RwkvPrepRefIdeal.main_v75) = v3 c
          ∧ r.2.mem ((c.tc : Thread Cert.RwkvPrepRefIdeal.nD Cert.RwkvPrepRefIdeal.τ).loc Cert.RwkvPrepRefIdeal.main_v78) = v4 c
          ∧ r.2.mem ((c.tc : Thread Cert.RwkvPrepRefIdeal.nD Cert.RwkvPrepRefIdeal.τ).loc Cert.RwkvPrepRefIdeal.main_v81) = v5 c
          ∧ r.2.mem ((c.tc : Thread Cert.RwkvPrepRefIdeal.nD Cert.RwkvPrepRefIdeal.τ).loc Cert.RwkvPrepRefIdeal.main_v82) = v6 c
          ∧ r.2.mem ((c.tc : Thread Cert.RwkvPrepRefIdeal.nD Cert.RwkvPrepRefIdeal.τ).loc Cert.RwkvPrepRefIdeal.main_v83) = v7 c
          ∧ r.2.mem ((c.tc : Thread Cert.RwkvPrepRefIdeal.nD Cert.RwkvPrepRefIdeal.τ).loc Cert.RwkvPrepRefIdeal.main_arg0) = m' ((c.tc : Thread Cert.RwkvPrepRefIdeal.nD Cert.RwkvPrepRefIdeal.τ).loc Cert.RwkvPrepRefIdeal.main_arg0)
          ∧ r.2.mem ((c.tc : Thread Cert.RwkvPrepRefIdeal.nD Cert.RwkvPrepRefIdeal.τ).loc Cert.RwkvPrepRefIdeal.main_arg1) = m' ((c.tc : Thread Cert.RwkvPrepRefIdeal.nD Cert.RwkvPrepRefIdeal.τ).loc Cert.RwkvPrepRefIdeal.main_arg1)
          ∧ r.2.mem ((c.tc : Thread Cert.RwkvPrepRefIdeal.nD Cert.RwkvPrepRefIdeal.τ).loc Cert.RwkvPrepRefIdeal.main_arg2) = m' ((c.tc : Thread Cert.RwkvPrepRefIdeal.nD Cert.RwkvPrepRefIdeal.τ).loc Cert.RwkvPrepRefIdeal.main_arg2)
          ∧ r.2.mem ((c.tc : Thread Cert.RwkvPrepRefIdeal.nD Cert.RwkvPrepRefIdeal.τ).loc Cert.RwkvPrepRefIdeal.main_arg3) = m' ((c.tc : Thread Cert.RwkvPrepRefIdeal.nD Cert.RwkvPrepRefIdeal.τ).loc Cert.RwkvPrepRefIdeal.main_arg3)
          ∧ r.2.mem ((c.tc : Thread Cert.RwkvPrepRefIdeal.nD Cert.RwkvPrepRefIdeal.τ).loc Cert.RwkvPrepRefIdeal.main_arg4) = m' ((c.tc : Thread Cert.RwkvPrepRefIdeal.nD Cert.RwkvPrepRefIdeal.τ).loc Cert.RwkvPrepRefIdeal.main_arg4)
          ∧ r.2.mem ((c.tc : Thread Cert.RwkvPrepRefIdeal.nD Cert.RwkvPrepRefIdeal.τ).loc Cert.RwkvPrepRefIdeal.main_arg5) = m' ((c.tc : Thread Cert.RwkvPrepRefIdeal.nD Cert.RwkvPrepRefIdeal.τ).loc Cert.RwkvPrepRefIdeal.main_arg5)
          ∧ r.2.mem ((c.tc : Thread Cert.RwkvPrepRefIdeal.nD Cert.RwkvPrepRefIdeal.τ).loc Cert.RwkvPrepRefIdeal.main_arg6) = m' ((c.tc : Thread Cert.RwkvPrepRefIdeal.nD Cert.RwkvPrepRefIdeal.τ).loc Cert.RwkvPrepRefIdeal.main_arg6)
          ∧ r.2.mem ((c.tc : Thread Cert.RwkvPrepRefIdeal.nD Cert.RwkvPrepRefIdeal.τ).loc Cert.RwkvPrepRefIdeal.main_arg7) = m' ((c.tc : Thread Cert.RwkvPrepRefIdeal.nD Cert.RwkvPrepRefIdeal.τ).loc Cert.RwkvPrepRefIdeal.main_arg7)
          ∧ r.2.mem ((c.tc : Thread Cert.RwkvPrepRefIdeal.nD Cert.RwkvPrepRefIdeal.τ).loc Cert.RwkvPrepRefIdeal.main_arg8) = m' ((c.tc : Thread Cert.RwkvPrepRefIdeal.nD Cert.RwkvPrepRefIdeal.τ).loc Cert.RwkvPrepRefIdeal.main_arg8)
          ∧ r.2.mem ((c.tc : Thread Cert.RwkvPrepRefIdeal.nD Cert.RwkvPrepRefIdeal.τ).loc Cert.RwkvPrepRefIdeal.main_arg9) = m' ((c.tc : Thread Cert.RwkvPrepRefIdeal.nD Cert.RwkvPrepRefIdeal.τ).loc Cert.RwkvPrepRefIdeal.main_arg9))

def Claim : Prop :=
  ∃ (hKernel : Cert.Kernel.Facts) (hMerge : Cert.Merge.Facts) (hMergeIdeal : Cert.MergeIdeal.Facts) (hMergeRefIdeal : Cert.MergeRefIdeal.Facts) (hInDsa : Cert.InDsa.Facts) (hInDsaIdeal : Cert.InDsaIdeal.Facts) (hInDsaRefIdeal : Cert.InDsaRefIdeal.Facts) (hInRwkv : Cert.InRwkv.Facts) (hInRwkvIdeal : Cert.InRwkvIdeal.Facts) (hInRwkvRefIdeal : Cert.InRwkvRefIdeal.Facts) (hInMem : Cert.InMem.Facts) (hInMemIdeal : Cert.InMemIdeal.Facts) (hInMemRefIdeal : Cert.InMemRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hExperts : Cert.Experts.Facts) (hExpertsIdeal : Cert.ExpertsIdeal.Facts) (hExpertsRefIdeal : Cert.ExpertsRefIdeal.Facts) (hDsaPrep : Cert.DsaPrep.Facts) (hDsaPrepIdeal : Cert.DsaPrepIdeal.Facts) (hDsaPrepRefIdeal : Cert.DsaPrepRefIdeal.Facts) (hRwkvPrep : Cert.RwkvPrep.Facts) (hRwkvPrepIdeal : Cert.RwkvPrepIdeal.Facts) (hRwkvPrepRefIdeal : Cert.RwkvPrepRefIdeal.Facts) (hPre_finite_keys : Cert.Pre_finite_keys.Facts),
    quiescent_Kernel (hKernel := hKernel)
    ∧ quiescent_Merge (hMerge := hMerge)
    ∧ quiescent_MergeIdeal (hMergeIdeal := hMergeIdeal)
    ∧ quiescent_MergeRefIdeal (hMergeRefIdeal := hMergeRefIdeal)
    ∧ quiescent_InDsa (hInDsa := hInDsa)
    ∧ quiescent_InDsaIdeal (hInDsaIdeal := hInDsaIdeal)
    ∧ quiescent_InDsaRefIdeal (hInDsaRefIdeal := hInDsaRefIdeal)
    ∧ quiescent_InRwkv (hInRwkv := hInRwkv)
    ∧ quiescent_InRwkvIdeal (hInRwkvIdeal := hInRwkvIdeal)
    ∧ quiescent_InRwkvRefIdeal (hInRwkvRefIdeal := hInRwkvRefIdeal)
    ∧ quiescent_InMem (hInMem := hInMem)
    ∧ quiescent_InMemIdeal (hInMemIdeal := hInMemIdeal)
    ∧ quiescent_InMemRefIdeal (hInMemRefIdeal := hInMemRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_DsaPrep (hDsaPrep := hDsaPrep)
    ∧ quiescent_DsaPrepIdeal (hDsaPrepIdeal := hDsaPrepIdeal)
    ∧ quiescent_DsaPrepRefIdeal (hDsaPrepRefIdeal := hDsaPrepRefIdeal)
    ∧ quiescent_RwkvPrep (hRwkvPrep := hRwkvPrep)
    ∧ quiescent_RwkvPrepIdeal (hRwkvPrepIdeal := hRwkvPrepIdeal)
    ∧ quiescent_RwkvPrepIdeal_pre_finite_keys (hRwkvPrepIdeal := hRwkvPrepIdeal) (hPre_finite_keys := hPre_finite_keys)
    ∧ quiescent_RwkvPrepRefIdeal (hRwkvPrepRefIdeal := hRwkvPrepRefIdeal)
    ∧ quiescent_RwkvPrepRefIdeal_pre_finite_keys (hRwkvPrepRefIdeal := hRwkvPrepRefIdeal) (hPre_finite_keys := hPre_finite_keys)
    ∧ preserves_Merge_MergeIdeal
    ∧ algebraic_MergeIdeal_MergeRefIdeal (hMergeIdeal := hMergeIdeal) (hMergeRefIdeal := hMergeRefIdeal)
    ∧ preserves_InDsa_InDsaIdeal
    ∧ algebraic_InDsaIdeal_InDsaRefIdeal (hInDsaIdeal := hInDsaIdeal) (hInDsaRefIdeal := hInDsaRefIdeal)
    ∧ preserves_InRwkv_InRwkvIdeal
    ∧ algebraic_InRwkvIdeal_InRwkvRefIdeal (hInRwkvIdeal := hInRwkvIdeal) (hInRwkvRefIdeal := hInRwkvRefIdeal)
    ∧ preserves_InMem_InMemIdeal
    ∧ algebraic_InMemIdeal_InMemRefIdeal (hInMemIdeal := hInMemIdeal) (hInMemRefIdeal := hInMemRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Experts_ExpertsIdeal
    ∧ algebraic_ExpertsIdeal_ExpertsRefIdeal (hExpertsIdeal := hExpertsIdeal) (hExpertsRefIdeal := hExpertsRefIdeal)
    ∧ preserves_DsaPrep_DsaPrepIdeal
    ∧ algebraic_DsaPrepIdeal_DsaPrepRefIdeal (hDsaPrepIdeal := hDsaPrepIdeal) (hDsaPrepRefIdeal := hDsaPrepRefIdeal)
    ∧ preserves_RwkvPrep_RwkvPrepIdeal
    ∧ algebraic_RwkvPrepIdeal_RwkvPrepRefIdeal_pre_finite_keys (hRwkvPrepIdeal := hRwkvPrepIdeal) (hRwkvPrepRefIdeal := hRwkvPrepRefIdeal) (hPre_finite_keys := hPre_finite_keys)
-- ==== Pre_finite_keys.lean ====
abbrev S16384x1792 : Shape := ⟨2, ![16384, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S16384x512 : Shape := ⟨2, ![16384, 512]⟩
abbrev S_ : Shape := ⟨0, ![]⟩
abbrev S1x512 : Shape := ⟨2, ![1, 512]⟩

class Facts : Prop where
  slices_S16384x1792_S16384x512_0_0 : S16384x1792.Slices ![0, 0] S16384x512
  bcast_S_S16384x512 : S_.BroadcastsInDim S16384x512 (![] : Fin 0 → Fin S16384x512.rank)
  slices_S16384x1792_S16384x512_0_512 : S16384x1792.Slices ![0, 512] S16384x512
  slices_S1792_S512_0 : S1792.Slices ![0] S512
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  slices_S1792_S512_512 : S1792.Slices ![512] S512
  shapeCasts_S8x64_S512 : S8x64.ShapeCasts S512

variable [Facts]

def fn_part2 {F : FTy → Type} [FloatOps F] (main_v34 : IVec S16384x512 1) (main_v40 : IVec S16384x512 1) : IVec S16384x512 1 :=
  let main_v41 : IVec S16384x512 1 := andi main_v34 main_v40
  main_v41

def fn_part1 {F : FTy → Type} [FloatOps F] (main_arg7 : FVec F S512 .f32) (main_arg8 : FVec F S512 .f32) (main_arg9 : FVec F S8x64 .f32) (main_v15 : IVec S16384x512 1) (main_v19 : IVec S512 1) : IVec S16384x512 1 :=
  let main_v20 : IVec S1x512 1 := broadcastInDim S1x512 ![1] bcast_S512_S1x512_1 main_v19
  let main_v21 : IVec S16384x512 1 := broadcastInDim S16384x512 ![0, 1] bcast_S1x512_S16384x512_0_1 main_v20
  let main_v22 : IVec S16384x512 1 := andi main_v15 main_v21
  let main_v23 : FVec F S512 .f32 := Host.absf main_arg7
  let main_cst_3 : FVec F S_ .f32 := constant S_ .f32 0x7F800000#32
  let main_v24 : FVec F S512 .f32 := broadcastInDim S512 ![] bcast_S_S512 main_cst_3
  let main_v25 : IVec S512 1 := cmpf .olt main_v23 main_v24
  let main_v26 : IVec S1x512 1 := broadcastInDim S1x512 ![1] bcast_S512_S1x512_1 main_v25
  let main_v27 : IVec S16384x512 1 := broadcastInDim S16384x512 ![0, 1] bcast_S1x512_S16384x512_0_1 main_v26
  let main_v28 : IVec S16384x512 1 := andi main_v22 main_v27
  let main_v29 : FVec F S512 .f32 := Host.absf main_arg8
  let main_cst_4 : FVec F S_ .f32 := constant S_ .f32 0x7F800000#32
  let main_v30 : FVec F S512 .f32 := broadcastInDim S512 ![] bcast_S_S512 main_cst_4
  let main_v31 : IVec S512 1 := cmpf .olt main_v29 main_v30
  let main_v32 : IVec S1x512 1 := broadcastInDim S1x512 ![1] bcast_S512_S1x512_1 main_v31
  let main_v33 : IVec S16384x512 1 := broadcastInDim S16384x512 ![0, 1] bcast_S1x512_S16384x512_0_1 main_v32
  let main_v34 : IVec S16384x512 1 := andi main_v28 main_v33
  let main_v35 : FVec F S512 .f32 := shapeCast S512 main_arg9 shapeCasts_S8x64_S512
  let main_v36 : FVec F S512 .f32 := Host.absf main_v35
  let main_cst_5 : FVec F S_ .f32 := constant S_ .f32 0x7F800000#32
  let main_v37 : FVec F S512 .f32 := broadcastInDim S512 ![] bcast_S_S512 main_cst_5
  let main_v38 : IVec S512 1 := cmpf .olt main_v36 main_v37
  let main_v39 : IVec S1x512 1 := broadcastInDim S1x512 ![1] bcast_S512_S1x512_1 main_v38
  let main_v40 : IVec S16384x512 1 := broadcastInDim S16384x512 ![0, 1] bcast_S1x512_S16384x512_0_1 main_v39
  fn_part2 (F := F) main_v34 main_v40

def fn {F : FTy → Type} [FloatOps F] (main_arg0 : FVec F S16384x1792 .f32) (main_arg1 : FVec F S1792 .f32) (main_arg2 : FVec F S512 .f32) (main_arg3 : FVec F S64x512 .f32) (main_arg4 : FVec F S512 .f32) (main_arg5 : FVec F S64x512 .f32) (main_arg6 : FVec F S128x512 .f32) (main_arg7 : FVec F S512 .f32) (main_arg8 : FVec F S512 .f32) (main_arg9 : FVec F S8x64 .f32) : IVec S16384x512 1 :=
  let main_v0 : FVec F S16384x512 .f32 := (extractStridedSlice S16384x512 ![0, 0] · slices_S16384x1792_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extractStridedSlice S16384x512 ![0, 512] · slices_S16384x1792_S16384x512_0_512) main_arg0
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  let main_v9 : FVec F S512 .f32 := (extractStridedSlice S512 ![0] · slices_S1792_S512_0) main_arg1
  let main_v10 : FVec F S512 .f32 := Host.absf main_v9
  let main_cst_1 : FVec F S_ .f32 := constant S_ .f32 0x7F800000#32
  let main_v11 : FVec F S512 .f32 := broadcastInDim S512 ![] bcast_S_S512 main_cst_1
  let main_v12 : IVec S512 1 := cmpf .olt main_v10 main_v11
  let main_v13 : IVec S1x512 1 := broadcastInDim S1x512 ![1] bcast_S512_S1x512_1 main_v12
  let main_v14 : IVec S16384x512 1 := broadcastInDim S16384x512 ![0, 1] bcast_S1x512_S16384x512_0_1 main_v13
  let main_v15 : IVec S16384x512 1 := andi main_v8 main_v14
  let main_v16 : FVec F S512 .f32 := (extractStridedSlice S512 ![512] · slices_S1792_S512_512) main_arg1
  let main_v17 : FVec F S512 .f32 := Host.absf main_v16
  let main_cst_2 : FVec F S_ .f32 := constant S_ .f32 0x7F800000#32
  let main_v18 : FVec F S512 .f32 := broadcastInDim S512 ![] bcast_S_S512 main_cst_2
  let main_v19 : IVec S512 1 := cmpf .olt main_v17 main_v18
  fn_part1 (F := F) main_arg7 main_arg8 main_arg9 main_v15 main_v19
-- ==== Kernel.lean ====
abbrev S32x8 : Shape := ⟨2, ![32, 8]⟩
abbrev S4x8x4096x32 : Shape := ⟨4, ![4, 8, 4096, 32]⟩
abbrev S4x4096x8 : Shape := ⟨3, ![4, 4096, 8]⟩
abbrev S4x8x4096x128 : Shape := ⟨4, ![4, 8, 4096, 128]⟩
abbrev S4x4096x32 : Shape := ⟨3, ![4, 4096, 32]⟩
abbrev S4x4096x128 : Shape := ⟨3, ![4, 4096, 128]⟩
abbrev S128x8x64 : Shape := ⟨3, ![128, 8, 64]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S4x4096x512 : Shape := ⟨3, ![4, 4096, 512]⟩
abbrev S1x8x128x32 : Shape := ⟨4, ![1, 8, 128, 32]⟩
abbrev S1x128x8 : Shape := ⟨3, ![1, 128, 8]⟩
abbrev S1x8x128x128 : Shape := ⟨4, ![1, 8, 128, 128]⟩
abbrev S1x4096x32 : Shape := ⟨3, ![1, 4096, 32]⟩
abbrev S1x4096x128 : Shape := ⟨3, ![1, 4096, 128]⟩
abbrev S1x128x512 : Shape := ⟨3, ![1, 128, 512]⟩
abbrev S128x4096 : Shape := ⟨2, ![128, 4096]⟩
abbrev S2x8x128x128 : Shape := ⟨4, ![2, 8, 128, 128]⟩
abbrev S8x128x128 : Shape := ⟨3, ![8, 128, 128]⟩
abbrev S128x128 : Shape := ⟨2, ![128, 128]⟩
abbrev S1x1 : Shape := ⟨2, ![1, 1]⟩
abbrev S1x1x128x128 : Shape := ⟨4, ![1, 1, 128, 128]⟩
abbrev S128x8 : Shape := ⟨2, ![128, 8]⟩
abbrev S128x256 : Shape := ⟨2, ![128, 256]⟩
abbrev S1x256x32 : Shape := ⟨3, ![1, 256, 32]⟩
abbrev S256x32 : Shape := ⟨2, ![256, 32]⟩
abbrev S1x1x128x32 : Shape := ⟨4, ![1, 1, 128, 32]⟩
abbrev S128x32 : Shape := ⟨2, ![128, 32]⟩
abbrev S128x1 : Shape := ⟨2, ![128, 1]⟩
abbrev S64x128 : Shape := ⟨2, ![64, 128]⟩
abbrev S64 : Shape := ⟨1, ![64]⟩
abbrev S64x1 : Shape := ⟨2, ![64, 1]⟩
abbrev S1x128x1 : Shape := ⟨3, ![1, 128, 1]⟩
abbrev S1 : Shape := ⟨1, ![1]⟩
abbrev S1x1x1 : Shape := ⟨3, ![1, 1, 1]⟩
abbrev S128 : Shape := ⟨1, ![128]⟩
abbrev S1024x128 : Shape := ⟨2, ![1024, 128]⟩
abbrev S128x512 : Shape := ⟨2, ![128, 512]⟩
abbrev S1x128x128 : Shape := ⟨3, ![1, 128, 128]⟩
abbrev S8x128 : Shape := ⟨2, ![8, 128]⟩
abbrev S8x128x1 : Shape := ⟨3, ![8, 128, 1]⟩
abbrev S1x512x128 : Shape := ⟨3, ![1, 512, 128]⟩
abbrev S512x128 : Shape := ⟨2, ![512, 128]⟩
abbrev S1024x512 : Shape := ⟨2, ![1024, 512]⟩
abbrev S1x8x128x1 : Shape := ⟨4, ![1, 8, 128, 1]⟩
abbrev S1x1x1x1 : Shape := ⟨4, ![1, 1, 1, 1]⟩

abbrev nBuf : Space → Nat
  | .hbm => 23
  | .vmem => 19
  | .smem => 1
  | _ => 0

abbrev bufTy : (tb : Table) → Fin (tcTables nBuf tb) → BufTy
  | .hbm, ⟨0, _⟩ => ⟨S32x8, .f32⟩
  | .hbm, ⟨1, _⟩ => ⟨S4x8x4096x32, .bf16⟩
  | .hbm, ⟨2, _⟩ => ⟨S4x4096x8, .f32⟩
  | .hbm, ⟨3, _⟩ => ⟨S4x8x4096x128, .bf16⟩
  | .hbm, ⟨4, _⟩ => ⟨S4x4096x32, .bf16⟩
  | .hbm, ⟨5, _⟩ => ⟨S4x4096x128, .bf16⟩
  | .hbm, ⟨6, _⟩ => ⟨S128x8x64, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x128x64, .f32⟩
  | .hbm, ⟨15, _⟩ => ⟨S8x128x1x64, .f32⟩
  | .hbm, ⟨16, _⟩ => ⟨S8x1x8x1, .f32⟩
  | .hbm, ⟨17, _⟩ => ⟨S8x128x8x64, .f32⟩
  | .hbm, ⟨18, _⟩ => ⟨S8x128x8x64, .f32⟩
  | .hbm, ⟨19, _⟩ => ⟨S8x128x8x64, .f32⟩
  | .hbm, ⟨20, _⟩ => ⟨S8x128x512, .f32⟩
  | .hbm, ⟨21, _⟩ => ⟨S8x128x512, .bf16⟩
  | .hbm, ⟨22, _⟩ => ⟨S4x4096x512, .bf16⟩
  | .local _ .vmem, ⟨0, _⟩ => ⟨S1x8x128x32, .bf16⟩
  | .local _ .vmem, ⟨1, _⟩ => ⟨S1x8x128x32, .bf16⟩
  | .local _ .vmem, ⟨2, _⟩ => ⟨S1x128x8, .f32⟩
  | .local _ .vmem, ⟨3, _⟩ => ⟨S1x128x8, .f32⟩
  | .local _ .vmem, ⟨4, _⟩ => ⟨S1x8x128x128, .bf16⟩
  | .local _ .vmem, ⟨5, _⟩ => ⟨S1x8x128x128, .bf16⟩
  | .local _ .vmem, ⟨6, _⟩ => ⟨S1x4096x32, .bf16⟩
  | .local _ .vmem, ⟨7, _⟩ => ⟨S1x4096x32, .bf16⟩
  | .local _ .vmem, ⟨8, _⟩ => ⟨S1x4096x128, .bf16⟩
  | .local _ .vmem, ⟨9, _⟩ => ⟨S1x4096x128, .bf16⟩
  | .local _ .vmem, ⟨10, _⟩ => ⟨S8x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S128x4096, .f32⟩
  | .local _ .vmem, ⟨14, _⟩ => ⟨S2x8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_15 : BitVec 32 := 1#32
  ⟨c0_i32_13, v36, c1_i32_15⟩
def k0_mult1 (i : grid0.Coords) (k0_t1 : Fin (k0_t1_loop i).trips) : BitVec 32 :=
  let c0_i32_13 : BitVec 32 := 0#32
  let c1_i32_15 : BitVec 32 := 1#32
  let arg16 : BitVec 32 := Scf.iv c0_i32_13 c1_i32_15 k0_t1
  let c512_i32_161 : BitVec 32 := 512#32
  let v275 : BitVec 32 := Scalar.muli arg16 c512_i32_161
  let c0_i32_162 : BitVec 32 := 0#32
  let v276 : BitVec 32 := Scalar.addi v275 c0_i32_162
  v276
def k0_off1 (i : grid0.Coords) (k0_t1 : Fin (k0_t1_loop i).trips) (c0_i32_162 : BitVec 32) : Fin 3 → Nat :=
  let c0_163 : Index := 0#32
  let c0_i32_13 : BitVec 32 := 0#32
  let c1_i32_15 : BitVec 32 := 1#32
  let arg16 : BitVec 32 := Scf.iv c0_i32_13 c1_i32_15 k0_t1
  let c512_i32_161 : BitVec 32 := 512#32
  let v275 : BitVec 32 := Scalar.muli arg16 c512_i32_161
  let v276 : BitVec 32 := Scalar.addi v275 c0_i32_162
  let v277 : BitVec 32 := v276
  let v278 : Index := Scalar.indexCast v277
  let c0_164 : Index := 0#32
  ![0, v278.toNat, 0]
def k0_off2 (i : grid0.Coords) (k0_t1 : Fin (k0_t1_loop i).trips) (c0_i32_162 : BitVec 32) : Fin 2 → Nat :=
  let c0_215 : Index := 0#32
  let c0_i32_13 : BitVec 32 := 0#32
  let c1_i32_15 : BitVec 32 := 1#32
  let arg16 : BitVec 32 := Scf.iv c0_i32_13 c1_i32_15 k0_t1
  let c512_i32_161 : BitVec 32 := 512#32
  let v275 : BitVec 32 := Scalar.muli arg16 c512_i32_161
  let v276 : BitVec 32 := Scalar.addi v275 c0_i32_162
  let v277 : BitVec 32 := v276
  let v359 : Index := Scalar.indexCast v277
  ![0, v359.toNat]
def k0_mult2 (i : grid0.Coords) (k0_t1 : Fin (k0_t1_loop i).trips) : BitVec 32 :=
  let c0_i32_13 : BitVec 32 := 0#32
  let c1_i32_15 : BitVec 32 := 1#32
  let arg16 : BitVec 32 := Scf.iv c0_i32_13 c1_i32_15 k0_t1
  let c512_i32_216 : BitVec 32 := 512#32
  let v363 : BitVec 32 := Scalar.muli arg16 c512_i32_216
  let c256_i32_217 : BitVec 32 := 256#32
  let v364 : BitVec 32 := Scalar.addi v363 c256_i32_217
  v364
@[reducible] def k0_t2_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let v33 : BitVec 32 := Scalar.addi c0_i32_13 v32
  let c1_i32_16 : BitVec 32 := 1#32
  ⟨v36, v33, c1_i32_16⟩
def k0_mult3 (i : grid0.Coords) (k0_t2 : Fin (k0_t2_loop i).trips) : BitVec 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg16 : BitVec 32 := Scf.iv v36 c1_i32_16 k0_t2
  let c512_i32_161 : BitVec 32 := 512#32
  let v275 : BitVec 32 := Scalar.muli arg16 c512_i32_161
  let c0_i32_162 : BitVec 32 := 0#32
  let v276 : BitVec 32 := Scalar.addi v275 c0_i32_162
  v276
def k0_off3 (i : grid0.Coords) (k0_t2 : Fin (k0_t2_loop i).trips) (c0_i32_162 : BitVec 32) : Fin 3 → Nat :=
  let c0_163 : Index := 0#32
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg16 : BitVec 32 := Scf.iv v36 c1_i32_16 k0_t2
  let c512_i32_161 : BitVec 32 := 512#32
  let v275 : BitVec 32 := Scalar.muli arg16 c512_i32_161
  let v276 : BitVec 32 := Scalar.addi v275 c0_i32_162
  let v277 : BitVec 32 := v276
  let v278 : Index := Scalar.indexCast v277
  let c0_164 : Index := 0#32
  ![0, v278.toNat, 0]
def k0_off4 (i : grid0.Coords) (k0_t2 : Fin (k0_t2_loop i).trips) (c0_i32_162 : BitVec 32) : Fin 2 → Nat :=
  let c0_215 : Index := 0#32
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg16 : BitVec 32 := Scf.iv v36 c1_i32_16 k0_t2
  let c512_i32_161 : BitVec 32 := 512#32
  let v275 : BitVec 32 := Scalar.muli arg16 c512_i32_161
  let v276 : BitVec 32 := Scalar.addi v275 c0_i32_162
  let v277 : BitVec 32 := v276
  let v359 : Index := Scalar.indexCast v277
  ![0, v359.toNat]
def k0_mult4 (i : grid0.Coords) (k0_t2 : Fin (k0_t2_loop i).trips) : BitVec 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v32 : BitVec 32 := Scalar.subi v25 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg16 : BitVec 32 := Scf.iv v36 c1_i32_16 k0_t2
  let c512_i32_216 : BitVec 32 := 512#32
  let v363 : BitVec 32 := Scalar.muli arg16 c512_i32_216
  let c256_i32_217 : BitVec 32 := 256#32
  let v364 : BitVec 32 := Scalar.addi v363 c256_i32_217
  v364
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c0_i32_20 : BitVec 32 := 0#32
  let v43 : BitVec 1 := Scalar.cmpi .ne v42 c0_i32_20
  v43

def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c0_i32_162 : BitVec 32 := 0#32
  let v276 : BitVec 1 := Scalar.cmpi .ne v275 c0_i32_162
  v276

def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c0_i32_164 : BitVec 32 := 0#32
  let v279 : BitVec 1 := Scalar.cmpi .ne v278 c0_i32_164
  v279

def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c1_i32_165 : BitVec 32 := 1#32
  let v281 : BitVec 32 := Scalar.subi v278 c1_i32_165
  let c0_i32_166 : BitVec 32 := 0#32
  let v282 : BitVec 1 := Scalar.cmpi .ne v281 c0_i32_166
  v282

def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c1_i32_165 : BitVec 32 := 1#32
  let v281 : BitVec 32 := Scalar.subi v278 c1_i32_165
  let c1_i32_167 : BitVec 32 := 1#32
  let v284 : BitVec 32 := Scalar.subi v281 c1_i32_167
  let c0_i32_168 : BitVec 32 := 0#32
  let v285 : BitVec 1 := Scalar.cmpi .ne v284 c0_i32_168
  v285

def k0_cond7 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c1_i32_165 : BitVec 32 := 1#32
  let v281 : BitVec 32 := Scalar.subi v278 c1_i32_165
  let c1_i32_167 : BitVec 32 := 1#32
  let v284 : BitVec 32 := Scalar.subi v281 c1_i32_167
  let c1_i32_169 : BitVec 32 := 1#32
  let v287 : BitVec 32 := Scalar.subi v284 c1_i32_169
  let c0_i32_170 : BitVec 32 := 0#32
  let v288 : BitVec 1 := Scalar.cmpi .ne v287 c0_i32_170
  v288

def k0_cond8 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c1_i32_165 : BitVec 32 := 1#32
  let v281 : BitVec 32 := Scalar.subi v278 c1_i32_165
  let c1_i32_167 : BitVec 32 := 1#32
  let v284 : BitVec 32 := Scalar.subi v281 c1_i32_167
  let c1_i32_169 : BitVec 32 := 1#32
  let v287 : BitVec 32 := Scalar.subi v284 c1_i32_169
  let c1_i32_171 : BitVec 32 := 1#32
  let v290 : BitVec 32 := Scalar.subi v287 c1_i32_171
  let c0_i32_172 : BitVec 32 := 0#32
  let v291 : BitVec 1 := Scalar.cmpi .ne v290 c0_i32_172
  v291

def k0_cond9 (i : grid0.Coords) : BitVec 1 :=
  let arg1 : BitVec 32 := BitVec.ofNat 32 (i 1).val
  let c128_i32 : BitVec 32 := 128#32
  let v0 : BitVec 32 := Scalar.muli arg1 c128_i32
  let c128_i32_17 : BitVec 32 := 128#32
  let v38 : BitVec 32 := Scalar.addi v0 c128_i32_17
  let c256_i32 : BitVec 32 := 256#32
  let v39 : BitVec 1 := Scalar.cmpi .sle v38 c256_i32
  let c0_i32_18 : BitVec 32 := 0#32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v40 : BitVec 32 := Scalar.select v39 c0_i32_18 v25
  let c0_i32_19 : BitVec 32 := 0#32
  let v41 : BitVec 32 := Scalar.maxsi v40 c0_i32_19
  let c8_i32 : BitVec 32 := 8#32
  let v42 : BitVec 32 := Scalar.minsi v41 c8_i32
  let c1_i32_161 : BitVec 32 := 1#32
  let v275 : BitVec 32 := Scalar.subi v42 c1_i32_161
  let c1_i32_163 : BitVec 32 := 1#32
  let v278 : BitVec 32 := Scalar.subi v275 c1_i32_163
  let c1_i32_165 : BitVec 32 := 1#32
  let v281 : BitVec 32 := Scalar.subi v278 c1_i32_165
  let c1_i32_167 : BitVec 32 := 1#32
  let v284 : BitVec 32 := Scalar.subi v281 c1_i32_167
  let c1_i32_169 : BitVec 32 := 1#32
  let v287 : BitVec 32 := Scalar.subi v284 c1_i32_169
  let c1_i32_171 : BitVec 32 := 1#32
  let v290 : BitVec 32 := Scalar.subi v287 c1_i32_171
  let c1_i32_173 : BitVec 32 := 1#32
  let v293 : BitVec 32 := Scalar.subi v290 c1_i32_173
  let c0_i32_174 : BitVec 32 := 0#32
  let v294 : BitVec 1 := Scalar.cmpi .ne v293 c0_i32_174
  v294

@[reducible] def k0_t3_loop : Scf.Loop 32 :=
  let c0_i32_176 : BitVec 32 := 0#32
  let c32_i32 : BitVec 32 := 32#32
  let v299 : BitVec 32 := Scalar.addi c0_i32_176 c32_i32
  let c1_i32_177 : BitVec 32 := 1#32
  ⟨c0_i32_176, v299, c1_i32_177⟩
@[reducible] def k0_t4_loop : Scf.Loop 32 :=
  let c0_i32_176 : BitVec 32 := 0#32
  let c32_i32 : BitVec 32 := 32#32
  let v299 : BitVec 32 := Scalar.addi c0_i32_176 c32_i32
  let c1_i32_177 : BitVec 32 := 1#32
  ⟨c0_i32_176, v299, c1_i32_177⟩
@[reducible] def k0_t5_loop : Scf.Loop 32 :=
  let c0_i32_174 : BitVec 32 := 0#32
  let c32_i32 : BitVec 32 := 32#32
  let v296 : BitVec 32 := Scalar.addi c0_i32_174 c32_i32
  let c1_i32_175 : BitVec 32 := 1#32
  ⟨c0_i32_174, v296, c1_i32_175⟩
@[reducible] def k0_t6_loop : Scf.Loop 32 :=
  let c0_i32_172 : BitVec 32 := 0#32
  let c32_i32 : BitVec 32 := 32#32
  let v293 : BitVec 32 := Scalar.addi c0_i32_172 c32_i32
  let c1_i32_173 : BitVec 32 := 1#32
  ⟨c0_i32_172, v293, c1_i32_173⟩
@[reducible] def k0_t7_loop : Scf.Loop 32 :=
  let c0_i32_170 : BitVec 32 := 0#32
  let c32_i32 : BitVec 32 := 32#32
  let v290 : BitVec 32 := Scalar.addi c0_i32_170 c32_i32
  let c1_i32_171 : BitVec 32 := 1#32
  ⟨c0_i32_170, v290, c1_i32_171⟩
@[reducible] def k0_t8_loop : Scf.Loop 32 :=
  let c0_i32_168 : BitVec 32 := 0#32
  let c32_i32 : BitVec 32 := 32#32
  let v287 : BitVec 32 := Scalar.addi c0_i32_168 c32_i32
  let c1_i32_169 : BitVec 32 := 1#32
  ⟨c0_i32_168, v287, c1_i32_169⟩
@[reducible] def k0_t9_loop : Scf.Loop 32 :=
  let c0_i32_166 : BitVec 32 := 0#32
  let c32_i32 : BitVec 32 := 32#32
  let v284 : BitVec 32 := Scalar.addi c0_i32_166 c32_i32
  let c1_i32_167 : BitVec 32 := 1#32
  ⟨c0_i32_166, v284, c1_i32_167⟩
@[reducible] def k0_t10_loop : Scf.Loop 32 :=
  let c0_i32_164 : BitVec 32 := 0#32
  let c32_i32 : BitVec 32 := 32#32
  let v281 : BitVec 32 := Scalar.addi c0_i32_164 c32_i32
  let c1_i32_165 : BitVec 32 := 1#32
  ⟨c0_i32_164, v281, c1_i32_165⟩
@[reducible] def k0_t11_loop (i : grid0.Coords) : Scf.Loop 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_164 : BitVec 32 := 1#32
  ⟨c0_i32_162, v280, c1_i32_164⟩
def k0_mult5 (i : grid0.Coords) (k0_t11 : Fin (k0_t11_loop i).trips) : BitVec 32 :=
  let c0_i32_162 : BitVec 32 := 0#32
  let c1_i32_164 : BitVec 32 := 1#32
  let arg16 : BitVec 32 := Scf.iv c0_i32_162 c1_i32_164 k0_t11
  let c512_i32_176 : BitVec 32 := 512#32
  let v298 : BitVec 32 := Scalar.muli arg16 c512_i32_176
  let c0_i32_177 : BitVec 32 := 0#32
  let v299 : BitVec 32 := Scalar.addi v298 c0_i32_177
  v299
def k0_off5 (i : grid0.Coords) (k0_t11 : Fin (k0_t11_loop i).trips) (c0_i32_177 : BitVec 32) : Fin 2 → Nat :=
  let c0_178 : Index := 0#32
  let c0_i32_162 : BitVec 32 := 0#32
  let c1_i32_164 : BitVec 32 := 1#32
  let arg16 : BitVec 32 := Scf.iv c0_i32_162 c1_i32_164 k0_t11
  let c512_i32_176 : BitVec 32 := 512#32
  let v298 : BitVec 32 := Scalar.muli arg16 c512_i32_176
  let v299 : BitVec 32 := Scalar.addi v298 c0_i32_177
  let v300 : BitVec 32 := v299
  let v301 : Index := Scalar.indexCast v300
  ![0, v301.toNat]
def k0_mult6 (i : grid0.Coords) (k0_t11 : Fin (k0_t11_loop i).trips) : BitVec 32 :=
  let c0_i32_162 : BitVec 32 := 0#32
  let c1_i32_164 : BitVec 32 := 1#32
  let arg16 : BitVec 32 := Scf.iv c0_i32_162 c1_i32_164 k0_t11
  let c512_i32_181 : BitVec 32 := 512#32
  let v308 : BitVec 32 := Scalar.muli arg16 c512_i32_181
  let c128_i32_182 : BitVec 32 := 128#32
  let v309 : BitVec 32 := Scalar.addi v308 c128_i32_182
  v309
def k0_mult7 (i : grid0.Coords) (k0_t11 : Fin (k0_t11_loop i).trips) : BitVec 32 :=
  let c0_i32_162 : BitVec 32 := 0#32
  let c1_i32_164 : BitVec 32 := 1#32
  let arg16 : BitVec 32 := Scf.iv c0_i32_162 c1_i32_164 k0_t11
  let c512_i32_186 : BitVec 32 := 512#32
  let v318 : BitVec 32 := Scalar.muli arg16 c512_i32_186
  let c256_i32_187 : BitVec 32 := 256#32
  let v319 : BitVec 32 := Scalar.addi v318 c256_i32_187
  v319
def k0_mult8 (i : grid0.Coords) (k0_t11 : Fin (k0_t11_loop i).trips) : BitVec 32 :=
  let c0_i32_162 : BitVec 32 := 0#32
  let c1_i32_164 : BitVec 32 := 1#32
  let arg16 : BitVec 32 := Scf.iv c0_i32_162 c1_i32_164 k0_t11
  let c512_i32_191 : BitVec 32 := 512#32
  let v328 : BitVec 32 := Scalar.muli arg16 c512_i32_191
  let c384_i32 : BitVec 32 := 384#32
  let v329 : BitVec 32 := Scalar.addi v328 c384_i32
  v329
@[reducible] def k0_t12_loop (i : grid0.Coords) : Scf.Loop 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let v277 : BitVec 32 := Scalar.addi c0_i32_162 v276
  let c1_i32_165 : BitVec 32 := 1#32
  ⟨v280, v277, c1_i32_165⟩
def k0_mult9 (i : grid0.Coords) (k0_t12 : Fin (k0_t12_loop i).trips) : BitVec 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_165 : BitVec 32 := 1#32
  let arg16 : BitVec 32 := Scf.iv v280 c1_i32_165 k0_t12
  let c512_i32_176 : BitVec 32 := 512#32
  let v298 : BitVec 32 := Scalar.muli arg16 c512_i32_176
  let c0_i32_177 : BitVec 32 := 0#32
  let v299 : BitVec 32 := Scalar.addi v298 c0_i32_177
  v299
def k0_off6 (i : grid0.Coords) (k0_t12 : Fin (k0_t12_loop i).trips) (c0_i32_177 : BitVec 32) : Fin 2 → Nat :=
  let c0_178 : Index := 0#32
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_165 : BitVec 32 := 1#32
  let arg16 : BitVec 32 := Scf.iv v280 c1_i32_165 k0_t12
  let c512_i32_176 : BitVec 32 := 512#32
  let v298 : BitVec 32 := Scalar.muli arg16 c512_i32_176
  let v299 : BitVec 32 := Scalar.addi v298 c0_i32_177
  let v300 : BitVec 32 := v299
  let v301 : Index := Scalar.indexCast v300
  ![0, v301.toNat]
def k0_mult10 (i : grid0.Coords) (k0_t12 : Fin (k0_t12_loop i).trips) : BitVec 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_165 : BitVec 32 := 1#32
  let arg16 : BitVec 32 := Scf.iv v280 c1_i32_165 k0_t12
  let c512_i32_181 : BitVec 32 := 512#32
  let v308 : BitVec 32 := Scalar.muli arg16 c512_i32_181
  let c128_i32_182 : BitVec 32 := 128#32
  let v309 : BitVec 32 := Scalar.addi v308 c128_i32_182
  v309
def k0_mult11 (i : grid0.Coords) (k0_t12 : Fin (k0_t12_loop i).trips) : BitVec 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_165 : BitVec 32 := 1#32
  let arg16 : BitVec 32 := Scf.iv v280 c1_i32_165 k0_t12
  let c512_i32_186 : BitVec 32 := 512#32
  let v318 : BitVec 32 := Scalar.muli arg16 c512_i32_186
  let c256_i32_187 : BitVec 32 := 256#32
  let v319 : BitVec 32 := Scalar.addi v318 c256_i32_187
  v319
def k0_mult12 (i : grid0.Coords) (k0_t12 : Fin (k0_t12_loop i).trips) : BitVec 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v276 : BitVec 32 := Scalar.subi v25 c0_i32_162
  let c1_i32_163 : BitVec 32 := 1#32
  let v278 : BitVec 32 := Scalar.divsi v276 c1_i32_163
  let v279 : BitVec 32 := Scalar.muli v278 c1_i32_163
  let v280 : BitVec 32 := Scalar.addi c0_i32_162 v279
  let c1_i32_165 : BitVec 32 := 1#32
  let arg16 : BitVec 32 := Scf.iv v280 c1_i32_165 k0_t12
  let c512_i32_191 : BitVec 32 := 512#32
  let v328 : BitVec 32 := Scalar.muli arg16 c512_i32_191
  let c384_i32 : BitVec 32 := 384#32
  let v329 : BitVec 32 := Scalar.addi v328 c384_i32
  v329
@[reducible] def k0_t13_loop : Scf.Loop 32 :=
  let c0_i32_169 : BitVec 32 := 0#32
  let c12_i32 : BitVec 32 := 12#32
  let v289 : BitVec 32 := Scalar.addi c0_i32_169 c12_i32
  let c1_i32_170 : BitVec 32 := 1#32
  ⟨c0_i32_169, v289, c1_i32_170⟩
@[reducible] def k0_t14_loop (i : grid0.Coords) : Scf.Loop 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_180 : BitVec 32 := 1#32
  ⟨c0_i32_178, v308, c1_i32_180⟩
def k0_mult13 (i : grid0.Coords) (k0_t14 : Fin (k0_t14_loop i).trips) : BitVec 32 :=
  let c0_i32_178 : BitVec 32 := 0#32
  let c1_i32_180 : BitVec 32 := 1#32
  let arg19 : BitVec 32 := Scf.iv c0_i32_178 c1_i32_180 k0_t14
  let c512_i32_184 : BitVec 32 := 512#32
  let v318 : BitVec 32 := Scalar.muli arg19 c512_i32_184
  let c0_i32_185 : BitVec 32 := 0#32
  let v319 : BitVec 32 := Scalar.addi v318 c0_i32_185
  v319
def k0_off7 (i : grid0.Coords) (k0_t14 : Fin (k0_t14_loop i).trips) (c0_i32_185 : BitVec 32) : Fin 2 → Nat :=
  let c0_186 : Index := 0#32
  let c0_i32_178 : BitVec 32 := 0#32
  let c1_i32_180 : BitVec 32 := 1#32
  let arg19 : BitVec 32 := Scf.iv c0_i32_178 c1_i32_180 k0_t14
  let c512_i32_184 : BitVec 32 := 512#32
  let v318 : BitVec 32 := Scalar.muli arg19 c512_i32_184
  let v319 : BitVec 32 := Scalar.addi v318 c0_i32_185
  let v320 : BitVec 32 := v319
  let v321 : Index := Scalar.indexCast v320
  ![0, v321.toNat]
def k0_mult14 (i : grid0.Coords) (k0_t14 : Fin (k0_t14_loop i).trips) : BitVec 32 :=
  let c0_i32_178 : BitVec 32 := 0#32
  let c1_i32_180 : BitVec 32 := 1#32
  let arg19 : BitVec 32 := Scf.iv c0_i32_178 c1_i32_180 k0_t14
  let c512_i32_190 : BitVec 32 := 512#32
  let v333 : BitVec 32 := Scalar.muli arg19 c512_i32_190
  let c128_i32_191 : BitVec 32 := 128#32
  let v334 : BitVec 32 := Scalar.addi v333 c128_i32_191
  v334
def k0_mult15 (i : grid0.Coords) (k0_t14 : Fin (k0_t14_loop i).trips) : BitVec 32 :=
  let c0_i32_178 : BitVec 32 := 0#32
  let c1_i32_180 : BitVec 32 := 1#32
  let arg19 : BitVec 32 := Scf.iv c0_i32_178 c1_i32_180 k0_t14
  let c512_i32_196 : BitVec 32 := 512#32
  let v348 : BitVec 32 := Scalar.muli arg19 c512_i32_196
  let c256_i32_197 : BitVec 32 := 256#32
  let v349 : BitVec 32 := Scalar.addi v348 c256_i32_197
  v349
def k0_mult16 (i : grid0.Coords) (k0_t14 : Fin (k0_t14_loop i).trips) : BitVec 32 :=
  let c0_i32_178 : BitVec 32 := 0#32
  let c1_i32_180 : BitVec 32 := 1#32
  let arg19 : BitVec 32 := Scf.iv c0_i32_178 c1_i32_180 k0_t14
  let c512_i32_202 : BitVec 32 := 512#32
  let v363 : BitVec 32 := Scalar.muli arg19 c512_i32_202
  let c384_i32 : BitVec 32 := 384#32
  let v364 : BitVec 32 := Scalar.addi v363 c384_i32
  v364
@[reducible] def k0_t15_loop (i : grid0.Coords) : Scf.Loop 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let v305 : BitVec 32 := Scalar.addi c0_i32_178 v304
  let c1_i32_181 : BitVec 32 := 1#32
  ⟨v308, v305, c1_i32_181⟩
def k0_mult17 (i : grid0.Coords) (k0_t15 : Fin (k0_t15_loop i).trips) : BitVec 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_181 : BitVec 32 := 1#32
  let arg19 : BitVec 32 := Scf.iv v308 c1_i32_181 k0_t15
  let c512_i32_184 : BitVec 32 := 512#32
  let v318 : BitVec 32 := Scalar.muli arg19 c512_i32_184
  let c0_i32_185 : BitVec 32 := 0#32
  let v319 : BitVec 32 := Scalar.addi v318 c0_i32_185
  v319
def k0_off8 (i : grid0.Coords) (k0_t15 : Fin (k0_t15_loop i).trips) (c0_i32_185 : BitVec 32) : Fin 2 → Nat :=
  let c0_186 : Index := 0#32
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_181 : BitVec 32 := 1#32
  let arg19 : BitVec 32 := Scf.iv v308 c1_i32_181 k0_t15
  let c512_i32_184 : BitVec 32 := 512#32
  let v318 : BitVec 32 := Scalar.muli arg19 c512_i32_184
  let v319 : BitVec 32 := Scalar.addi v318 c0_i32_185
  let v320 : BitVec 32 := v319
  let v321 : Index := Scalar.indexCast v320
  ![0, v321.toNat]
def k0_mult18 (i : grid0.Coords) (k0_t15 : Fin (k0_t15_loop i).trips) : BitVec 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_181 : BitVec 32 := 1#32
  let arg19 : BitVec 32 := Scf.iv v308 c1_i32_181 k0_t15
  let c512_i32_190 : BitVec 32 := 512#32
  let v333 : BitVec 32 := Scalar.muli arg19 c512_i32_190
  let c128_i32_191 : BitVec 32 := 128#32
  let v334 : BitVec 32 := Scalar.addi v333 c128_i32_191
  v334
def k0_mult19 (i : grid0.Coords) (k0_t15 : Fin (k0_t15_loop i).trips) : BitVec 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_181 : BitVec 32 := 1#32
  let arg19 : BitVec 32 := Scf.iv v308 c1_i32_181 k0_t15
  let c512_i32_196 : BitVec 32 := 512#32
  let v348 : BitVec 32 := Scalar.muli arg19 c512_i32_196
  let c256_i32_197 : BitVec 32 := 256#32
  let v349 : BitVec 32 := Scalar.addi v348 c256_i32_197
  v349
def k0_mult20 (i : grid0.Coords) (k0_t15 : Fin (k0_t15_loop i).trips) : BitVec 32 :=
  let c0_i32_178 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v304 : BitVec 32 := Scalar.subi v25 c0_i32_178
  let c1_i32_179 : BitVec 32 := 1#32
  let v306 : BitVec 32 := Scalar.divsi v304 c1_i32_179
  let v307 : BitVec 32 := Scalar.muli v306 c1_i32_179
  let v308 : BitVec 32 := Scalar.addi c0_i32_178 v307
  let c1_i32_181 : BitVec 32 := 1#32
  let arg19 : BitVec 32 := Scf.iv v308 c1_i32_181 k0_t15
  let c512_i32_202 : BitVec 32 := 512#32
  let v363 : BitVec 32 := Scalar.muli arg19 c512_i32_202
  let c384_i32 : BitVec 32 := 384#32
  let v364 : BitVec 32 := Scalar.addi v363 c384_i32
  v364
@[reducible] def k0_t16_loop (i : grid0.Coords) : Scf.Loop 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_174 : BitVec 32 := 1#32
  ⟨c0_i32_172, v297, c1_i32_174⟩
def k0_mult21 (i : grid0.Coords) (k0_t16 : Fin (k0_t16_loop i).trips) : BitVec 32 :=
  let c0_i32_172 : BitVec 32 := 0#32
  let c1_i32_174 : BitVec 32 := 1#32
  let arg16 : BitVec 32 := Scf.iv c0_i32_172 c1_i32_174 k0_t16
  let c512_i32_176 : BitVec 32 := 512#32
  let v298 : BitVec 32 := Scalar.muli arg16 c512_i32_176
  let c0_i32_177 : BitVec 32 := 0#32
  let v299 : BitVec 32 := Scalar.addi v298 c0_i32_177
  v299
def k0_off9 (i : grid0.Coords) (k0_t16 : Fin (k0_t16_loop i).trips) (c0_i32_177 : BitVec 32) : Fin 2 → Nat :=
  let c0_178 : Index := 0#32
  let c0_i32_172 : BitVec 32 := 0#32
  let c1_i32_174 : BitVec 32 := 1#32
  let arg16 : BitVec 32 := Scf.iv c0_i32_172 c1_i32_174 k0_t16
  let c512_i32_176 : BitVec 32 := 512#32
  let v298 : BitVec 32 := Scalar.muli arg16 c512_i32_176
  let v299 : BitVec 32 := Scalar.addi v298 c0_i32_177
  let v300 : BitVec 32 := v299
  let v301 : Index := Scalar.indexCast v300
  ![0, v301.toNat]
def k0_mult22 (i : grid0.Coords) (k0_t16 : Fin (k0_t16_loop i).trips) : BitVec 32 :=
  let c0_i32_172 : BitVec 32 := 0#32
  let c1_i32_174 : BitVec 32 := 1#32
  let arg16 : BitVec 32 := Scf.iv c0_i32_172 c1_i32_174 k0_t16
  let c512_i32_181 : BitVec 32 := 512#32
  let v314 : BitVec 32 := Scalar.muli arg16 c512_i32_181
  let c128_i32_182 : BitVec 32 := 128#32
  let v315 : BitVec 32 := Scalar.addi v314 c128_i32_182
  v315
def k0_mult23 (i : grid0.Coords) (k0_t16 : Fin (k0_t16_loop i).trips) : BitVec 32 :=
  let c0_i32_172 : BitVec 32 := 0#32
  let c1_i32_174 : BitVec 32 := 1#32
  let arg16 : BitVec 32 := Scf.iv c0_i32_172 c1_i32_174 k0_t16
  let c512_i32_186 : BitVec 32 := 512#32
  let v330 : BitVec 32 := Scalar.muli arg16 c512_i32_186
  let c256_i32_187 : BitVec 32 := 256#32
  let v331 : BitVec 32 := Scalar.addi v330 c256_i32_187
  v331
def k0_mult24 (i : grid0.Coords) (k0_t16 : Fin (k0_t16_loop i).trips) : BitVec 32 :=
  let c0_i32_172 : BitVec 32 := 0#32
  let c1_i32_174 : BitVec 32 := 1#32
  let arg16 : BitVec 32 := Scf.iv c0_i32_172 c1_i32_174 k0_t16
  let c512_i32_191 : BitVec 32 := 512#32
  let v346 : BitVec 32 := Scalar.muli arg16 c512_i32_191
  let c384_i32 : BitVec 32 := 384#32
  let v347 : BitVec 32 := Scalar.addi v346 c384_i32
  v347
@[reducible] def k0_t17_loop (i : grid0.Coords) : Scf.Loop 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let v294 : BitVec 32 := Scalar.addi c0_i32_172 v293
  let c1_i32_175 : BitVec 32 := 1#32
  ⟨v297, v294, c1_i32_175⟩
def k0_mult25 (i : grid0.Coords) (k0_t17 : Fin (k0_t17_loop i).trips) : BitVec 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_175 : BitVec 32 := 1#32
  let arg16 : BitVec 32 := Scf.iv v297 c1_i32_175 k0_t17
  let c512_i32_176 : BitVec 32 := 512#32
  let v298 : BitVec 32 := Scalar.muli arg16 c512_i32_176
  let c0_i32_177 : BitVec 32 := 0#32
  let v299 : BitVec 32 := Scalar.addi v298 c0_i32_177
  v299
def k0_off10 (i : grid0.Coords) (k0_t17 : Fin (k0_t17_loop i).trips) (c0_i32_177 : BitVec 32) : Fin 2 → Nat :=
  let c0_178 : Index := 0#32
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_175 : BitVec 32 := 1#32
  let arg16 : BitVec 32 := Scf.iv v297 c1_i32_175 k0_t17
  let c512_i32_176 : BitVec 32 := 512#32
  let v298 : BitVec 32 := Scalar.muli arg16 c512_i32_176
  let v299 : BitVec 32 := Scalar.addi v298 c0_i32_177
  let v300 : BitVec 32 := v299
  let v301 : Index := Scalar.indexCast v300
  ![0, v301.toNat]
def k0_mult26 (i : grid0.Coords) (k0_t17 : Fin (k0_t17_loop i).trips) : BitVec 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_175 : BitVec 32 := 1#32
  let arg16 : BitVec 32 := Scf.iv v297 c1_i32_175 k0_t17
  let c512_i32_181 : BitVec 32 := 512#32
  let v314 : BitVec 32 := Scalar.muli arg16 c512_i32_181
  let c128_i32_182 : BitVec 32 := 128#32
  let v315 : BitVec 32 := Scalar.addi v314 c128_i32_182
  v315
def k0_mult27 (i : grid0.Coords) (k0_t17 : Fin (k0_t17_loop i).trips) : BitVec 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_175 : BitVec 32 := 1#32
  let arg16 : BitVec 32 := Scf.iv v297 c1_i32_175 k0_t17
  let c512_i32_186 : BitVec 32 := 512#32
  let v330 : BitVec 32 := Scalar.muli arg16 c512_i32_186
  let c256_i32_187 : BitVec 32 := 256#32
  let v331 : BitVec 32 := Scalar.addi v330 c256_i32_187
  v331
def k0_mult28 (i : grid0.Coords) (k0_t17 : Fin (k0_t17_loop i).trips) : BitVec 32 :=
  let c0_i32_172 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_3 : BitVec 32 := 512#32
  let c0_i32_6 : BitVec 32 := 0#32
  let v15 : BitVec 1 := Scalar.cmpi .sgt c512_i32_3 c0_i32_6
  let v16 : BitVec 32 := Scalar.extui v15
  let c0_i32_7 : BitVec 32 := 0#32
  let v17 : BitVec 1 := Scalar.cmpi .slt c512_i32_3 c0_i32_7
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_8 : BitVec 32 := 0#32
  let v22 : BitVec 1 := Scalar.cmpi .ne v21 c0_i32_8
  let v23 : BitVec 1 := Scalar.andi v20 v22
  let v9 : BitVec 32 := Scalar.divsi v8 c512_i32_3
  let c1_i32_9 : BitVec 32 := 1#32
  let v24 : BitVec 32 := Scalar.subi v9 c1_i32_9
  let v25 : BitVec 32 := Scalar.select v23 v24 v9
  let v293 : BitVec 32 := Scalar.subi v25 c0_i32_172
  let c1_i32_173 : BitVec 32 := 1#32
  let v295 : BitVec 32 := Scalar.divsi v293 c1_i32_173
  let v296 : BitVec 32 := Scalar.muli v295 c1_i32_173
  let v297 : BitVec 32 := Scalar.addi c0_i32_172 v296
  let c1_i32_175 : BitVec 32 := 1#32
  let arg16 : BitVec 32 := Scf.iv v297 c1_i32_175 k0_t17
  let c512_i32_191 : BitVec 32 := 512#32
  let v346 : BitVec 32 := Scalar.muli arg16 c512_i32_191
  let c384_i32 : BitVec 32 := 384#32
  let v347 : BitVec 32 := Scalar.addi v346 c384_i32
  v347
def k0_mult29 (i : grid0.Coords) : BitVec 32 :=
  let arg1 : BitVec 32 := BitVec.ofNat 32 (i 1).val
  let c128_i32_47 : BitVec 32 := 128#32
  let v109 : BitVec 32 := Scalar.muli arg1 c128_i32_47
  v109
def k0_off11 (i : grid0.Coords) : Fin 3 → Nat :=
  let c0_48 : Index := 0#32
  let arg1 : BitVec 32 := BitVec.ofNat 32 (i 1).val
  let c128_i32_47 : BitVec 32 := 128#32
  let v109 : BitVec 32 := Scalar.muli arg1 c128_i32_47
  let v110 : BitVec 32 := v109
  let v111 : Index := Scalar.indexCast v110
  let c0_49 : Index := 0#32
  ![0, v111.toNat, 0]
def k0_cond11 (i : grid0.Coords) : BitVec 1 :=
  let arg1 : BitVec 32 := BitVec.ofNat 32 (i 1).val
  let c1_i32_54 : BitVec 32 := 1#32
  let v123 : BitVec 1 := Scalar.cmpi .sge arg1 c1_i32_54
  let v124 : BitVec 32 := Scalar.extui v123
  let c0_i32_55 : BitVec 32 := 0#32
  let v125 : BitVec 1 := Scalar.cmpi .ne v124 c0_i32_55
  v125

def k0_mult30 (i : grid0.Coords) : BitVec 32 :=
  let arg1 : BitVec 32 := BitVec.ofNat 32 (i 1).val
  let c1_i32_164 : BitVec 32 := 1#32
  let v276 : BitVec 32 := Scalar.subi arg1 c1_i32_164
  let c128_i32_169 : BitVec 32 := 128#32
  let v279 : BitVec 32 := Scalar.muli v276 c128_i32_169
  v279
def k0_off12 (i : grid0.Coords) : Fin 3 → Nat :=
  let c0_170 : Index := 0#32
  let arg1 : BitVec 32 := BitVec.ofNat 32 (i 1).val
  let c1_i32_164 : BitVec 32 := 1#32
  let v276 : BitVec 32 := Scalar.subi arg1 c1_i32_164
  let c128_i32_169 : BitVec 32 := 128#32
  let v279 : BitVec 32 := Scalar.muli v276 c128_i32_169
  let v280 : BitVec 32 := v279
  let v281 : Index := Scalar.indexCast v280
  let c0_171 : Index := 0#32
  ![0, v281.toNat, 0]
@[reducible] def k0_t18_loop (i : grid0.Coords) : Scf.Loop 32 :=
  let c0_i32_76 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v146 : BitVec 32 := Scalar.subi v95 c0_i32_76
  let c1_i32_77 : BitVec 32 := 1#32
  let v148 : BitVec 32 := Scalar.divsi v146 c1_i32_77
  let v149 : BitVec 32 := Scalar.muli v148 c1_i32_77
  let v150 : BitVec 32 := Scalar.addi c0_i32_76 v149
  let c1_i32_78 : BitVec 32 := 1#32
  ⟨c0_i32_76, v150, c1_i32_78⟩
def k0_mult31 (i : grid0.Coords) (k0_t18 : Fin (k0_t18_loop i).trips) : BitVec 32 :=
  let c0_i32_76 : BitVec 32 := 0#32
  let c1_i32_78 : BitVec 32 := 1#32
  let arg16 : BitVec 32 := Scf.iv c0_i32_76 c1_i32_78 k0_t18
  let c512_i32_161 : BitVec 32 := 512#32
  let v275 : BitVec 32 := Scalar.muli arg16 c512_i32_161
  v275
def k0_off13 (i : grid0.Coords) (k0_t18 : Fin (k0_t18_loop i).trips) : Fin 3 → Nat :=
  let c0_162 : Index := 0#32
  let c0_i32_76 : BitVec 32 := 0#32
  let c1_i32_78 : BitVec 32 := 1#32
  let arg16 : BitVec 32 := Scf.iv c0_i32_76 c1_i32_78 k0_t18
  let c512_i32_161 : BitVec 32 := 512#32
  let v275 : BitVec 32 := Scalar.muli arg16 c512_i32_161
  let v276 : BitVec 32 := v275
  let v277 : Index := Scalar.indexCast v276
  let c0_163 : Index := 0#32
  ![0, v277.toNat, 0]
def k0_off14 (i : grid0.Coords) (k0_t18 : Fin (k0_t18_loop i).trips) : Fin 2 → Nat :=
  let c0_164 : Index := 0#32
  let c0_i32_76 : BitVec 32 := 0#32
  let c1_i32_78 : BitVec 32 := 1#32
  let arg16 : BitVec 32 := Scf.iv c0_i32_76 c1_i32_78 k0_t18
  let c512_i32_161 : BitVec 32 := 512#32
  let v275 : BitVec 32 := Scalar.muli arg16 c512_i32_161
  let v276 : BitVec 32 := v275
  let v280 : Index := Scalar.indexCast v276
  ![0, v280.toNat]
@[reducible] def k0_t19_loop (i : grid0.Coords) : Scf.Loop 32 :=
  let c0_i32_76 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v146 : BitVec 32 := Scalar.subi v95 c0_i32_76
  let c1_i32_77 : BitVec 32 := 1#32
  let v148 : BitVec 32 := Scalar.divsi v146 c1_i32_77
  let v149 : BitVec 32 := Scalar.muli v148 c1_i32_77
  let v150 : BitVec 32 := Scalar.addi c0_i32_76 v149
  let v147 : BitVec 32 := Scalar.addi c0_i32_76 v146
  let c1_i32_79 : BitVec 32 := 1#32
  ⟨v150, v147, c1_i32_79⟩
def k0_mult32 (i : grid0.Coords) (k0_t19 : Fin (k0_t19_loop i).trips) : BitVec 32 :=
  let c0_i32_76 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v146 : BitVec 32 := Scalar.subi v95 c0_i32_76
  let c1_i32_77 : BitVec 32 := 1#32
  let v148 : BitVec 32 := Scalar.divsi v146 c1_i32_77
  let v149 : BitVec 32 := Scalar.muli v148 c1_i32_77
  let v150 : BitVec 32 := Scalar.addi c0_i32_76 v149
  let c1_i32_79 : BitVec 32 := 1#32
  let arg16 : BitVec 32 := Scf.iv v150 c1_i32_79 k0_t19
  let c512_i32_161 : BitVec 32 := 512#32
  let v275 : BitVec 32 := Scalar.muli arg16 c512_i32_161
  v275
def k0_off15 (i : grid0.Coords) (k0_t19 : Fin (k0_t19_loop i).trips) : Fin 3 → Nat :=
  let c0_162 : Index := 0#32
  let c0_i32_76 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v146 : BitVec 32 := Scalar.subi v95 c0_i32_76
  let c1_i32_77 : BitVec 32 := 1#32
  let v148 : BitVec 32 := Scalar.divsi v146 c1_i32_77
  let v149 : BitVec 32 := Scalar.muli v148 c1_i32_77
  let v150 : BitVec 32 := Scalar.addi c0_i32_76 v149
  let c1_i32_79 : BitVec 32 := 1#32
  let arg16 : BitVec 32 := Scf.iv v150 c1_i32_79 k0_t19
  let c512_i32_161 : BitVec 32 := 512#32
  let v275 : BitVec 32 := Scalar.muli arg16 c512_i32_161
  let v276 : BitVec 32 := v275
  let v277 : Index := Scalar.indexCast v276
  let c0_163 : Index := 0#32
  ![0, v277.toNat, 0]
def k0_off16 (i : grid0.Coords) (k0_t19 : Fin (k0_t19_loop i).trips) : Fin 2 → Nat :=
  let c0_164 : Index := 0#32
  let c0_i32_76 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v146 : BitVec 32 := Scalar.subi v95 c0_i32_76
  let c1_i32_77 : BitVec 32 := 1#32
  let v148 : BitVec 32 := Scalar.divsi v146 c1_i32_77
  let v149 : BitVec 32 := Scalar.muli v148 c1_i32_77
  let v150 : BitVec 32 := Scalar.addi c0_i32_76 v149
  let c1_i32_79 : BitVec 32 := 1#32
  let arg16 : BitVec 32 := Scf.iv v150 c1_i32_79 k0_t19
  let c512_i32_161 : BitVec 32 := 512#32
  let v275 : BitVec 32 := Scalar.muli arg16 c512_i32_161
  let v276 : BitVec 32 := v275
  let v280 : Index := Scalar.indexCast v276
  ![0, v280.toNat]
def k0_cond12 (i : grid0.Coords) : BitVec 1 :=
  let arg1 : BitVec 32 := BitVec.ofNat 32 (i 1).val
  let c1_i32_80 : BitVec 32 := 1#32
  let v151 : BitVec 1 := Scalar.cmpi .sge arg1 c1_i32_80
  let v152 : BitVec 32 := Scalar.extui v151
  let c0_i32_81 : BitVec 32 := 0#32
  let v153 : BitVec 1 := Scalar.cmpi .ne v152 c0_i32_81
  v153

def k0_mult33 (i : grid0.Coords) : BitVec 32 :=
  let arg1 : BitVec 32 := BitVec.ofNat 32 (i 1).val
  let c1_i32_161 : BitVec 32 := 1#32
  let v275 : BitVec 32 := Scalar.subi arg1 c1_i32_161
  let c128_i32_166 : BitVec 32 := 128#32
  let v278 : BitVec 32 := Scalar.muli v275 c128_i32_166
  v278
def k0_off17 (i : grid0.Coords) : Fin 3 → Nat :=
  let c0_167 : Index := 0#32
  let arg1 : BitVec 32 := BitVec.ofNat 32 (i 1).val
  let c1_i32_161 : BitVec 32 := 1#32
  let v275 : BitVec 32 := Scalar.subi arg1 c1_i32_161
  let c128_i32_166 : BitVec 32 := 128#32
  let v278 : BitVec 32 := Scalar.muli v275 c128_i32_166
  let v279 : BitVec 32 := v278
  let v280 : Index := Scalar.indexCast v279
  let c0_168 : Index := 0#32
  ![0, v280.toNat, 0]
def k0_off18 (i : grid0.Coords) : Fin 2 → Nat :=
  let c0_169 : Index := 0#32
  let arg1 : BitVec 32 := BitVec.ofNat 32 (i 1).val
  let c1_i32_161 : BitVec 32 := 1#32
  let v275 : BitVec 32 := Scalar.subi arg1 c1_i32_161
  let c128_i32_166 : BitVec 32 := 128#32
  let v278 : BitVec 32 := Scalar.muli v275 c128_i32_166
  let v279 : BitVec 32 := v278
  let v283 : Index := Scalar.indexCast v279
  ![0, v283.toNat]
def k0_mult34 (i : grid0.Coords) : BitVec 32 :=
  let arg1 : BitVec 32 := BitVec.ofNat 32 (i 1).val
  let c128_i32_86 : BitVec 32 := 128#32
  let v156 : BitVec 32 := Scalar.muli arg1 c128_i32_86
  v156
def k0_off19 (i : grid0.Coords) : Fin 2 → Nat :=
  let c0_89 : Index := 0#32
  let arg1 : BitVec 32 := BitVec.ofNat 32 (i 1).val
  let c128_i32_86 : BitVec 32 := 128#32
  let v156 : BitVec 32 := Scalar.muli arg1 c128_i32_86
  let v157 : BitVec 32 := v156
  let v161 : Index := Scalar.indexCast v157
  ![0, v161.toNat]
@[reducible] def k0_t20_loop (i : grid0.Coords) : Scf.Loop 32 :=
  let c0_i32_173 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v288 : BitVec 32 := Scalar.subi v95 c0_i32_173
  let c1_i32_174 : BitVec 32 := 1#32
  let v290 : BitVec 32 := Scalar.divsi v288 c1_i32_174
  let v291 : BitVec 32 := Scalar.muli v290 c1_i32_174
  let v292 : BitVec 32 := Scalar.addi c0_i32_173 v291
  let c1_i32_175 : BitVec 32 := 1#32
  ⟨c0_i32_173, v292, c1_i32_175⟩
def k0_mult35 (i : grid0.Coords) (k0_t20 : Fin (k0_t20_loop i).trips) : BitVec 32 :=
  let c0_i32_173 : BitVec 32 := 0#32
  let c1_i32_175 : BitVec 32 := 1#32
  let arg16 : BitVec 32 := Scf.iv c0_i32_173 c1_i32_175 k0_t20
  let c512_i32_206 : BitVec 32 := 512#32
  let v332 : BitVec 32 := Scalar.muli arg16 c512_i32_206
  v332
def k0_off20 (i : grid0.Coords) (k0_t20 : Fin (k0_t20_loop i).trips) : Fin 3 → Nat :=
  let c0_207 : Index := 0#32
  let c0_i32_173 : BitVec 32 := 0#32
  let c1_i32_175 : BitVec 32 := 1#32
  let arg16 : BitVec 32 := Scf.iv c0_i32_173 c1_i32_175 k0_t20
  let c512_i32_206 : BitVec 32 := 512#32
  let v332 : BitVec 32 := Scalar.muli arg16 c512_i32_206
  let v333 : BitVec 32 := v332
  let v334 : Index := Scalar.indexCast v333
  let c0_208 : Index := 0#32
  ![0, v334.toNat, 0]
def k0_off21 (i : grid0.Coords) (k0_t20 : Fin (k0_t20_loop i).trips) : Fin 2 → Nat :=
  let c0_209 : Index := 0#32
  let c0_i32_173 : BitVec 32 := 0#32
  let c1_i32_175 : BitVec 32 := 1#32
  let arg16 : BitVec 32 := Scf.iv c0_i32_173 c1_i32_175 k0_t20
  let c512_i32_206 : BitVec 32 := 512#32
  let v332 : BitVec 32 := Scalar.muli arg16 c512_i32_206
  let v333 : BitVec 32 := v332
  let v337 : Index := Scalar.indexCast v333
  ![0, v337.toNat]
@[reducible] def k0_t21_loop (i : grid0.Coords) : Scf.Loop 32 :=
  let c0_i32_173 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v288 : BitVec 32 := Scalar.subi v95 c0_i32_173
  let c1_i32_174 : BitVec 32 := 1#32
  let v290 : BitVec 32 := Scalar.divsi v288 c1_i32_174
  let v291 : BitVec 32 := Scalar.muli v290 c1_i32_174
  let v292 : BitVec 32 := Scalar.addi c0_i32_173 v291
  let v289 : BitVec 32 := Scalar.addi c0_i32_173 v288
  let c1_i32_176 : BitVec 32 := 1#32
  ⟨v292, v289, c1_i32_176⟩
def k0_mult36 (i : grid0.Coords) (k0_t21 : Fin (k0_t21_loop i).trips) : BitVec 32 :=
  let c0_i32_173 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v288 : BitVec 32 := Scalar.subi v95 c0_i32_173
  let c1_i32_174 : BitVec 32 := 1#32
  let v290 : BitVec 32 := Scalar.divsi v288 c1_i32_174
  let v291 : BitVec 32 := Scalar.muli v290 c1_i32_174
  let v292 : BitVec 32 := Scalar.addi c0_i32_173 v291
  let c1_i32_176 : BitVec 32 := 1#32
  let arg16 : BitVec 32 := Scf.iv v292 c1_i32_176 k0_t21
  let c512_i32_206 : BitVec 32 := 512#32
  let v332 : BitVec 32 := Scalar.muli arg16 c512_i32_206
  v332
def k0_off22 (i : grid0.Coords) (k0_t21 : Fin (k0_t21_loop i).trips) : Fin 3 → Nat :=
  let c0_207 : Index := 0#32
  let c0_i32_173 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v288 : BitVec 32 := Scalar.subi v95 c0_i32_173
  let c1_i32_174 : BitVec 32 := 1#32
  let v290 : BitVec 32 := Scalar.divsi v288 c1_i32_174
  let v291 : BitVec 32 := Scalar.muli v290 c1_i32_174
  let v292 : BitVec 32 := Scalar.addi c0_i32_173 v291
  let c1_i32_176 : BitVec 32 := 1#32
  let arg16 : BitVec 32 := Scf.iv v292 c1_i32_176 k0_t21
  let c512_i32_206 : BitVec 32 := 512#32
  let v332 : BitVec 32 := Scalar.muli arg16 c512_i32_206
  let v333 : BitVec 32 := v332
  let v334 : Index := Scalar.indexCast v333
  let c0_208 : Index := 0#32
  ![0, v334.toNat, 0]
def k0_off23 (i : grid0.Coords) (k0_t21 : Fin (k0_t21_loop i).trips) : Fin 2 → Nat :=
  let c0_209 : Index := 0#32
  let c0_i32_173 : BitVec 32 := 0#32
  let arg1 : BitVec 32 := BitVec.ofNat 32 (i 1).val
  let c1_i32_29 : BitVec 32 := 1#32
  let v74 : BitVec 32 := Scalar.subi arg1 c1_i32_29
  let c0_i32_30 : BitVec 32 := 0#32
  let v75 : BitVec 32 := Scalar.maxsi v74 c0_i32_30
  let c128_i32_31 : BitVec 32 := 128#32
  let v76 : BitVec 32 := Scalar.muli v75 c128_i32_31
  let c512_i32_32 : BitVec 32 := 512#32
  let v77 : BitVec 32 := Scalar.addi v76 c512_i32_32
  let c1_i32_33 : BitVec 32 := 1#32
  let v78 : BitVec 32 := Scalar.subi v77 c1_i32_33
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c512_i32_34 : BitVec 32 := 512#32
  let c0_i32_37 : BitVec 32 := 0#32
  let v85 : BitVec 1 := Scalar.cmpi .sgt c512_i32_34 c0_i32_37
  let v86 : BitVec 32 := Scalar.extui v85
  let c0_i32_38 : BitVec 32 := 0#32
  let v87 : BitVec 1 := Scalar.cmpi .slt c512_i32_34 c0_i32_38
  let v88 : BitVec 32 := Scalar.extui v87
  let v89 : BitVec 32 := Scalar.subi v86 v88
  let v90 : BitVec 1 := Scalar.cmpi .ne v84 v89
  let v91 : BitVec 32 := Scalar.remsi v78 c512_i32_34
  let c0_i32_39 : BitVec 32 := 0#32
  let v92 : BitVec 1 := Scalar.cmpi .ne v91 c0_i32_39
  let v93 : BitVec 1 := Scalar.andi v90 v92
  let v79 : BitVec 32 := Scalar.divsi v78 c512_i32_34
  let c1_i32_40 : BitVec 32 := 1#32
  let v94 : BitVec 32 := Scalar.subi v79 c1_i32_40
  let v95 : BitVec 32 := Scalar.select v93 v94 v79
  let v288 : BitVec 32 := Scalar.subi v95 c0_i32_173
  let c1_i32_174 : BitVec 32 := 1#32
  let v290 : BitVec 32 := Scalar.divsi v288 c1_i32_174
  let v291 : BitVec 32 := Scalar.muli v290 c1_i32_174
  let v292 : BitVec 32 := Scalar.addi c0_i32_173 v291
  let c1_i32_176 : BitVec 32 := 1#32
  let arg16 : BitVec 32 := Scf.iv v292 c1_i32_176 k0_t21
  let c512_i32_206 : BitVec 32 := 512#32
  let v332 : BitVec 32 := Scalar.muli arg16 c512_i32_206
  let v333 : BitVec 32 := v332
  let v337 : Index := Scalar.indexCast v333
  ![0, v337.toNat]
def k0_cond14 (i : grid0.Coords) : BitVec 1 :=
  let arg1 : BitVec 32 := BitVec.ofNat 32 (i 1).val
  let c1_i32_177 : BitVec 32 := 1#32
  let v293 : BitVec 1 := Scalar.cmpi .sge arg1 c1_i32_177
  let v294 : BitVec 32 := Scalar.extui v293
  let c0_i32_178 : BitVec 32 := 0#32
  let v295 : BitVec 1 := Scalar.cmpi .ne v294 c0_i32_178
  v295

def k0_mult37 (i : grid0.Coords) : BitVec 32 :=
  let arg1 : BitVec 32 := BitVec.ofNat 32 (i 1).val
  let c1_i32_206 : BitVec 32 := 1#32
  let v332 : BitVec 32 := Scalar.subi arg1 c1_i32_206
  let c128_i32_211 : BitVec 32 := 128#32
  let v335 : BitVec 32 := Scalar.muli v332 c128_i32_211
  v335
def k0_off24 (i : grid0.Coords) : Fin 3 → Nat :=
  let c0_212 : Index := 0#32
  let arg1 : BitVec 32 := BitVec.ofNat 32 (i 1).val
  let c1_i32_206 : BitVec 32 := 1#32
  let v332 : BitVec 32 := Scalar.subi arg1 c1_i32_206
  let c128_i32_211 : BitVec 32 := 128#32
  let v335 : BitVec 32 := Scalar.muli v332 c128_i32_211
  let v336 : BitVec 32 := v335
  let v337 : Index := Scalar.indexCast v336
  let c0_213 : Index := 0#32
  ![0, v337.toNat, 0]
def k0_off25 (i : grid0.Coords) : Fin 2 → Nat :=
  let c0_214 : Index := 0#32
  let arg1 : BitVec 32 := BitVec.ofNat 32 (i 1).val
  let c1_i32_206 : BitVec 32 := 1#32
  let v332 : BitVec 32 := Scalar.subi arg1 c1_i32_206
  let c128_i32_211 : BitVec 32 := 128#32
  let v335 : BitVec 32 := Scalar.muli v332 c128_i32_211
  let v336 : BitVec 32 := v335
  let v340 : Index := Scalar.indexCast v336
  ![0, v340.toNat]
def k0_mult38 (i : grid0.Coords) : BitVec 32 :=
  let arg1 : BitVec 32 := BitVec.ofNat 32 (i 1).val
  let c128_i32_183 : BitVec 32 := 128#32
  let v298 : BitVec 32 := Scalar.muli arg1 c128_i32_183
  v298
def k0_off26 (i : grid0.Coords) : Fin 3 → Nat :=
  let c0_184 : Index := 0#32
  let arg1 : BitVec 32 := BitVec.ofNat 32 (i 1).val
  let c128_i32_183 : BitVec 32 := 128#32
  let v298 : BitVec 32 := Scalar.muli arg1 c128_i32_183
  let v299 : BitVec 32 := v298
  let v300 : Index := Scalar.indexCast v299
  let c0_185 : Index := 0#32
  ![0, v300.toNat, 0]
def k0_off27 (i : grid0.Coords) : Fin 2 → Nat :=
  let c0_186 : Index := 0#32
  let arg1 : BitVec 32 := BitVec.ofNat 32 (i 1).val
  let c128_i32_183 : BitVec 32 := 128#32
  let v298 : BitVec 32 := Scalar.muli arg1 c128_i32_183
  let v299 : BitVec 32 := v298
  let v303 : Index := Scalar.indexCast v299
  ![0, v303.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Merge.lean ====
abbrev S4x4096x1024 : Shape := ⟨3, ![4, 4096, 1024]⟩
abbrev S4x4096x512 : Shape := ⟨3, ![4, 4096, 512]⟩
abbrev S1024x5800 : Shape := ⟨2, ![1024, 5800]⟩
abbrev S512x1024 : Shape := ⟨2, ![512, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S4x1024x4096 : Shape := ⟨3, ![4, 1024, 4096]⟩
abbrev S1x512x1024 : Shape := ⟨3, ![1, 512, 1024]⟩
abbrev S1x512x512 : Shape := ⟨3, ![1, 512, 512]⟩
abbrev S1x1024x512 : Shape := ⟨3, ![1, 1024, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 22
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S1024x5800, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5800, .bf16⟩
  | .hbm, ⟨12, _⟩ => ⟨S1024x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S4x4096x1024, .f32⟩
  | .hbm, ⟨20, _⟩ => ⟨S4x4096x1024, .bf16⟩
  | .hbm, ⟨21, _⟩ => ⟨S4x1024x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1024x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1024x512, .bf16⟩
  | .local _ .vmem, ⟨20, _⟩ => ⟨S1x1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S4x4096x1024 : Shape := ⟨3, ![4, 4096, 1024]⟩
abbrev S4x4096x512 : Shape := ⟨3, ![4, 4096, 512]⟩
abbrev S1024x5800 : Shape := ⟨2, ![1024, 5800]⟩
abbrev S512x1024 : Shape := ⟨2, ![512, 1024]⟩
abbrev S1024x1024 : Shape := ⟨2, ![1024, 1024]⟩
abbrev S1024 : Shape := ⟨1, ![1024]⟩
abbrev S4x4096x5800 : Shape := ⟨3, ![4, 4096, 5800]⟩
abbrev S4x4096x3072 : Shape := ⟨3, ![4, 4096, 3072]⟩
abbrev S_ : Shape := ⟨0, ![]⟩
abbrev S4x4096x3x1024 : Shape := ⟨4, ![4, 4096, 3, 1024]⟩
abbrev S4x4096x1x1024 : Shape := ⟨4, ![4, 4096, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x1024x4096 : Shape := ⟨3, ![4, 1024, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S1024x5800, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S4x4096x5800, .f32⟩
  | .hbm, ⟨12, _⟩ => ⟨S4x4096x3072, .f32⟩
  | .hbm, ⟨13, _⟩ => ⟨S4x4096x3072, .f32⟩
  | .hbm, ⟨14, _⟩ => ⟨S4x4096x3072, .f32⟩
  | .hbm, ⟨15, _⟩ => ⟨S_, .f32⟩
  | .hbm, ⟨16, _⟩ => ⟨S4x4096x3072, .f32⟩
  | .hbm, ⟨17, _⟩ => ⟨S4x4096x3072, .f32⟩
  | .hbm, ⟨18, _⟩ => ⟨S_, .f32⟩
  | .hbm, ⟨19, _⟩ => ⟨S4x4096x3072, .f32⟩
  | .hbm, ⟨20, _⟩ => ⟨S4x4096x3072, .f32⟩
  | .hbm, ⟨21, _⟩ => ⟨S4x4096x3x1024, .f32⟩
  | .hbm, ⟨22, _⟩ => ⟨S4x4096x1x1024, .f32⟩
  | .hbm, ⟨23, _⟩ => ⟨S4x4096x1024, .f32⟩
  | .hbm, ⟨24, _⟩ => ⟨S4x4096x512, .f32⟩
  | .hbm, ⟨25, _⟩ => ⟨S4x4096x1024, .f32⟩
  | .hbm, ⟨26, _⟩ => ⟨S4x4096x1024, .f32⟩
  | .hbm, ⟨27, _⟩ => ⟨S4x4096x1x1024, .f32⟩
  | .hbm, ⟨28, _⟩ => ⟨S4x4096x1024, .f32⟩
  | .hbm, ⟨29, _⟩ => ⟨S4x4096x512, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1x1024, .f32⟩
  | .hbm, ⟨34, _⟩ => ⟨S4x4096x1024, .f32⟩
  | .hbm, ⟨35, _⟩ => ⟨S4x4096x512, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S4x4096x1024, .bf16⟩
  | .hbm, ⟨74, _⟩ => ⟨S4x1024x4096, .f32⟩
  | .hbm, ⟨75, _⟩ => ⟨S4x1024x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== InDsa.lean ====
abbrev S4x4096x1024 : Shape := ⟨3, ![4, 4096, 1024]⟩
abbrev S1024x5800 : Shape := ⟨2, ![1024, 5800]⟩
abbrev S16384x1024 : Shape := ⟨2, ![16384, 1024]⟩
abbrev S1024x424 : Shape := ⟨2, ![1024, 424]⟩
abbrev S16384x424 : Shape := ⟨2, ![16384, 424]⟩
abbrev S2048x1024 : Shape := ⟨2, ![2048, 1024]⟩
abbrev S2048x424 : Shape := ⟨2, ![2048, 424]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S16384x1024, .f32⟩
  | .hbm, ⟨3, _⟩ => ⟨S16384x1024, .bf16⟩
  | .hbm, ⟨4, _⟩ => ⟨S1024x5800, .bf16⟩
  | .hbm, ⟨5, _⟩ => ⟨S1024x424, .bf16⟩
  | .hbm, ⟨6, _⟩ => ⟨S16384x424, .f32⟩
  | .local _ .vmem, ⟨0, _⟩ => ⟨S2048x1024, .bf16⟩
  | .local _ .vmem, ⟨1, _⟩ => ⟨S2048x1024, .bf16⟩
  | .local _ .vmem, ⟨2, _⟩ => ⟨S1024x424, .bf16⟩
  | .local _ .vmem, ⟨3, _⟩ => ⟨S2048x424, .f32⟩
  | .local _ .vmem, ⟨4, _⟩ => ⟨S2048x424, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x424 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDsaRefIdeal.lean ====
abbrev S4x4096x1024 : Shape := ⟨3, ![4, 4096, 1024]⟩
abbrev S1024x5800 : Shape := ⟨2, ![1024, 5800]⟩
abbrev S4x4096x5800 : Shape := ⟨3, ![4, 4096, 5800]⟩
abbrev S4x4096x424 : Shape := ⟨3, ![4, 4096, 424]⟩
abbrev S16384x424 : Shape := ⟨2, ![16384, 424]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S4x4096x5800, .f32⟩
  | .hbm, ⟨3, _⟩ => ⟨S4x4096x424, .f32⟩
  | .hbm, ⟨4, _⟩ => ⟨S16384x424, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRwkv.lean ====
abbrev S4x4096x1024 : Shape := ⟨3, ![4, 4096, 1024]⟩
abbrev S1024x5800 : Shape := ⟨2, ![1024, 5800]⟩
abbrev S16384x1024 : Shape := ⟨2, ![16384, 1024]⟩
abbrev S1024x1792 : Shape := ⟨2, ![1024, 1792]⟩
abbrev S16384x1792 : Shape := ⟨2, ![16384, 1792]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S16384x1024, .f32⟩
  | .hbm, ⟨3, _⟩ => ⟨S16384x1024, .bf16⟩
  | .hbm, ⟨4, _⟩ => ⟨S1024x5800, .bf16⟩
  | .hbm, ⟨5, _⟩ => ⟨S1024x1792, .bf16⟩
  | .hbm, ⟨6, _⟩ => ⟨S16384x1792, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRwkvRefIdeal.lean ====
abbrev S4x4096x1024 : Shape := ⟨3, ![4, 4096, 1024]⟩
abbrev S1024x5800 : Shape := ⟨2, ![1024, 5800]⟩
abbrev S4x4096x5800 : Shape := ⟨3, ![4, 4096, 5800]⟩
abbrev S4x4096x1792 : Shape := ⟨3, ![4, 4096, 1792]⟩
abbrev S16384x1792 : Shape := ⟨2, ![16384, 1792]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S4x4096x5800, .f32⟩
  | .hbm, ⟨3, _⟩ => ⟨S4x4096x1792, .f32⟩
  | .hbm, ⟨4, _⟩ => ⟨S16384x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InMem.lean ====
abbrev S4x4096x1024 : Shape := ⟨3, ![4, 4096, 1024]⟩
abbrev S1024x5800 : Shape := ⟨2, ![1024, 5800]⟩
abbrev S16384x1024 : Shape := ⟨2, ![16384, 1024]⟩
abbrev S1024x512 : Shape := ⟨2, ![1024, 512]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S16384x1024, .f32⟩
  | .hbm, ⟨3, _⟩ => ⟨S16384x1024, .bf16⟩
  | .hbm, ⟨4, _⟩ => ⟨S1024x5800, .bf16⟩
  | .hbm, ⟨5, _⟩ => ⟨S1024x512, .bf16⟩
  | .hbm, ⟨6, _⟩ => ⟨S16384x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMemRefIdeal.lean ====
abbrev S4x4096x1024 : Shape := ⟨3, ![4, 4096, 1024]⟩
abbrev S1024x5800 : Shape := ⟨2, ![1024, 5800]⟩
abbrev S4x4096x5800 : Shape := ⟨3, ![4, 4096, 5800]⟩
abbrev S4x4096x512 : Shape := ⟨3, ![4, 4096, 512]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5800, .f32⟩
  | .hbm, ⟨2, _⟩ => ⟨S4x4096x5800, .f32⟩
  | .hbm, ⟨3, _⟩ => ⟨S4x4096x512, .f32⟩
  | .hbm, ⟨4, _⟩ => ⟨S16384x512, .f32⟩
  | .hbm, ⟨5, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemKv.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S4x256x1024 : Shape := ⟨3, ![4, 256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x256x1024, .f32⟩
  | .hbm, ⟨3, _⟩ => ⟨S1024x1024, .f32⟩
  | .hbm, ⟨4, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemAttn.lean ====
abbrev S4x4096x512 : Shape := ⟨3, ![4, 4096, 512]⟩
abbrev S4x256x1024 : Shape := ⟨3, ![4, 256, 1024]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .bf16⟩
  | .hbm, ⟨1, _⟩ => ⟨S4x256x1024, .bf16⟩
  | .hbm, ⟨2, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S4x4096x512 : Shape := ⟨3, ![4, 4096, 512]⟩
abbrev S4x256x1024 : Shape := ⟨3, ![4, 256, 1024]⟩
abbrev S4x4096x4x128 : Shape := ⟨4, ![4, 4096, 4, 128]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x256x1024, .bf16⟩
  | .hbm, ⟨2, _⟩ => ⟨S4x4096x512, .f32⟩
  | .hbm, ⟨3, _⟩ => ⟨S4x4096x4x128, .f32⟩
  | .hbm, ⟨4, _⟩ => ⟨S4x256x512, .bf16⟩
  | .hbm, ⟨5, _⟩ => ⟨S4x256x512, .f32⟩
  | .hbm, ⟨6, _⟩ => ⟨S4x256x4x128, .f32⟩
  | .hbm, ⟨7, _⟩ => ⟨S4x256x512, .bf16⟩
  | .hbm, ⟨8, _⟩ => ⟨S4x256x512, .f32⟩
  | .hbm, ⟨9, _⟩ => ⟨S4x256x4x128, .f32⟩
  | .hbm, ⟨10, _⟩ => ⟨S4x4x4096x256, .f32⟩
  | .hbm, ⟨11, _⟩ => ⟨S_, .f32⟩
  | .hbm, ⟨12, _⟩ => ⟨S4x4x4096x256, .f32⟩
  | .hbm, ⟨13, _⟩ => ⟨S4x4x4096x256, .f32⟩
  | .hbm, ⟨14, _⟩ => ⟨S_, .f32⟩
  | .hbm, ⟨15, _⟩ => ⟨S4x4x4096, .f32⟩
  | .hbm, ⟨16, _⟩ => ⟨S_, .f32⟩
  | .hbm, ⟨17, _⟩ => ⟨S4x4x4096, .f32⟩
  | .hbm, ⟨18, _⟩ => ⟨S4x4x4096, .f32⟩
  | .hbm, ⟨19, _⟩ => ⟨S4x4x4096x1, .f32⟩
  | .hbm, ⟨20, _⟩ => ⟨S4x4x4096x256, .f32⟩
  | .hbm, ⟨21, _⟩ => ⟨S4x4x4096x256, .f32⟩
  | .hbm, ⟨22, _⟩ => ⟨S4x4x4096x256, .f32⟩
  | .hbm, ⟨23, _⟩ => ⟨S_, .f32⟩
  | .hbm, ⟨24, _⟩ => ⟨S4x4x4096, .f32⟩
  | .hbm, ⟨25, _⟩ => ⟨S4x4x4096x1, .f32⟩
  | .hbm, ⟨26, _⟩ => ⟨S4x4x4096x256, .f32⟩
  | .hbm, ⟨27, _⟩ => ⟨S4x4x4096x256, .f32⟩
  | .hbm, ⟨28, _⟩ => ⟨S4x4x128x4096, .f32⟩
  | .hbm, ⟨29, _⟩ => ⟨S4x4096x4x128, .f32⟩
  | .hbm, ⟨30, _⟩ => ⟨S4x4096x512, .f32⟩
  | .hbm, ⟨31, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Experts.lean ====
abbrev S4x4096x1024 : Shape := ⟨3, ![4, 4096, 1024]⟩
abbrev S4x8x128x4096 : Shape := ⟨4, ![4, 8, 128, 4096]⟩
abbrev S16384x1024 : Shape := ⟨2, ![16384, 1024]⟩
abbrev S1024 : Shape := ⟨1, ![1024]⟩
abbrev S4x1024x4096 : Shape := ⟨3, ![4, 1024, 4096]⟩
abbrev S1024x16384 : Shape := ⟨2, ![1024, 16384]⟩
abbrev S1x1024 : Shape := ⟨2, ![1, 1024]⟩
abbrev S1x1024x1024 : Shape := ⟨3, ![1, 1024, 1024]⟩
abbrev S1x8x8x1024 : Shape := ⟨4, ![1, 8, 8, 1024]⟩
abbrev S1x8x128x1024 : Shape := ⟨4, ![1, 8, 128, 1024]⟩
abbrev S1024x1024 : Shape := ⟨2, ![1024, 1024]⟩
abbrev S128x1024 : Shape := ⟨2, ![128, 1024]⟩
abbrev S1x1x1x1024 : Shape := ⟨4, ![1, 1, 1, 1024]⟩
abbrev S1x1x128x1024 : Shape := ⟨4, ![1, 1, 128, 1024]⟩
abbrev S1024x1 : Shape := ⟨2, ![1024, 1]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x8x128x4096, .f32⟩
  | .hbm, ⟨2, _⟩ => ⟨S4x8x128x4096, .f32⟩
  | .hbm, ⟨3, _⟩ => ⟨S4x8x128x4096, .bf16⟩
  | .hbm, ⟨4, _⟩ => ⟨S4x8x128x4096, .bf16⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S1024, .f32⟩
  | .hbm, ⟨9, _⟩ => ⟨S4x1024x4096, .f32⟩
  | .hbm, ⟨10, _⟩ => ⟨S4x1024x4096, .bf16⟩
  | .hbm, ⟨11, _⟩ => ⟨S16384x1024, .bf16⟩
  | .hbm, ⟨12, _⟩ => ⟨S1024x16384, .f32⟩
  | .hbm, ⟨13, _⟩ => ⟨S1024x16384, .bf16⟩
  | .hbm, ⟨14, _⟩ => ⟨S1x1024, .f32⟩
  | .hbm, ⟨15, _⟩ => ⟨S1x1024, .f32⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x8x8x1024, .f32⟩
  | .local _ .vmem, ⟨5, _⟩ => ⟨S1x8x8x1024, .f32⟩
  | .local _ .vmem, ⟨6, _⟩ => ⟨S1x8x8x1024, .f32⟩
  | .local _ .vmem, ⟨7, _⟩ => ⟨S1x8x8x1024, .f32⟩
  | .local _ .vmem, ⟨8, _⟩ => ⟨S1x8x128x1024, .bf16⟩
  | .local _ .vmem, ⟨9, _⟩ => ⟨S1x8x128x1024, .bf16⟩
  | .local _ .vmem, ⟨10, _⟩ => ⟨S1x8x128x1024, .bf16⟩
  | .local _ .vmem, ⟨11, _⟩ => ⟨S1x8x128x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v1123 : BitVec 1 := Scalar.cmpi .eq arg2 c15_i32
  let v1124 : BitVec 32 := Scalar.extui v1123
  let c0_i32_1104 : BitVec 32 := 0#32
  let v1125 : BitVec 1 := Scalar.cmpi .ne v1124 c0_i32_1104
  v1125

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ExpertsRefIdeal.lean ====
abbrev S4x4096x1024 : Shape := ⟨3, ![4, 4096, 1024]⟩
abbrev S4x8x128x4096 : Shape := ⟨4, ![4, 8, 128, 4096]⟩
abbrev S16384x1024 : Shape := ⟨2, ![16384, 1024]⟩
abbrev S1024 : Shape := ⟨1, ![1024]⟩
abbrev S4x8x1x128x4096 : Shape := ⟨5, ![4, 8, 1, 128, 4096]⟩
abbrev S4x8x128x1x4096 : Shape := ⟨5, ![4, 8, 128, 1, 4096]⟩
abbrev S4x8x128x128x4096 : Shape := ⟨5, ![4, 8, 128, 128, 4096]⟩
abbrev S_ : Shape := ⟨0, ![]⟩
abbrev S4x128x128x4096 : Shape := ⟨4, ![4, 128, 128, 4096]⟩
abbrev S4x16384x4096 : Shape := ⟨3, ![4, 16384, 4096]⟩
abbrev S4x4096x16384 : Shape := ⟨3, ![4, 4096, 16384]⟩
abbrev S1024x16384 : Shape := ⟨2, ![1024, 16384]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x128x4096, .f32⟩
  | .hbm, ⟨2, _⟩ => ⟨S4x8x128x4096, .f32⟩
  | .hbm, ⟨3, _⟩ => ⟨S4x8x128x4096, .bf16⟩
  | .hbm, ⟨4, _⟩ => ⟨S4x8x128x4096, .bf16⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S1024, .f32⟩
  | .hbm, ⟨9, _⟩ => ⟨S4x8x128x4096, .f32⟩
  | .hbm, ⟨10, _⟩ => ⟨S4x8x1x128x4096, .f32⟩
  | .hbm, ⟨11, _⟩ => ⟨S4x8x128x1x4096, .f32⟩
  | .hbm, ⟨12, _⟩ => ⟨S4x8x128x128x4096, .f32⟩
  | .hbm, ⟨13, _⟩ => ⟨S4x8x128x128x4096, .f32⟩
  | .hbm, ⟨14, _⟩ => ⟨S4x8x128x128x4096, .i1⟩
  | .hbm, ⟨15, _⟩ => ⟨S4x8x128x4096, .f32⟩
  | .hbm, ⟨16, _⟩ => ⟨S4x8x1x128x4096, .f32⟩
  | .hbm, ⟨17, _⟩ => ⟨S_, .f32⟩
  | .hbm, ⟨18, _⟩ => ⟨S_, .f32⟩
  | .hbm, ⟨19, _⟩ => ⟨S4x8x128x128x4096, .f32⟩
  | .hbm, ⟨20, _⟩ => ⟨S4x8x128x128x4096, .f32⟩
  | .hbm, ⟨21, _⟩ => ⟨S4x8x128x128x4096, .f32⟩
  | .hbm, ⟨22, _⟩ => ⟨S4x8x128x1x4096, .f32⟩
  | .hbm, ⟨23, _⟩ => ⟨S4x8x128x128x4096, .f32⟩
  | .hbm, ⟨24, _⟩ => ⟨S4x8x128x128x4096, .f32⟩
  | .hbm, ⟨25, _⟩ => ⟨S_, .f32⟩
  | .hbm, ⟨26, _⟩ => ⟨S4x128x128x4096, .f32⟩
  | .hbm, ⟨27, _⟩ => ⟨S4x16384x4096, .f32⟩
  | .hbm, ⟨28, _⟩ => ⟨S4x4096x16384, .f32⟩
  | .hbm, ⟨29, _⟩ => ⟨S1024x16384, .f32⟩
  | .hbm, ⟨30, _⟩ => ⟨S4x4096x16384, .f32⟩
  | .hbm, ⟨31, _⟩ => ⟨S_, .f32⟩
  | .hbm, ⟨32, _⟩ => ⟨S4x4096x16384, .f32⟩
  | .hbm, ⟨33, _⟩ => ⟨S4x4096x16384, .f32⟩
  | .hbm, ⟨34, _⟩ => ⟨S4x4096x16384, .f32⟩
  | .hbm, ⟨35, _⟩ => ⟨S_, .f32⟩
  | .hbm, ⟨36, _⟩ => ⟨S4x4096x16384, .f32⟩
  | .hbm, ⟨37, _⟩ => ⟨S4x4096x16384, .f32⟩
  | .hbm, ⟨38, _⟩ => ⟨S4x4096x16384, .f32⟩
  | .hbm, ⟨39, _⟩ => ⟨S4x4096x16384, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x16384, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S1x1x1024, .f32⟩
  | .hbm, ⟨73, _⟩ => ⟨S4x4096x1024, .f32⟩
  | .hbm, ⟨74, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== DsaPrep.lean ====
abbrev S4x4096x424 : Shape := ⟨3, ![4, 4096, 424]⟩
abbrev S256 : Shape := ⟨1, ![256]⟩
abbrev S128 : Shape := ⟨1, ![128]⟩
abbrev S256x512 : Shape := ⟨2, ![256, 512]⟩
abbrev S128x8x64 : Shape := ⟨3, ![128, 8, 64]⟩
abbrev S256x256 : Shape := ⟨2, ![256, 256]⟩
abbrev S256x8x64 : Shape := ⟨3, ![256, 8, 64]⟩
abbrev S8x256x64 : Shape := ⟨3, ![8, 256, 64]⟩
abbrev S8x64x128 : Shape := ⟨3, ![8, 64, 128]⟩
abbrev S256x8x32 : Shape := ⟨3, ![256, 8, 32]⟩
abbrev S8x256x32 : Shape := ⟨3, ![8, 256, 32]⟩
abbrev S1x256 : Shape := ⟨2, ![1, 256]⟩
abbrev S1x128 : Shape := ⟨2, ![1, 128]⟩
abbrev S4x8x4096x128 : Shape := ⟨4, ![4, 8, 4096, 128]⟩
abbrev S4x8x4096x32 : Shape := ⟨4, ![4, 8, 4096, 32]⟩
abbrev S4x4096x8 : Shape := ⟨3, ![4, 4096, 8]⟩
abbrev S4x4096x32 : Shape := ⟨3, ![4, 4096, 32]⟩
abbrev S4x4096x128 : Shape := ⟨3, ![4, 4096, 128]⟩
abbrev S1x512x424 : Shape := ⟨3, ![1, 512, 424]⟩
abbrev S1x8x512x128 : Shape := ⟨4, ![1, 8, 512, 128]⟩
abbrev S1x8x512x32 : Shape := ⟨4, ![1, 8, 512, 32]⟩
abbrev S1x512x8 : Shape := ⟨3, ![1, 512, 8]⟩
abbrev S1x512x32 : Shape := ⟨3, ![1, 512, 32]⟩
abbrev S1x512x128 : Shape := ⟨3, ![1, 512, 128]⟩
abbrev S512x424 : Shape := ⟨2, ![512, 424]⟩
abbrev S512x256 : Shape := ⟨2, ![512, 256]⟩
abbrev S512x128 : Shape := ⟨2, ![512, 128]⟩
abbrev S512x32 : Shape := ⟨2, ![512, 32]⟩
abbrev S512x8 : Shape := ⟨2, ![512, 8]⟩
abbrev S512 : Shape := ⟨1, ![512]⟩
abbrev S512x1 : Shape := ⟨2, ![512, 1]⟩
abbrev S1x256x64 : Shape := ⟨3, ![1, 256, 64]⟩
abbrev S256x64 : Shape := ⟨2, ![256, 64]⟩
abbrev S512x64 : Shape := ⟨2, ![512, 64]⟩
abbrev S1x64x128 : Shape := ⟨3, ![1, 64, 128]⟩
abbrev S64x128 : Shape := ⟨2, ![64, 128]⟩
abbrev S1x1x512x128 : Shape := ⟨4, ![1, 1, 512, 128]⟩
abbrev S1x256x32 : Shape := ⟨3, ![1, 256, 32]⟩
abbrev S256x32 : Shape := ⟨2, ![256, 32]⟩
abbrev S1x1x512x32 : Shape := ⟨4, ![1, 1, 512, 32]⟩

abbrev nBuf : Space → Nat
  | .hbm => 21
  | .vmem => 17
  | .smem => 0
  | _ => 0

abbrev bufTy : (tb : Table) → Fin (tcTables nBuf tb) → BufTy
  | .hbm, ⟨0, _⟩ => ⟨S4x4096x424, .f32⟩
  | .hbm, ⟨1, _⟩ => ⟨S256, .f32⟩
  | .hbm, ⟨2, _⟩ => ⟨S128, .f32⟩
  | .hbm, ⟨3, _⟩ => ⟨S256x512, .f32⟩
  | .hbm, ⟨4, _⟩ => ⟨S128x8x64, .f32⟩
  | .hbm, ⟨5, _⟩ => ⟨S256x256, .f32⟩
  | .hbm, ⟨6, _⟩ => ⟨S256x8x64, .f32⟩
  | .hbm, ⟨7, _⟩ => ⟨S8x256x64, .f32⟩
  | .hbm, ⟨8, _⟩ => ⟨S8x256x64, .bf16⟩
  | .hbm, ⟨9, _⟩ => ⟨S8x64x128, .f32⟩
  | .hbm, ⟨10, _⟩ => ⟨S8x64x128, .bf16⟩
  | .hbm, ⟨11, _⟩ => ⟨S256x8x32, .f32⟩
  | .hbm, ⟨12, _⟩ => ⟨S8x256x32, .f32⟩
  | .hbm, ⟨13, _⟩ => ⟨S8x256x32, .bf16⟩
  | .hbm, ⟨14, _⟩ => ⟨S1x256, .f32⟩
  | .hbm, ⟨15, _⟩ => ⟨S1x128, .f32⟩
  | .hbm, ⟨16, _⟩ => ⟨S4x8x4096x128, .bf16⟩
  | .hbm, ⟨17, _⟩ => ⟨S4x8x4096x32, .bf16⟩
  | .hbm, ⟨18, _⟩ => ⟨S4x4096x8, .f32⟩
  | .hbm, ⟨19, _⟩ => ⟨S4x4096x32, .bf16⟩
  | .hbm, ⟨20, _⟩ => ⟨S4x4096x128, .bf16⟩
  | .local _ .vmem, ⟨0, _⟩ => ⟨S1x512x424, .f32⟩
  | .local _ .vmem, ⟨1, _⟩ => ⟨S1x512x424, .f32⟩
  | .local _ .vmem, ⟨2, _⟩ => ⟨S1x256, .f32⟩
  | .local _ .vmem, ⟨3, _⟩ => ⟨S1x128, .f32⟩
  | .local _ .vmem, ⟨4, _⟩ => ⟨S8x256x64, .bf16⟩
  | .local _ .vmem, ⟨5, _⟩ => ⟨S8x64x128, .bf16⟩
  | .local _ .vmem, ⟨6, _⟩ => ⟨S8x256x32, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x8x512x32, .bf16⟩
  | .local _ .vmem, ⟨10, _⟩ => ⟨S1x8x512x32, .bf16⟩
  | .local _ .vmem, ⟨11, _⟩ => ⟨S1x512x8, .f32⟩
  | .local _ .vmem, ⟨12, _⟩ => ⟨S1x512x8, .f32⟩
  | .local _ .vmem, ⟨13, _⟩ => ⟨S1x512x32, .bf16⟩
  | .local _ .vmem, ⟨14, _⟩ => ⟨S1x512x32, .bf16⟩
  | .local _ .vmem, ⟨15, _⟩ => ⟨S1x512x128, .bf16⟩
  | .local _ .vmem, ⟨16, _⟩ => ⟨S1x512x128, .bf16⟩
  | _, _ => ⟨S4x4096x424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x32 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== DsaPrepRefIdeal.lean ====
abbrev S4x4096x424 : Shape := ⟨3, ![4, 4096, 424]⟩
abbrev S256 : Shape := ⟨1, ![256]⟩
abbrev S128 : Shape := ⟨1, ![128]⟩
abbrev S256x512 : Shape := ⟨2, ![256, 512]⟩
abbrev S128x8x64 : Shape := ⟨3, ![128, 8, 64]⟩
abbrev S256x256 : Shape := ⟨2, ![256, 256]⟩
abbrev S4x4096x256 : Shape := ⟨3, ![4, 4096, 256]⟩
abbrev S4x4096x128 : Shape := ⟨3, ![4, 4096, 128]⟩
abbrev S4x4096x32 : Shape := ⟨3, ![4, 4096, 32]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S1x1x128 : Shape := ⟨3, ![1, 1, 128]⟩
abbrev S4x4096x512 : Shape := ⟨3, ![4, 4096, 512]⟩
abbrev S4x4096x8x64 : Shape := ⟨4, ![4, 4096, 8, 64]⟩
abbrev S8x128x4x4096 : Shape := ⟨4, ![8, 128, 4, 4096]⟩
abbrev S4x4096x8x128 : Shape := ⟨4, ![4, 4096, 8, 128]⟩
abbrev S4x4096x8x32 : Shape := ⟨4, ![4, 4096, 8, 32]⟩
abbrev S4x8x4096x128 : Shape := ⟨4, ![4, 8, 4096, 128]⟩
abbrev S4x8x4096x32 : Shape := ⟨4, ![4, 8, 4096, 32]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x424, .f32⟩
  | .hbm, ⟨1, _⟩ => ⟨S256, .f32⟩
  | .hbm, ⟨2, _⟩ => ⟨S128, .f32⟩
  | .hbm, ⟨3, _⟩ => ⟨S256x512, .f32⟩
  | .hbm, ⟨4, _⟩ => ⟨S128x8x64, .f32⟩
  | .hbm, ⟨5, _⟩ => ⟨S256x256, .f32⟩
  | .hbm, ⟨6, _⟩ => ⟨S4x4096x256, .f32⟩
  | .hbm, ⟨7, _⟩ => ⟨S4x4096x128, .f32⟩
  | .hbm, ⟨8, _⟩ => ⟨S4x4096x32, .f32⟩
  | .hbm, ⟨9, _⟩ => ⟨S4x4096x8, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S1x1x256, .f32⟩
  | .hbm, ⟨24, _⟩ => ⟨S4x4096x256, .f32⟩
  | .hbm, ⟨25, _⟩ => ⟨S4x4096x256, .f32⟩
  | .hbm, ⟨26, _⟩ => ⟨S4x4096x128, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x128, .f32⟩
  | .hbm, ⟨38, _⟩ => ⟨S4x4096x128, .f32⟩
  | .hbm, ⟨39, _⟩ => ⟨S1x1x128, .f32⟩
  | .hbm, ⟨40, _⟩ => ⟨S4x4096x128, .f32⟩
  | .hbm, ⟨41, _⟩ => ⟨S4x4096x128, .f32⟩
  | .hbm, ⟨42, _⟩ => ⟨S4x4096x512, .f32⟩
  | .hbm, ⟨43, _⟩ => ⟨S4x4096x8x64, .f32⟩
  | .hbm, ⟨44, _⟩ => ⟨S8x128x4x4096, .f32⟩
  | .hbm, ⟨45, _⟩ => ⟨S4x4096x8x128, .f32⟩
  | .hbm, ⟨46, _⟩ => ⟨S_, .f32⟩
  | .hbm, ⟨47, _⟩ => ⟨S4x4096x8x128, .f32⟩
  | .hbm, ⟨48, _⟩ => ⟨S4x4096x8x128, .f32⟩
  | .hbm, ⟨49, _⟩ => ⟨S4x4096x256, .f32⟩
  | .hbm, ⟨50, _⟩ => ⟨S4x4096x8x32, .f32⟩
  | .hbm, ⟨51, _⟩ => ⟨S_, .f32⟩
  | .hbm, ⟨52, _⟩ => ⟨S4x4096x8, .f32⟩
  | .hbm, ⟨53, _⟩ => ⟨S4x4096x8, .f32⟩
  | .hbm, ⟨54, _⟩ => ⟨S4x8x4096x128, .f32⟩
  | .hbm, ⟨55, _⟩ => ⟨S4x8x4096x128, .bf16⟩
  | .hbm, ⟨56, _⟩ => ⟨S4x8x4096x32, .f32⟩
  | .hbm, ⟨57, _⟩ => ⟨S4x8x4096x32, .bf16⟩
  | .hbm, ⟨58, _⟩ => ⟨S4x4096x32, .bf16⟩
  | .hbm, ⟨59, _⟩ => ⟨S4x4096x128, .bf16⟩
  | _, _ => ⟨S4x4096x424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== RwkvPrep.lean ====
abbrev S16384x1792 : Shape := ⟨2, ![16384, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S128x1024 : Shape := ⟨2, ![128, 1024]⟩
abbrev S1 : Shape := ⟨1, ![1]⟩
abbrev S2 : Shape := ⟨1, ![2]⟩
abbrev S512x1 : Shape := ⟨2, ![512, 1]⟩
abbrev S1x512 : Shape := ⟨2, ![1, 512]⟩
abbrev S512x512 : Shape := ⟨2, ![512, 512]⟩
abbrev S1x1792 : Shape := ⟨2, ![1, 1792]⟩
abbrev S16384x512 : Shape := ⟨2, ![16384, 512]⟩
abbrev S512x1792 : Shape := ⟨2, ![512, 1792]⟩
abbrev S8x1792 : Shape := ⟨2, ![8, 1792]⟩
abbrev S512x128 : Shape := ⟨2, ![512, 128]⟩
abbrev S512x1024 : Shape := ⟨2, ![512, 1024]⟩

abbrev nBuf : Space → Nat
  | .hbm => 66
  | .vmem => 29
  | .smem => 0
  | _ => 0

abbrev bufTy : (tb : Table) → Fin (tcTables nBuf tb) → BufTy
  | .hbm, ⟨0, _⟩ => ⟨S16384x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S_, .f32⟩
  | .hbm, ⟨11, _⟩ => ⟨S128x1024, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x1024, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x1024, .f32⟩
  | .hbm, ⟨24, _⟩ => ⟨S128x1024, .bf16⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .bf16⟩
  | .hbm, ⟨50, _⟩ => ⟨S1x1792, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S128x512, .bf16⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .local _ .vmem, ⟨0, _⟩ => ⟨S512x1792, .f32⟩
  | .local _ .vmem, ⟨1, _⟩ => ⟨S512x1792, .f32⟩
  | .local _ .vmem, ⟨2, _⟩ => ⟨S8x1792, .f32⟩
  | .local _ .vmem, ⟨3, _⟩ => ⟨S8x1792, .f32⟩
  | .local _ .vmem, ⟨4, _⟩ => ⟨S1x1792, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x1024, .bf16⟩
  | .local _ .vmem, ⟨11, _⟩ => ⟨S128x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S16384x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26_0 : Ref sig .tc := ⟨.hbm, 58, rfl⟩
abbrev main_v26_1 : Ref sig .tc := ⟨.hbm, 59, rfl⟩
abbrev main_v26_2 : Ref sig .tc := ⟨.hbm, 60, rfl⟩
abbrev main_v26_3 : Ref sig .tc := ⟨.hbm, 61, rfl⟩
abbrev main_v26_4 : Ref sig .tc := ⟨.hbm, 62, rfl⟩
abbrev main_v26_5 : Ref sig .tc := ⟨.hbm, 63, rfl⟩
abbrev main_v26_6 : Ref sig .tc := ⟨.hbm, 64, rfl⟩
abbrev main_v26_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RwkvPrepRefIdeal.lean ====
abbrev S16384x1792 : Shape := ⟨2, ![16384, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S4x4096x1792 : Shape := ⟨3, ![4, 4096, 1792]⟩
abbrev S_ : Shape := ⟨0, ![]⟩
abbrev S4x4097x1792 : Shape := ⟨3, ![4, 4097, 1792]⟩
abbrev S1x1x1792 : Shape := ⟨3, ![1, 1, 1792]⟩
abbrev S4x4096x512 : Shape := ⟨3, ![4, 4096, 512]⟩
abbrev S4x4096x64 : Shape := ⟨3, ![4, 4096, 64]⟩
abbrev S4x4096x128 : Shape := ⟨3, ![4, 4096, 128]⟩
abbrev S1x1x512 : Shape := ⟨3, ![1, 1, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x8x64 : Shape := ⟨4, ![1, 1, 8, 64]⟩
abbrev S16384x512 : Shape := ⟨2, ![16384, 512]⟩

abbrev nBuf : Space → Nat
  | .hbm => 119
  | .vmem => 0
  | .smem => 0
  | _ => 0

abbrev bufTy : (tb : Table) → Fin (tcTables nBuf tb) → BufTy
  | .hbm, ⟨0, _⟩ => ⟨S16384x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S4x4096x1792, .f32⟩
  | .hbm, ⟨11, _⟩ => ⟨S_, .i32⟩
  | .hbm, ⟨12, _⟩ => ⟨S_, .f32⟩
  | .hbm, ⟨13, _⟩ => ⟨S4x4097x1792, .f32⟩
  | .hbm, ⟨14, _⟩ => ⟨S4x4096x1792, .f32⟩
  | .hbm, ⟨15, _⟩ => ⟨S4x4096x1792, .f32⟩
  | .hbm, ⟨16, _⟩ => ⟨S1x1x1792, .f32⟩
  | .hbm, ⟨17, _⟩ => ⟨S4x4096x1792, .f32⟩
  | .hbm, ⟨18, _⟩ => ⟨S4x4096x1792, .f32⟩
  | .hbm, ⟨19, _⟩ => ⟨S4x4096x1792, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x64, .f32⟩
  | .hbm, ⟨24, _⟩ => ⟨S4x4096x64, .f32⟩
  | .hbm, ⟨25, _⟩ => ⟨S4x4096x128, .f32⟩
  | .hbm, ⟨26, _⟩ => ⟨S4x4096x64, .f32⟩
  | .hbm, ⟨27, _⟩ => ⟨S4x4096x512, .f32⟩
  | .hbm, ⟨28, _⟩ => ⟨S1x1x512, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x512, .i1⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S1x1x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S_, .f32⟩
  | .hbm, ⟨57, _⟩ => ⟨S4x4096x512, .f32⟩
  | .hbm, ⟨58, _⟩ => ⟨S4x4096x512, .f32⟩
  | .hbm, ⟨59, _⟩ => ⟨S_, .f32⟩
  | .hbm, ⟨60, _⟩ => ⟨S4x4096x512, .f32⟩
  | .hbm, ⟨61, _⟩ => ⟨S4x4096x512, .f32⟩
  | .hbm, ⟨62, _⟩ => ⟨S4x4096x128, .f32⟩
  | .hbm, ⟨63, _⟩ => ⟨S4x4096x128, .f32⟩
  | .hbm, ⟨64, _⟩ => ⟨S_, .f32⟩
  | .hbm, ⟨65, _⟩ => ⟨S4x4096x128, .f32⟩
  | .hbm, ⟨66, _⟩ => ⟨S4x4096x128, .f32⟩
  | .hbm, ⟨67, _⟩ => ⟨S_, .f32⟩
  | .hbm, ⟨68, _⟩ => ⟨S4x4096x128, .f32⟩
  | .hbm, ⟨69, _⟩ => ⟨S4x4096x128, .f32⟩
  | .hbm, ⟨70, _⟩ => ⟨S4x4096x512, .f32⟩
  | .hbm, ⟨71, _⟩ => ⟨S1x1x512, .f32⟩
  | .hbm, ⟨72, _⟩ => ⟨S4x4096x512, .f32⟩
  | .hbm, ⟨73, _⟩ => ⟨S4x4096x512, .f32⟩
  | .hbm, ⟨74, _⟩ => ⟨S4x4096x8x64, .f32⟩
  | .hbm, ⟨75, _⟩ => ⟨S4x4096x8x64, .f32⟩
  | .hbm, ⟨76, _⟩ => ⟨S_, .f32⟩
  | .hbm, ⟨77, _⟩ => ⟨S4x4096x8, .f32⟩
  | .hbm, ⟨78, _⟩ => ⟨S4x4096x8x1, .f32⟩
  | .hbm, ⟨79, _⟩ => ⟨S4x4096x8x1, .f32⟩
  | .hbm, ⟨80, _⟩ => ⟨S_, .f32⟩
  | .hbm, ⟨81, _⟩ => ⟨S4x4096x8x1, .f32⟩
  | .hbm, ⟨82, _⟩ => ⟨S4x4096x8x1, .f32⟩
  | .hbm, ⟨83, _⟩ => ⟨S4x4096x8x64, .f32⟩
  | .hbm, ⟨84, _⟩ => ⟨S4x4096x8x64, .f32⟩
  | .hbm, ⟨85, _⟩ => ⟨S_, .f32⟩
  | .hbm, ⟨86, _⟩ => ⟨S4x4096x512, .f32⟩
  | .hbm, ⟨87, _⟩ => ⟨S4x4096x512, .f32⟩
  | .hbm, ⟨88, _⟩ => ⟨S1x1x512, .f32⟩
  | .hbm, ⟨89, _⟩ => ⟨S4x4096x512, .f32⟩
  | .hbm, ⟨90, _⟩ => ⟨S4x4096x512, .f32⟩
  | .hbm, ⟨91, _⟩ => ⟨S_, .f32⟩
  | .hbm, ⟨92, _⟩ => ⟨S4x4096x512, .f32⟩
  | .hbm, ⟨93, _⟩ => ⟨S4x4096x512, .f32⟩
  | .hbm, ⟨94, _⟩ => ⟨S4x4096x512, .f32⟩
  | .hbm, ⟨95, _⟩ => ⟨S4x4096x8x64, .f32⟩
  | .hbm, ⟨96, _⟩ => ⟨S4x4096x8x64, .f32⟩
  | .hbm, ⟨97, _⟩ => ⟨S4x4096x8x64, .f32⟩
  | .hbm, ⟨98, _⟩ => ⟨S1x1x8x64, .f32⟩
  | .hbm, ⟨99, _⟩ => ⟨S4x4096x8x64, .f32⟩
  | .hbm, ⟨100, _⟩ => ⟨S4x4096x8x64, .f32⟩
  | .hbm, ⟨101, _⟩ => ⟨S_, .f32⟩
  | .hbm, ⟨102, _⟩ => ⟨S4x4096x8, .f32⟩
  | .hbm, ⟨103, _⟩ => ⟨S4x4096x8x1, .f32⟩
  | .hbm, ⟨104, _⟩ => ⟨S4x4096x8x64, .f32⟩
  | .hbm, ⟨105, _⟩ => ⟨S4x4096x8x64, .f32⟩
  | .hbm, ⟨106, _⟩ => ⟨S4x4096x8x64, .f32⟩
  | .hbm, ⟨107, _⟩ => ⟨S16384x512, .f32⟩
  | .hbm, ⟨108, _⟩ => ⟨S16384x512, .f32⟩
  | .hbm, ⟨109, _⟩ => ⟨S16384x512, .f32⟩
  | .hbm, ⟨110, _⟩ => ⟨S16384x512, .f32⟩
  | .hbm, ⟨111, _⟩ => ⟨S4x4096x8x64, .f32⟩
  | .hbm, ⟨112, _⟩ => ⟨S4x4096x8x64, .f32⟩
  | .hbm, ⟨113, _⟩ => ⟨S16384x512, .f32⟩
  | .hbm, ⟨114, _⟩ => ⟨S4x4096x512, .f32⟩
  | .hbm, ⟨115, _⟩ => ⟨S4x4096x512, .f32⟩
  | .hbm, ⟨116, _⟩ => ⟨S16384x512, .f32⟩
  | .hbm, ⟨117, _⟩ => ⟨S16384x512, .f32⟩
  | .hbm, ⟨118, _⟩ => ⟨S16384x512, .f32⟩
  | _, _ => ⟨S16384x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_8 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Proof.Keeps.lean ====
/- A program KEEPS an assertion `R` when, started from `R`, it runs without a fault and ends in `R`. For a frame nothing else is
   asked of a kernel body: `R` holds every buffer the body touches at some contents, every load finds its buffer there and
   every store puts new contents back. The lemmas below are one per way a body is put together (a return, a sequence, a
   branch, a counted loop, a load, a store); they are stated for any assertion `R` that holds the buffers in question. -/
module

public import proofs.«01_k».proof.Proof.Gen.Kernel.Skeleton
public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of the launch: no counters beside the points-tos. -/
abbrev Assn (F : FTy → Type) : Type _ := sProp (MT nD τ sig Unit (Elt F) ℕ (UR sig nD τ) ℕ)

/-- Started from `R`, the program ends in `R`. -/
def Keeps (c : Dev nD) (R : Assn F) {α : Type} (p : Prog (TpuEff nD τ sig (Elt F) Λ₀ .tc) α) : Prop :=
  R ⊢ wp frame (wpE (defs₀ (F := F)) Variants.none (c : Thread nD τ) none) Set.univ p (fun _ => R)

/-- A memref's elements are owned, at some contents. -/
def Owned (c : Dev nD) {sp : Space} {s : Shape} {e : EltTy} (M : Memref sig .tc sp s e) : Assn F :=
  iprop(∃ f, M.view.loc (c : Thread nD τ) ↦[M.view.set]{fullShare} f)

/-- `R` holds the memref at some contents, and is whole again once it is given the memref back at any contents. -/
def Holds (c : Dev nD) (R : Assn F) {sp : Space} {s : Shape} {e : EltTy} (M : Memref sig .tc sp s e) : Prop :=
  R ⊢ iprop(Owned c M ∗ (Owned c M -∗ R))

variable {c : Dev nD} {R : Assn F} {α β : Type}

theorem Keeps.ret (a : α) : Keeps (F := F) c R (.ret a) := by
  unfold Keeps; rw [wp_ret]; iintro H; imodintro; iexact H

theorem Keeps.pure (a : α) : Keeps (F := F) c R (Pure.pure a) := Keeps.ret a

theorem Keeps.bind {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps at *; rw [wp_bind]; exact hp.trans (wp_mono _ _ _ hk)

theorem Keeps.dite {P : Prop} [Decidable P] {a : P → Prog (TpuEff nD τ sig (Elt F) Λ₀ .tc) α}
    {b : ¬ P → Prog (TpuEff nD τ sig (Elt F) Λ₀ .tc) α} (ha : ∀ h, Keeps c R (a h)) (hb : ∀ h, Keeps c R (b h)) :
    Keeps c R (if h : P then a h else b h) := by
  split
  · exact ha _
  · exact hb _

theorem Keeps.ite {P : Prop} [Decidable P] {a b : Prog (TpuEff nD τ sig (Elt F) Λ₀ .tc) α}
    (ha : Keeps c R a) (hb : Keeps c R b) : Keeps c R (if P then a else b) := by
  split
  · exact ha
  · exact hb

/-- What follows a branch, named once and run after either side. -/
theorem Keeps.join {J : β → Prog (TpuEff nD τ sig (Elt F) Λ₀ .tc) α}
    {b : (β → Prog (TpuEff nD τ sig (Elt F) Λ₀ .tc) α) → Prog (TpuEff nD τ sig (Elt F) Λ₀ .tc) α}
    (hJ : ∀ y, Keeps c R (J y)) (hb : ∀ j, (∀ y, Keeps c R (j y)) → Keeps c R (b j)) : Keeps c R (b J) := hb J hJ

theorem Keeps.loop {w : Nat} {σ : Type} (l : Scf.Loop w) (hok : l.OK) (init : σ)
    {body : Fin l.trips → σ → Prog (TpuEff nD τ sig (Elt F) Λ₀ .tc) σ}
    (hb : ∀ k a, Keeps c R (body k a)) : Keeps c R (Scf.Loop.for l hok init body) := by
  unfold Keeps Scf.Loop.for
  refine .trans ?_ (Scf.wp_for frame _ Set.univ _ _ _ hok init body (fun _ _ => R) fun k a => hb k a)
  iintro H; isplitl [H]; · iexact H
  iintro %a H; iexact H

theorem Keeps.load {cs : CoreSpace} {s : Shape} {e : EltTy} {M : Memref sig .tc cs s e} (h : Holds c R M) {r : LoadRect s}
    {hl : M.view.LoadsAt r} : Keeps (F := F) c R (Prog.lift (.load M r hl)) := by
  unfold Keeps Holds Owned at *
  refine h.trans ?_
  iintro ⟨⟨%f, H⟩, Hk⟩
  iapply (wp_load (defs := defs₀ (F := F)) Variants.none (c : Thread nD τ) none Set.univ (M.view.setOn_subset_set _)) $$ H
  iintro H
  rw [wp_ret]; imodintro
  iapply Hk; iexists f; iexact H

theorem Keeps.store {cs : CoreSpace} {s : Shape} {e : EltTy} {M : Memref sig .tc cs s e} (h : Holds c R M) {r : Rect s}
    {v : r.shape.Idx → Elt F e} {hx : (M.access r).Stores Finset.univ} {hm} :
    Keeps (F := F) c R (Prog.lift (.store M r v Finset.univ hx hm)) := by
  unfold Keeps Holds Owned at *
  refine h.trans ?_
  iintro ⟨⟨%f, H⟩, Hk⟩
  iapply (wp_store (defs := defs₀ (F := F)) Variants.none (c : Thread nD τ) none Set.univ (S := M.view.set) (m := M) (r := r)
    (w := v) (Mk := Finset.univ) (hx := hx) (hm := hm) ?_) $$ H
  · exact Memref.setOn_access_subset M r _
  iintro H
  rw [wp_ret]; imodintro
  iapply Hk; iexists _; iexact H

theorem Keeps.smemLoad {s : Shape} {e : EltTy} {M : Memref sig .tc .smem s e} (h : Holds c R M) {r : Rect s}
    {h1 : r.shape.numel = 1} {hp : e.packing = 1} : Keeps (F := F) c R (smemLoad M r h1 hp) := by
  unfold Keeps Holds Owned at *
  refine h.trans ?_
  iintro ⟨⟨%f, H⟩, Hk⟩
  unfold Idealize.ShloMosaic.smemLoad
  iapply (wp_smemLoadElt (defs := defs₀ (F := F)) Variants.none (c : Thread nD τ) none Set.univ (m := M) (r := r) (S := M.view.set) ?_) $$ H
  · exact Memref.setOn_access_subset M r Finset.univ
  iintro H
  rw [wp_ret]; imodintro
  iapply Hk; iexists f; iexact H

end Cert.Kernel.Hand

end
-- ==== Proof.Body.lean ====
module

public import proofs.«01_k».proof.Proof.Keeps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {R : Assn F}

set_option backward.isDefEq.respectTransparency.types false in
set_option maxRecDepth 65536 in
set_option maxHeartbeats 4000000 in
/-- The body keeps whatever holds its buffers. The walk is by the shape of the text alone: a sequence,
a branch, a loop and a returned value go to their pieces, a part and a loop's region are opened, and a
load or a store is answered by the buffer it names. No value is looked at. -/
theorem keeps_body (i : grid0.Coords) (arg2 : Memref sig .tc .smem S32x8 .f32) (harg2 : arg2.IsWhole) (arg3 : Memref sig .tc .vmem S1x8x128x32 .bf16) (harg3 : arg3.IsWhole) (arg4 : Memref sig .tc .vmem S1x128x8 .f32) (harg4 : arg4.IsWhole) (arg5 : Memref sig .tc .vmem S1x8x128x128 .bf16) (harg5 : arg5.IsWhole) (arg6 : Memref sig .tc .vmem S1x4096x32 .bf16) (harg6 : arg6.IsWhole) (arg7 : Memref sig .tc .vmem S1x4096x128 .bf16) (harg7 : arg7.IsWhole) (arg8 : Memref sig .tc .vmem S8x128x512 .bf16) (harg8 : arg8.IsWhole) (arg9 : Memref sig .tc .vmem S1x128x512 .bf16) (harg9 : arg9.IsWhole) (arg10 : Memref sig .tc .vmem S128x4096 .f32) (harg10 : arg10.IsWhole) (arg11 : Memref sig .tc .vmem S2x8x128x128 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x128 .f32) (harg14 : arg14.IsWhole) (arg15 : Memref sig .tc .vmem S8x128x128 .f32) (harg15 : arg15.IsWhole)
    (h2 : Holds (F := F) c R arg2) (h3 : Holds (F := F) c R arg3) (h4 : Holds (F := F) c R arg4) (h5 : Holds (F := F) c R arg5) (h6 : Holds (F := F) c R arg6) (h7 : Holds (F := F) c R arg7) (h8 : Holds (F := F) c R arg8) (h9 : Holds (F := F) c R arg9) (h10 : Holds (F := F) c R arg10) (h11 : Holds (F := F) c R arg11) (h12 : Holds (F := F) c R arg12) (h13 : Holds (F := F) c R arg13) (h14 : Holds (F := F) c R arg14) (h15 : Holds (F := F) c R arg15) :
    Keeps (F := F) c R (cc0_dsa_attn i arg2 harg2 arg3 harg3 arg4 harg4 arg5 harg5 arg6 harg6 arg7 harg7 arg8 harg8 arg9 harg9 arg10 harg10 arg11 harg11 arg12 harg12 arg13 harg13 arg14 harg14 arg15 harg15) := by
  repeat' first
    | with_reducible exact Keeps.pure _
    | with_reducible refine Keeps.bind ?_ fun _ => ?_
    | with_reducible refine Keeps.dite (fun _ => ?_) (fun _ => ?_)
    | with_reducible refine Keeps.ite ?_ ?_
    | with_reducible refine Keeps.loop _ _ _ fun _ _ => ?_
    | (first
          | rw [cc0_dsa_attn_eq_skeleton]
          | rw [k0_part172_eq_skeleton]  | rw [k0_part171_eq_skeleton]  | rw [k0_part170_eq_skeleton]
          | rw [k0_part169_eq_skeleton]  | rw [k0_part168_eq_skeleton]  | rw [k0_part167_eq_skeleton]
          | rw [k0_part166_eq_skeleton]  | rw [k0_part165_eq_skeleton]  | rw [k0_part164_eq_skeleton]
          | rw [k0_part163_eq_skeleton]  | rw [k0_part162_eq_skeleton]  | rw [k0_part161_eq_skeleton]
          | rw [k0_part160_eq_skeleton]  | rw [k0_part159_eq_skeleton]  | rw [k0_part158_eq_skeleton]
          | rw [k0_part157_eq_skeleton]  | rw [k0_part156_eq_skeleton]  | rw [k0_part155_eq_skeleton]
          | rw [k0_part154_eq_skeleton]  | rw [k0_part153_eq_skeleton]  | rw [k0_part152_eq_skeleton]
          | rw [k0_part151_eq_skeleton]  | rw [k0_part150_eq_skeleton]  | rw [k0_part149_eq_skeleton]
          | rw [k0_part148_eq_skeleton]  | rw [k0_part147_eq_skeleton]  | rw [k0_part146_eq_skeleton]
          | rw [k0_part145_eq_skeleton]  | rw [k0_part144_eq_skeleton]  | rw [k0_part143_eq_skeleton]
          | rw [k0_part142_eq_skeleton]  | rw [k0_part141_eq_skeleton]  | rw [k0_part140_eq_skeleton]
          | rw [k0_part139_eq_skeleton]  | rw [k0_part138_eq_skeleton]  | rw [k0_part137_eq_skeleton]
          | rw [k0_part136_eq_skeleton]  | rw [k0_part135_eq_skeleton]  | rw [k0_part134_eq_skeleton]
          | rw [k0_part133_eq_skeleton]  | rw [k0_part132_eq_skeleton]  | rw [k0_part131_eq_skeleton]
          | rw [k0_part130_eq_skeleton]  | rw [k0_part129_eq_skeleton]  | rw [k0_part128_eq_skeleton]
          | rw [k0_part127_eq_skeleton]  | rw [k0_part126_eq_skeleton]  | rw [k0_part125_eq_skeleton]
          | rw [k0_part124_eq_skeleton]  | rw [k0_part123_eq_skeleton]  | rw [k0_part122_eq_skeleton]
          | rw [k0_part121_eq_skeleton]  | rw [k0_part120_eq_skeleton]  | rw [k0_part119_eq_skeleton]
          | rw [k0_part118_eq_skeleton]  | rw [k0_part117_eq_skeleton]  | rw [k0_part116_eq_skeleton]
          | rw [k0_part115_eq_skeleton]  | rw [k0_part114_eq_skeleton]  | rw [k0_part113_eq_skeleton]
          | rw [k0_part112_eq_skeleton]  | rw [k0_part111_eq_skeleton]  | rw [k0_part110_eq_skeleton]
          | rw [k0_part109_eq_skeleton]  | rw [k0_part108_eq_skeleton]  | rw [k0_part107_eq_skeleton]
          | rw [k0_part106_eq_skeleton]  | rw [k0_part105_eq_skeleton]  | rw [k0_part104_eq_skeleton]
          | rw [k0_part103_eq_skeleton]  | rw [k0_part102_eq_skeleton]  | rw [k0_part101_eq_skeleton]
          | rw [k0_part100_eq_skeleton]  | rw [k0_part99_eq_skeleton]  | rw [k0_part98_eq_skeleton]
          | rw [k0_part97_eq_skeleton]  | rw [k0_part96_eq_skeleton]  | rw [k0_part95_eq_skeleton]
          | rw [k0_part94_eq_skeleton]  | rw [k0_part93_eq_skeleton]  | rw [k0_part92_eq_skeleton]
          | rw [k0_part91_eq_skeleton]  | rw [k0_part90_eq_skeleton]  | rw [k0_part89_eq_skeleton]
          | rw [k0_part88_eq_skeleton]  | rw [k0_part87_eq_skeleton]  | rw [k0_part86_eq_skeleton]
          | rw [k0_part85_eq_skeleton]  | rw [k0_part84_eq_skeleton]  | rw [k0_part83_eq_skeleton]
          | rw [k0_part82_eq_skeleton]  | rw [k0_part81_eq_skeleton]  | rw [k0_part80_eq_skeleton]
          | rw [k0_part79_eq_skeleton]  | rw [k0_part78_eq_skeleton]  | rw [k0_part77_eq_skeleton]
          | rw [k0_part76_eq_skeleton]  | rw [k0_part75_eq_skeleton]  | rw [k0_part74_eq_skeleton]
          | rw [k0_part73_eq_skeleton]  | rw [k0_part72_eq_skeleton]  | rw [k0_part71_eq_skeleton]
          | rw [k0_part70_eq_skeleton]  | rw [k0_part69_eq_skeleton]  | rw [k0_part68_eq_skeleton]
          | rw [k0_part67_eq_skeleton]  | rw [k0_part66_eq_skeleton]  | rw [k0_part65_eq_skeleton]
          | rw [k0_part64_eq_skeleton]  | rw [k0_part63_eq_skeleton]  | rw [k0_part62_eq_skeleton]
          | rw [k0_part61_eq_skeleton]  | rw [k0_part60_eq_skeleton]  | rw [k0_part59_eq_skeleton]
          | rw [k0_part58_eq_skeleton]  | rw [k0_part57_eq_skeleton]  | rw [k0_part56_eq_skeleton]
          | rw [k0_part55_eq_skeleton]  | rw [k0_part54_eq_skeleton]  | rw [k0_part53_eq_skeleton]
          | rw [k0_part52_eq_skeleton]  | rw [k0_part51_eq_skeleton]  | rw [k0_part50_eq_skeleton]
          | rw [k0_part49_eq_skeleton]  | rw [k0_part48_eq_skeleton]  | rw [k0_part47_eq_skeleton]
          | rw [k0_part46_eq_skeleton]  | rw [k0_part45_eq_skeleton]  | rw [k0_part44_eq_skeleton]
          | rw [k0_part43_eq_skeleton]  | rw [k0_part42_eq_skeleton]  | rw [k0_part41_eq_skeleton]
          | rw [k0_part40_eq_skeleton]  | rw [k0_part39_eq_skeleton]  | rw [k0_part38_eq_skeleton]
          | rw [k0_part37_eq_skeleton]  | rw [k0_part36_eq_skeleton]  | rw [k0_part35_eq_skeleton]
          | rw [k0_part34_eq_skeleton]  | rw [k0_part33_eq_skeleton]  | rw [k0_part32_eq_skeleton]
          | rw [k0_part31_eq_skeleton]  | rw [k0_part30_eq_skeleton]  | rw [k0_part29_eq_skeleton]
          | rw [k0_part28_eq_skeleton]  | rw [k0_part27_eq_skeleton]  | rw [k0_part26_eq_skeleton]
          | rw [k0_part25_eq_skeleton]  | rw [k0_part24_eq_skeleton]  | rw [k0_part23_eq_skeleton]
          | rw [k0_part22_eq_skeleton]  | rw [k0_part21_eq_skeleton]  | rw [k0_part20_eq_skeleton]
          | rw [k0_part19_eq_skeleton]  | rw [k0_part18_eq_skeleton]  | rw [k0_part17_eq_skeleton]
          | rw [k0_part16_eq_skeleton]  | rw [k0_part15_eq_skeleton]  | rw [k0_part14_eq_skeleton]
          | rw [k0_part13_eq_skeleton]  | rw [k0_part12_eq_skeleton]  | rw [k0_part11_eq_skeleton]
          | rw [k0_part10_eq_skeleton]  | rw [k0_part9_eq_skeleton]  | rw [k0_part8_eq_skeleton]
          | rw [k0_part7_eq_skeleton]  | rw [k0_part6_eq_skeleton]  | rw [k0_part5_eq_skeleton]
          | rw [k0_part4_eq_skeleton]  | rw [k0_part3_eq_skeleton]  | rw [k0_part2_eq_skeleton]
          | rw [k0_part1_eq_skeleton]); delta cc0_dsa_attn_skel
          k0_part1_skel k0_part2_skel k0_part3_skel k0_part4_skel k0_part5_skel k0_part6_skel
          k0_part7_skel k0_part8_skel k0_part9_skel k0_part10_skel k0_part11_skel k0_part12_skel
          k0_part13_skel k0_part14_skel k0_part15_skel k0_part16_skel k0_part17_skel
          k0_part18_skel k0_part19_skel k0_part20_skel k0_part21_skel k0_part22_skel
          k0_part23_skel k0_part24_skel k0_part25_skel k0_part26_skel k0_part27_skel
          k0_part28_skel k0_part29_skel k0_part30_skel k0_part31_skel k0_part32_skel
          k0_part33_skel k0_part34_skel k0_part35_skel k0_part36_skel k0_part37_skel
          k0_part38_skel k0_part39_skel k0_part40_skel k0_part41_skel k0_part42_skel
          k0_part43_skel k0_part44_skel k0_part45_skel k0_part46_skel k0_part47_skel
          k0_part48_skel k0_part49_skel k0_part50_skel k0_part51_skel k0_part52_skel
          k0_part53_skel k0_part54_skel k0_part55_skel k0_part56_skel k0_part57_skel
          k0_part58_skel k0_part59_skel k0_part60_skel k0_part61_skel k0_part62_skel
          k0_part63_skel k0_part64_skel k0_part65_skel k0_part66_skel k0_part67_skel
          k0_part68_skel k0_part69_skel k0_part70_skel k0_part71_skel k0_part72_skel
          k0_part73_skel k0_part74_skel k0_part75_skel k0_part76_skel k0_part77_skel
          k0_part78_skel k0_part79_skel k0_part80_skel k0_part81_skel k0_part82_skel
          k0_part83_skel k0_part84_skel k0_part85_skel k0_part86_skel k0_part87_skel
          k0_part88_skel k0_part89_skel k0_part90_skel k0_part91_skel k0_part92_skel
          k0_part93_skel k0_part94_skel k0_part95_skel k0_part96_skel k0_part97_skel
          k0_part98_skel k0_part99_skel k0_part100_skel k0_part101_skel k0_part102_skel
          k0_part103_skel k0_part104_skel k0_part105_skel k0_part106_skel k0_part107_skel
          k0_part108_skel k0_part109_skel k0_part110_skel k0_part111_skel k0_part112_skel
          k0_part113_skel k0_part114_skel k0_part115_skel k0_part116_skel k0_part117_skel
          k0_part118_skel k0_part119_skel k0_part120_skel k0_part121_skel k0_part122_skel
          k0_part123_skel k0_part124_skel k0_part125_skel k0_part126_skel k0_part127_skel
          k0_part128_skel k0_part129_skel k0_part130_skel k0_part131_skel k0_part132_skel
          k0_part133_skel k0_part134_skel k0_part135_skel k0_part136_skel k0_part137_skel
          k0_part138_skel k0_part139_skel k0_part140_skel k0_part141_skel k0_part142_skel
          k0_part143_skel k0_part144_skel k0_part145_skel k0_part146_skel k0_part147_skel
          k0_part148_skel k0_part149_skel k0_part150_skel k0_part151_skel k0_part152_skel
          k0_part153_skel k0_part154_skel k0_part155_skel k0_part156_skel k0_part157_skel
          k0_part158_skel k0_part159_skel k0_part160_skel k0_part161_skel k0_part162_skel
          k0_part163_skel k0_part164_skel k0_part165_skel k0_part166_skel k0_part167_skel
          k0_part168_skel k0_part169_skel k0_part170_skel k0_part171_skel k0_part172_skel
    | delta
          k0_t1_body k0_t2_body k0_t3_body k0_t4_body k0_t5_body k0_t6_body k0_t7_body
          k0_t8_body k0_t9_body k0_t10_body k0_t11_body k0_t12_body k0_t13_body k0_t14_body
          k0_t15_body k0_t16_body k0_t17_body k0_t18_body k0_t19_body k0_t20_body k0_t21_body
    | (with_reducible refine Keeps.smemLoad ?_; with_reducible assumption)
    | (with_reducible refine Keeps.load ?_; with_reducible assumption)
    | (with_reducible refine Keeps.store ?_; with_reducible assumption)

end Cert.Kernel.Hand

end
-- ==== Proof.Run.lean ====
/- The launch of the attention kernel: at every grid point its body keeps the eight windows' staging buffers and the six
   scratch buffers (`keeps_body`), so the pipeline runs to its end. Every window is FORGOTTEN: the body is handed each staging
   buffer at some contents and gives it back at some contents. The arrays the windows read are never written, so each still
   holds what the launch found there. -/
module

public import proofs.«01_k».proof.Proof.Body
public import proofs.«01_k».proof.Proof.Gen.Kernel.Points
public import proofs.«01_k».proof.Proof.Gen.Kernel.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-! ## What is held between two operations of the body -/

/-- A memref owned at some contents, in the library's spelling. -/
theorem owned_iff (c : Dev nD) {sp : Space} {s : Shape} {e : EltTy} (M : Memref sig .tc sp s e) :
    (Owned c M : Assn F) = iprop(∃ d, owns (c : Thread nD τ) M fullShare d) := by
  have h₁ : (Owned c M : Assn F) ⊢ iprop(∃ d, owns (c : Thread nD τ) M fullShare d) := by
    unfold Owned owns
    iintro ⟨%f, H⟩; iexists _, f; isplitr
    · ipureintro; rfl
    iexact H
  have h₂ : iprop(∃ d, owns (c : Thread nD τ) M fullShare d) ⊢ (Owned c M : Assn F) := by
    unfold Owned owns
    iintro ⟨%d, %f, -, H⟩; iexists f; iexact H
  exact BI.equiv_iff.mp ⟨h₁, h₂⟩

theorem Holds.last {c : Dev nD} {sp : Space} {s : Shape} {e : EltTy} {M : Memref sig .tc sp s e} :
    Holds (F := F) c (Owned c M) M := by
  unfold Holds
  iintro H; isplitl [H]; · iexact H
  iintro H; iexact H

theorem Holds.head {c : Dev nD} {R : Assn F} {sp : Space} {s : Shape} {e : EltTy} {M : Memref sig .tc sp s e} :
    Holds (F := F) c iprop(Owned c M ∗ R) M := by
  unfold Holds
  iintro ⟨H, HR⟩; isplitl [H]; · iexact H
  iintro H; isplitl [H]; · iexact H
  iexact HR

theorem Holds.tail {c : Dev nD} {Q R : Assn F} {sp : Space} {s : Shape} {e : EltTy} {M : Memref sig .tc sp s e}
    (h : Holds (F := F) c R M) : Holds (F := F) c iprop(Q ∗ R) M := by
  unfold Holds at *
  iintro ⟨HQ, HR⟩
  ihave HR' := h $$ HR
  icases HR' with ⟨H, Hk⟩
  isplitl [H]; · iexact H
  iintro H; isplitl [HQ]; · iexact HQ
  iapply Hk; iexact H

/-- The eight windows' current staging buffers and the six scratch buffers, each at some contents. -/
def bufs (c : Dev nD) (t : Fin cfg0.N) : Assn F :=
  iprop(Owned c (st0_0 t) ∗ Owned c (st0_1 t) ∗ Owned c (st0_2 t) ∗ Owned c (st0_3 t) ∗ Owned c (st0_4 t) ∗ Owned c (st0_5 t) ∗ Owned c (st0_6 t) ∗ Owned c (st0_7 t)
    ∗ Owned c (Memref.whole cc0_scratch0) ∗ Owned c (Memref.whole cc0_scratch1) ∗ Owned c (Memref.whole cc0_scratch2) ∗ Owned c (Memref.whole cc0_scratch3) ∗ Owned c (Memref.whole cc0_scratch4) ∗ Owned c (Memref.whole cc0_scratch5))

/-- The body at point `t` keeps them. -/
theorem keeps_bodyAt (c : Dev nD) (t : Fin cfg0.N) : Keeps (F := F) c (bufs c t) (bodyAt0 t) := by
  unfold bufs
  refine keeps_body _ _ _ _ _ _ _ _ _ _ _ _ _ _ _ _ _ _ _ _ _ _ _ _ _ _ _ _ _ ?_ ?_ ?_ ?_ ?_ ?_ ?_ ?_ ?_ ?_ ?_ ?_ ?_ ?_
  all_goals repeat' first | exact Holds.head | exact Holds.last | refine Holds.tail ?_

/-! ## The proof data and the body obligation -/

/-- Every window is forgotten. -/
def forgets0 : Fin 8 → Bool := fun _ => true

/-- The proof data on core `c`: the arrays as the region finds them; what the body leaves in a window unnamed; the scratch
    buffers and the generator register at some contents throughout; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant conjunct by conjunct. -/
theorem Phi0_eq (c : Dev nD) :
    (Pipeline.ΦA spec0 c : Assn F)
      = iprop((Owned c (Memref.whole cc0_scratch0) ∗ Owned c (Memref.whole cc0_scratch1) ∗ Owned c (Memref.whole cc0_scratch2) ∗ Owned c (Memref.whole cc0_scratch3) ∗ Owned c (Memref.whole cc0_scratch4) ∗ Owned c (Memref.whole cc0_scratch5)) ∗ ∃ r, prngReg c r) := by
  unfold Pipeline.ΦA; rw [scopedRest0_eq]; simp only [owned_iff, owns_whole]

/-- What the body is called with at point `t`, and what it returns. -/
def bodyPre (c : Dev nD) (t : Fin cfg0.N) : Assn F :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : Assn F :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body's triple: its buffers taken out, `keeps_bodyAt`, and the rest framed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi0_eq]
  simp only [← owned_iff]
  have hk := keeps_bodyAt (F := F) c t
  unfold Keeps bufs at hk
  iintro ⟨⟨⟨HS0, HS1, HS2, HS3, HS4, HS5⟩, Hg⟩, HO, H0, H1, H2, H3, H4, H5, H6, H7⟩
  iapply wp_wand_r
  isplitl [HS0 HS1 HS2 HS3 HS4 HS5 H0 H1 H2 H3 H4 H5 H6 H7]
  · iapply hk
    iframe
  iintro %_ ⟨H0, H1, H2, H3, H4, H5, H6, H7, HS0, HS1, HS2, HS3, HS4, HS5⟩
  iframe

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, with every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- From any memory with zero counters every weakly fair execution of @main on the TensorCores terminates; in every final
    state each array read holds what the region found there, every other unscoped buffer too, and every counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := Gen.hmain m Variants.none) (hA := A_eq m) (hΦ := fun _ _ => rfl)

/-- An array some window reads ends at the contents the region found. -/
theorem final_in {r : PUnit × MemSt nD τ sig (Elt F)}
    (h : Pipeline.RDat.FramePost (cfgs 0) (fun c => (dats m 0 c).toRForget forgets0) (V m) r) (c : Dev nD) (w : Fin 8)
    (hin : (spec0 w).isOut = false) :
    r.2.mem ((spec0 w).arr.view.loc (c : Thread nD τ)) = V m c (Pipeline.arrRef spec0 w) :=
  h.arr_in c w hin

/-- The seven arguments end as the launch found them. -/
theorem final_args {r : PUnit × MemSt nD τ sig (Elt F)}
    (h : Pipeline.RDat.FramePost (cfgs 0) (fun c => (dats m 0 c).toRForget forgets0) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨(final_in m h c 0 rfl).trans (V_main_arg0 m c), (final_in m h c 1 rfl).trans (V_main_arg1 m c),
    (final_in m h c 2 rfl).trans (V_main_arg2 m c), (final_in m h c 3 rfl).trans (V_main_arg3 m c),
    (final_in m h c 4 rfl).trans (V_main_arg4 m c), (final_in m h c 5 rfl).trans (V_main_arg5 m c),
    ((h c).2 main_arg6 (Pipeline.mem_restRefs_of main_arg6 (by decide) (by decide))).trans (V_main_arg6 m c)⟩

end Cert.Kernel.Hand

end
-- ==== Proof.Merge.lean ====
/- The merge of the three branches as a value. The kernel works through 32 tiles of 512 tokens; per tile it forms the gates
   from the tile's inputs, weighs the three projected branches with them, projects the sum, adds the scaled residual and
   normalises every row. The reference forms the same arrays whole. Here: each tile the kernel writes back is the
   reference's array read at the tile's place, for each of the three results. -/
module

public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MergeRow

/-! One token's row of the merge, over extended reals: `x` its input row, `y0 y1 y2` its three branches' rows, `u0 u1 u2` the
    three groups of gate columns, `w0 w1 w2` the branches' projections, `wo` the projection of their sum. -/

/-- A row against the columns of a matrix, at column `d`. -/
def mul {n : ℕ} (x : Fin n → EReal) (w : Fin n → Fin 1024 → EReal) (d : Fin 1024) : EReal := ∑ k, x k * w k d

/-- The gate of column `d`. -/
def gate (x : Fin 1024 → EReal) (u : Fin 1024 → Fin 1024 → EReal) (d : Fin 1024) : EReal :=
  Ideal.div 1 (1 + Ideal.exp (-mul x u d))

/-- The gated sum of the three branches. -/
def gated (x : Fin 1024 → EReal) (y0 y1 y2 : Fin 512 → EReal) (u0 u1 u2 : Fin 1024 → Fin 1024 → EReal)
    (w0 w1 w2 : Fin 512 → Fin 1024 → EReal) (d : Fin 1024) : EReal :=
  gate x u0 d * mul y0 w0 d + gate x u1 d * mul y1 w1 d + gate x u2 d * mul y2 w2 d

/-- The scaled residual plus the projected sum `s`. -/
def summed (x s : Fin 1024 → EReal) (wo : Fin 1024 → Fin 1024 → EReal) (d : Fin 1024) : EReal :=
  Ideal.ofBits FTy.f32 1066940400#32 * x d + mul s wo d

/-- A row less its mean. -/
def centred (v : Fin 1024 → EReal) (d : Fin 1024) : EReal :=
  v d - Ideal.div (∑ k, v k) (Ideal.ofBits FTy.f32 1149239296#32)

/-- A centred row over its deviation, scaled and shifted. -/
def scaled (v g b : Fin 1024 → EReal) (d : Fin 1024) : EReal :=
  v d * Ideal.rsqrt (Ideal.div (∑ k, v k * v k) (Ideal.ofBits FTy.f32 1149239296#32) + Ideal.ofBits FTy.f32 925353388#32) * g d + b d

/-- The merged and normalised row. -/
def out (x : Fin 1024 → EReal) (y0 y1 y2 : Fin 512 → EReal) (u0 u1 u2 : Fin 1024 → Fin 1024 → EReal)
    (w0 w1 w2 : Fin 512 → Fin 1024 → EReal) (wo : Fin 1024 → Fin 1024 → EReal) (g b : Fin 1024 → EReal) : Fin 1024 → EReal :=
  scaled (centred (summed x (gated x y0 y1 y2 u0 u1 u2 w0 w1 w2) wo)) g b

end Cert.MergeRow

namespace Cert.MergeRefIdeal.Val

open Cert.MergeRefIdeal Cert.MergeRefIdeal.Gen

/-- The three gates of every token, side by side: the logistic function of the gate columns. -/
abbrev gates (x : FVec Ideal S4x4096x1024 .f32) (w : FVec Ideal S1024x5800 .f32) : FVec Ideal S4x4096x3x1024 .f32 :=
  shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 2728] (Host.dotGeneral dot_S4x4096x1024_S1024x5800_S4x4096x5800_2_0_01_1_n_n none x w) slices_S4x4096x5800_S4x4096x3072_0_0_2728))))) shapeCasts_S4x4096x3072_S4x4096x3x1024

/-- One branch through its projection. -/
abbrev branch (y : FVec Ideal S4x4096x512 .bf16) (w : FVec Ideal S512x1024 .f32) : FVec Ideal S4x4096x1024 .f32 :=
  Host.dotGeneral dot_S4x4096x512_S512x1024_S4x4096x1024_2_0_01_1_n_n none (extf .f32 y bitsLt_bf16_f32) w

/-- The gated sum of the three projected branches, over the gates `g`. -/
abbrev merged (g : FVec Ideal S4x4096x3x1024 .f32) (b0 b1 b2 : FVec Ideal S4x4096x1024 .f32) : FVec Ideal S4x4096x1024 .f32 :=
  addf (addf (mulf (shapeCast _ (extractStridedSlice S4x4096x1x1024 ![0, 0, 0, 0] g slices_S4x4096x3x1024_S4x4096x1x1024_0_0_0_0) shapeCasts_S4x4096x1x1024_S4x4096x1024) b0) (mulf (shapeCast _ (extractStridedSlice S4x4096x1x1024 ![0, 0, 1, 0] g slices_S4x4096x3x1024_S4x4096x1x1024_0_0_1_0) shapeCasts_S4x4096x1x1024_S4x4096x1024) b1)) (mulf (shapeCast _ (extractStridedSlice S4x4096x1x1024 ![0, 0, 2, 0] g slices_S4x4096x3x1024_S4x4096x1x1024_0_0_2_0) shapeCasts_S4x4096x1x1024_S4x4096x1024) b2)

/-- The scaled residual plus the projected sum `s`. -/
abbrev summed (x : FVec Ideal S4x4096x1024 .f32) (s : FVec Ideal S4x4096x1024 .f32) (wo : FVec Ideal S1024x1024 .f32) : FVec Ideal S4x4096x1024 .f32 :=
  addf (mulf (broadcastInDim S4x4096x1024 ![] bcast_S_S4x4096x1024 (constant S_ .f32 0x3F9837F0#32)) x) (Host.dotGeneral dot_S4x4096x1024_S1024x1024_S4x4096x1024_2_0_01_1_n_n none s wo)

/-- The mean of every row, kept as a column. -/
abbrev means (v : FVec Ideal S4x4096x1024 .f32) : FVec Ideal S4x4096x1 .f32 :=
  Host.divf (broadcastInDim S4x4096x1 ![0, 1] bcast_S4x4096_S4x4096x1_0_1 (Host.reduceAdd v (constant S_ .f32 0x00000000#32) reducesTo_S4x4096x1024_S4x4096_d2 h_S_)) (broadcastInDim S4x4096x1 ![] bcast_S_S4x4096x1 (constant S_ .f32 0x44800000#32))

/-- Every row less its mean. -/
abbrev centred (v : FVec Ideal S4x4096x1024 .f32) : FVec Ideal S4x4096x1024 .f32 :=
  subf v (broadcastInDim S4x4096x1024 ![0, 1, 2] bcast_S4x4096x1_S4x4096x1024_0_1_2 (means v))

/-- Centred rows `c` over their deviation, scaled and shifted. -/
abbrev scaled (c : FVec Ideal S4x4096x1024 .f32) (g b : FVec Ideal S1024 .f32) : FVec Ideal S4x4096x1024 .f32 :=
  addf (mulf (mulf c (broadcastInDim S4x4096x1024 ![0, 1, 2] bcast_S4x4096x1_S4x4096x1024_0_1_2 (Host.rsqrt (addf (means (mulf c c)) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))

/-- The rows before the normalisation, over the arguments. -/
def pre (x : FVec Ideal S4x4096x1024 .f32) (y0 y1 y2 : FVec Ideal S4x4096x512 .bf16) (w : FVec Ideal S1024x5800 .f32)
    (w0 w1 w2 : FVec Ideal S512x1024 .f32) (wo : FVec Ideal S1024x1024 .f32) : FVec Ideal S4x4096x1024 .f32 :=
  summed x (merged (gates x w) (branch y0 w0) (branch y1 w1) (branch y2 w2)) wo

/-- The merge: the normalised rows, over the arguments. -/
def out (x : FVec Ideal S4x4096x1024 .f32) (y0 y1 y2 : FVec Ideal S4x4096x512 .bf16) (w : FVec Ideal S1024x5800 .f32)
    (w0 w1 w2 : FVec Ideal S512x1024 .f32) (wo : FVec Ideal S1024x1024 .f32) (g b : FVec Ideal S1024 .f32) :
    FVec Ideal S4x4096x1024 .f32 :=
  scaled (centred (pre x y0 y1 y2 w w0 w1 w2 wo)) g b

/-- The gate columns of group `k`. -/
abbrev cols (w : FVec Ideal S1024x5800 .f32) (k : Fin 3) : Fin 1024 → Fin 1024 → EReal :=
  fun a d => w (ix2 a ⟨2728 + (1024 * k.val + d.val), by omega⟩)

/-- The reference's gated sum at an element. -/
theorem merged_at (x y0 y1 y2 w w0 w1 w2) (i : Fin 4) (j : Fin 4096) (d : Fin 1024) :
    merged (gates x w) (branch y0 w0) (branch y1 w1) (branch y2 w2) (ix3 i j d)
      = Cert.MergeRow.gated (fun k => x (ix3 i j k)) (fun k => y0 (ix3 i j k)) (fun k => y1 (ix3 i j k)) (fun k => y2 (ix3 i j k))
          (cols w 0) (cols w 1) (cols w 2) (fun a d => w0 (ix2 a d)) (fun a d => w1 (ix2 a d)) (fun a d => w2 (ix2 a d)) d := by
  pointwise []
  simp only [Cert.MergeRow.gated, Cert.MergeRow.gate, Cert.MergeRow.mul, cols]
  congr! 9 <;> simp

/-- The reference's result at an element is its row's merge. -/
theorem out_at (x y0 y1 y2 w w0 w1 w2 wo g b) (i : Fin 4) (j : Fin 4096) (d : Fin 1024) :
    out x y0 y1 y2 w w0 w1 w2 wo g b (ix3 i j d)
      = Cert.MergeRow.out (fun k => x (ix3 i j k)) (fun k => y0 (ix3 i j k)) (fun k => y1 (ix3 i j k)) (fun k => y2 (ix3 i j k))
          (cols w 0) (cols w 1) (cols w 2) (fun a d => w0 (ix2 a d)) (fun a d => w1 (ix2 a d)) (fun a d => w2 (ix2 a d))
          (fun a d => wo (ix2 a d)) (fun d => g (ix1 d)) (fun d => b (ix1 d)) d := by
  have hp : ∀ d : Fin 1024, pre x y0 y1 y2 w w0 w1 w2 wo (ix3 i j d)
      = Cert.MergeRow.summed (fun k => x (ix3 i j k)) (Cert.MergeRow.gated (fun k => x (ix3 i j k)) (fun k => y0 (ix3 i j k)) (fun k => y1 (ix3 i j k)) (fun k => y2 (ix3 i j k))
          (cols w 0) (cols w 1) (cols w 2) (fun a d => w0 (ix2 a d)) (fun a d => w1 (ix2 a d)) (fun a d => w2 (ix2 a d))) (fun a d => wo (ix2 a d)) d := by
    intro d
    have h := fun k => merged_at x y0 y1 y2 w w0 w1 w2 i j k
    unfold pre
    generalize merged (gates x w) (branch y0 w0) (branch y1 w1) (branch y2 w2) = s at h ⊢
    pointwise []
    simp only [h]; rfl
  unfold out
  generalize pre x y0 y1 y2 w w0 w1 w2 wo = p at hp ⊢
  have hc : ∀ d : Fin 1024, centred p (ix3 i j d) = Cert.MergeRow.centred (fun k => p (ix3 i j k)) d := by
    intro d; pointwise []; rfl
  generalize centred p = q at hc ⊢
  simp only [hp] at hc
  pointwise []
  simp only [hc]; rfl

variable (m : (ℓ : Loc nD τ sig) → Buf (Elt Ideal) ℓ)

/-- The reference's first result is the merge of its arguments. -/
theorem res_out0_eq (c : Dev nD) : Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  delta Value.res_out0 Value.res_main_v53 out pre; rfl

/-- Its second is the first. -/
theorem res_out1_eq (c : Dev nD) : Value.res_out1 m c = truncf (F := Ideal) .bf16 (s := S4x4096x1024) (Value.res_out0 m c) bitsLt_bf16_f32 := by
  delta Value.res_out1 Value.res_out0 Value.res_main_v54 Value.res_main_v53; rfl

/-- Its third is the first with its last two axes exchanged. -/
theorem res_out2_eq (c : Dev nD) : Value.res_out2 m c = truncf (F := Ideal) .bf16 (transpose S4x1024x4096 [0, 2, 1] (s := S4x4096x1024) (Value.res_out0 m c) transposes_S4x4096x1024_S4x1024x4096_0_2_1) bitsLt_bf16_f32 := by
  delta Value.res_out2 Value.res_out0 Value.res_main_v56 Value.res_main_v53; rfl

end Cert.MergeRefIdeal.Val

namespace Cert.MergeIdeal.Val

open Cert.MergeIdeal Cert.MergeIdeal.Gen

variable (m : (ℓ : Loc nD τ sig) → Buf (Elt Ideal) ℓ)

/-- Where every window's block lies at point `t`: row group `t % 8` of sequence `t / 8` of the tiled arrays, the whole of the others. -/
theorem idx_val : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val / 8, t.val % 8, 0]
    ∧ win0_12.index t = ![t.val / 8, t.val % 8, 0]
    ∧ win0_13.index t = ![t.val / 8, 0, t.val % 8] :=
  (by decide +kernel : ∀ t : Fin grid0.N, _)

/-- The merge of the kernel's arguments. -/
abbrev ref (c : Dev nD) : FVec Ideal Cert.MergeRefIdeal.S4x4096x1024 .f32 :=
  Cert.MergeRefIdeal.Val.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A tile's rows before the normalisation. -/
def preK (v1 v25 v29 : FVec Ideal S512x1024 .f32) (v30 : FVec Ideal S1x512x512 .bf16) (v32 : FVec Ideal S512x1024 .bf16) (v40 : FVec Ideal S1024x1024 .bf16) : FVec Ideal S512x1024 .f32 :=
  addf (mulf (broadcast S512x1024 (Scalar.ofBits .f32 0x3F9837F0#32)) v1) (matmul dot_S512x1024_S1024x1024_S512x1024_1_0_0_1_n_n none (truncf .bf16 (addf v25 (mulf v29 (matmul dot_S512x512_S512x1024_S512x1024_1_0_0_1_n_n none (shapeCast S512x512 v30 shapeCasts_S1x512x512_S512x512) (shapeCast S512x1024 v32 shapeCasts_S512x1024_S512x1024) (constant S512x1024 .f32 0x00000000#32)))) bitsLt_bf16_f32) (shapeCast S1024x1024 v40 shapeCasts_S1024x1024_S1024x1024) (constant S512x1024 .f32 0x00000000#32))

/-- A tile's rows less their means. -/
def centredK (v43 : FVec Ideal S512x1024 .f32) : FVec Ideal S512x1024 .f32 :=
  subf v43 (broadcastTo S512x1024 (divf (shapeCast S512x1 (multiReduction .add [1] S512 v43 0x00000000#32 reduces_S512x1024_S512 (.inl rfl) rfl) shapeCasts_S512_S512x1) (broadcast S512x1 (Scalar.ofBits .f32 0x44800000#32))) broadcasts_S512x1_S512x1024)

/-- A tile's centred rows over their deviations, scaled and shifted. -/
def scaledK (v53 : FVec Ideal S512x1024 .f32) (v44 v46 : FVec Ideal S1x1024 .f32) : FVec Ideal S512x1024 .f32 :=
  addf (mulf (mulf v53 (broadcastTo S512x1024 (rsqrt (addf (divf (shapeCast S512x1 (multiReduction .add [1] S512 (mulf v53 v53) 0x00000000#32 reduces_S512x1024_S512 (.inl rfl) rfl) shapeCasts_S512_S512x1) (broadcast S512x1 (Scalar.ofBits .f32 0x44800000#32))) (broadcast S512x1 (Scalar.ofBits .f32 0x3727C5AC#32)))) broadcasts_S512x1_S512x1024)) (broadcastTo S512x1024 (shapeCast S1x1024 v44 shapeCasts_S1x1024_S1x1024) broadcasts_S1x1024_S512x1024)) (broadcastTo S512x1024 (shapeCast S1x1024 v46 shapeCasts_S1x1024_S1x1024) broadcasts_S1x1024_S512x1024)

/-- The kernel's rows are these three steps. -/
theorem pay7_eq (v1 v25 v29 : FVec Ideal S512x1024 .f32) (v30 : FVec Ideal S1x512x512 .bf16) (v32 : FVec Ideal S512x1024 .bf16) (v40 : FVec Ideal S1024x1024 .bf16) (v44 v46 : FVec Ideal S1x1024 .f32) :
    k0_pay7 v1 v25 v29 v30 v32 v40 v44 v46 = scaledK (centredK (preK v1 v25 v29 v30 v32 v40)) v44 v46 := rfl

/-- Group `k` of a block of gate columns. -/
abbrev cols (w : Vec Ideal S1024x3072 .bf16) (k : Fin 3) : Fin 1024 → Fin 1024 → EReal :=
  fun a d => w (ix2 a ⟨1024 * k.val + d.val, by omega⟩)

/-- A tile's first two gated branches at an element. -/
theorem pay10_at (x0 : Vec Ideal S1x512x1024 .f32) (x1 x2 x3 : Vec Ideal S1x512x512 .bf16) (x4 : Vec Ideal S1024x3072 .bf16)
    (x5 x6 x7 : Vec Ideal S512x1024 .bf16) (x8 : Vec Ideal S1024x1024 .bf16) (x9 x10 : Vec Ideal S1x1024 .f32) (i : Fin 512) (d : Fin 1024) :
    k0_pay10 x0 x1 x2 x3 x4 x5 x6 x7 x8 x9 x10 (ix2 i d)
      = Cert.MergeRow.gate (fun k => x0 (ix3 0 i k)) (cols x4 0) d * Cert.MergeRow.mul (fun k => x1 (ix3 0 i k)) (fun a d => x5 (ix2 a d)) d
        + Cert.MergeRow.gate (fun k => x0 (ix3 0 i k)) (cols x4 1) d * Cert.MergeRow.mul (fun k => x2 (ix3 0 i k)) (fun a d => x6 (ix2 a d)) d := by
  pointwise [k0_pay10, k0_pay5, k0_pay4, k0_pay3]
  simp only [Cert.MergeRow.gate, Cert.MergeRow.mul, cols, Ideal.logistic]
  congr! 9 <;> simp

/-- A tile's third gate at an element. -/
theorem pay11_at (x0 : Vec Ideal S1x512x1024 .f32) (x1 x2 x3 : Vec Ideal S1x512x512 .bf16) (x4 : Vec Ideal S1024x3072 .bf16)
    (x5 x6 x7 : Vec Ideal S512x1024 .bf16) (x8 : Vec Ideal S1024x1024 .bf16) (x9 x10 : Vec Ideal S1x1024 .f32) (i : Fin 512) (d : Fin 1024) :
    k0_pay11 x0 x1 x2 x3 x4 x5 x6 x7 x8 x9 x10 (ix2 i d) = Cert.MergeRow.gate (fun k => x0 (ix3 0 i k)) (cols x4 2) d := by
  pointwise [k0_pay11, k0_pay6, k0_pay4, k0_pay3]
  simp only [Cert.MergeRow.gate, Cert.MergeRow.mul, cols, Ideal.logistic]
  congr! 9 <;> simp

/-- A tile's result at an element is its row's merge. -/
theorem pay12_at (x0 : Vec Ideal S1x512x1024 .f32) (x1 x2 x3 : Vec Ideal S1x512x512 .bf16) (x4 : Vec Ideal S1024x3072 .bf16)
    (x5 x6 x7 : Vec Ideal S512x1024 .bf16) (x8 : Vec Ideal S1024x1024 .bf16) (x9 x10 : Vec Ideal S1x1024 .f32) (i : Fin 512) (d : Fin 1024) :
    k0_pay12 x0 x1 x2 x3 x4 x5 x6 x7 x8 x9 x10 (ix2 i d)
      = Cert.MergeRow.out (fun k => x0 (ix3 0 i k)) (fun k => x1 (ix3 0 i k)) (fun k => x2 (ix3 0 i k)) (fun k => x3 (ix3 0 i k))
          (cols x4 0) (cols x4 1) (cols x4 2) (fun a d => x5 (ix2 a d)) (fun a d => x6 (ix2 a d)) (fun a d => x7 (ix2 a d))
          (fun a d => x8 (ix2 a d)) (fun d => x9 (ix2 0 d)) (fun d => x10 (ix2 0 d)) d := by
  have h9 : ∀ k : Fin 1024, k0_pay9 x0 x1 x2 x3 x4 x5 x6 x7 x8 x9 x10 (ix2 i k) = x0 (ix3 0 i k) := by
    intro k; pointwise [k0_pay9, k0_pay3]
  have h10 := fun k => pay10_at x0 x1 x2 x3 x4 x5 x6 x7 x8 x9 x10 i k
  have h11 := fun k => pay11_at x0 x1 x2 x3 x4 x5 x6 x7 x8 x9 x10 i k
  unfold k0_pay12
  rw [pay7_eq]
  generalize k0_pay9 x0 x1 x2 x3 x4 x5 x6 x7 x8 x9 x10 = v1 at h9 ⊢
  generalize k0_pay10 x0 x1 x2 x3 x4 x5 x6 x7 x8 x9 x10 = v25 at h10 ⊢
  generalize k0_pay11 x0 x1 x2 x3 x4 x5 x6 x7 x8 x9 x10 = v29 at h11 ⊢
  have hp : ∀ k : Fin 1024, preK v1 v25 v29 (View.ld x3 r0_2) (View.ld x7 r0_3) (View.ld x8 r0_6) (ix2 i k)
      = Cert.MergeRow.summed (fun k => x0 (ix3 0 i k)) (Cert.MergeRow.gated (fun k => x0 (ix3 0 i k)) (fun k => x1 (ix3 0 i k)) (fun k => x2 (ix3 0 i k)) (fun k => x3 (ix3 0 i k))
          (cols x4 0) (cols x4 1) (cols x4 2) (fun a d => x5 (ix2 a d)) (fun a d => x6 (ix2 a d)) (fun a d => x7 (ix2 a d))) (fun a d => x8 (ix2 a d)) k := by
    intro k
    pointwise [preK]
    simp only [h9, h10, h11]; rfl
  generalize preK v1 v25 v29 (View.ld x3 r0_2) (View.ld x7 r0_3) (View.ld x8 r0_6) = p at hp ⊢
  have hc : ∀ k : Fin 1024, centredK p (ix2 i k) = Cert.MergeRow.centred (fun k => p (ix2 i k)) k := by
    intro k; pointwise [centredK]; rfl
  generalize centredK p = q at hc ⊢
  simp only [hp] at hc
  pointwise [scaledK]
  simp only [hc]; rfl

/-- Row `i` of point `t`'s tile lies in sequence `t / 8`, at token `t % 8 * 512 + i`. -/
abbrev seqOf (t : Fin cfg0.N) : Fin 4 := ⟨t.val / 8, by have := t.isLt; change _ < 32 at this; omega⟩
abbrev tokOf (t : Fin cfg0.N) (i : Fin 512) : Fin 4096 := ⟨t.val % 8 * 512 + i.val, by omega⟩

theorem read0 (c : Dev nD) (t : Fin cfg0.N) (i : Fin 512) (k : Fin 1024) :
    iblk m c 0 t (ix3 0 i k) = m ((c : Thread nD τ).loc main_arg0) (ix3 (seqOf t) (tokOf t i) k) := by
  blk_point [iblk, V, idx_val t]
theorem read1 (c : Dev nD) (t : Fin cfg0.N) (i : Fin 512) (k : Fin 512) :
    iblk m c 1 t (ix3 0 i k) = m ((c : Thread nD τ).loc main_arg1) (ix3 (seqOf t) (tokOf t i) k) := by
  blk_point [iblk, V, idx_val t]
theorem read2 (c : Dev nD) (t : Fin cfg0.N) (i : Fin 512) (k : Fin 512) :
    iblk m c 2 t (ix3 0 i k) = m ((c : Thread nD τ).loc main_arg2) (ix3 (seqOf t) (tokOf t i) k) := by
  blk_point [iblk, V, idx_val t]
theorem read3 (c : Dev nD) (t : Fin cfg0.N) (i : Fin 512) (k : Fin 512) :
    iblk m c 3 t (ix3 0 i k) = m ((c : Thread nD τ).loc main_arg3) (ix3 (seqOf t) (tokOf t i) k) := by
  blk_point [iblk, V, idx_val t]
theorem read4 (c : Dev nD) (t : Fin cfg0.N) (a : Fin 1024) (d : Fin 3072) :
    iblk m c 4 t (ix2 a d) = m ((c : Thread nD τ).loc main_arg4) (ix2 a (⟨2728 + d.val, by omega⟩ : Fin 5800)) := by
  blk_point [iblk, V, idx_val t]
theorem read4_cols (c : Dev nD) (t : Fin cfg0.N) (k : Fin 3) :
    cols (iblk m c 4 t) k = Cert.MergeRefIdeal.Val.cols (m ((c : Thread nD τ).loc main_arg4)) k := by
  funext a d; exact read4 m c t a _
theorem read5 (c : Dev nD) (t : Fin cfg0.N) (a : Fin 512) (d : Fin 1024) :
    iblk m c 5 t (ix2 a d) = m ((c : Thread nD τ).loc main_arg5) (ix2 a d) := by
  blk_point [iblk, V, idx_val t]
theorem read6 (c : Dev nD) (t : Fin cfg0.N) (a : Fin 512) (d : Fin 1024) :
    iblk m c 6 t (ix2 a d) = m ((c : Thread nD τ).loc main_arg6) (ix2 a d) := by
  blk_point [iblk, V, idx_val t]
theorem read7 (c : Dev nD) (t : Fin cfg0.N) (a : Fin 512) (d : Fin 1024) :
    iblk m c 7 t (ix2 a d) = m ((c : Thread nD τ).loc main_arg7) (ix2 a d) := by
  blk_point [iblk, V, idx_val t]
theorem read8 (c : Dev nD) (t : Fin cfg0.N) (a d : Fin 1024) :
    iblk m c 8 t (ix2 a d) = m ((c : Thread nD τ).loc main_arg8) (ix2 a d) := by
  blk_point [iblk, V, idx_val t]
theorem read9 (c : Dev nD) (t : Fin cfg0.N) (d : Fin 1024) :
    iblk m c 9 t (ix2 0 d) = m ((c : Thread nD τ).loc main_arg9) (ix1 d) := by
  blk_point [iblk, V, idx_val t]
theorem read10 (c : Dev nD) (t : Fin cfg0.N) (d : Fin 1024) :
    iblk m c 10 t (ix2 0 d) = m ((c : Thread nD τ).loc main_arg10) (ix1 d) := by
  blk_point [iblk, V, idx_val t]

/-- The rows the kernel computes at point `t`. -/
abbrev tile (c : Dev nD) (t : Fin cfg0.N) : FVec Ideal S512x1024 .f32 :=
  k0_pay12 (iblk m c 0 t) (iblk m c 1 t) (iblk m c 2 t) (iblk m c 3 t) (iblk m c 4 t) (iblk m c 5 t) (iblk m c 6 t)
    (iblk m c 7 t) (iblk m c 8 t) (iblk m c 9 t) (iblk m c 10 t)

/-- The same rows with the whole-block loads read off. -/
theorem pay12_eq (x0 : Vec Ideal S1x512x1024 .f32) (x1 x2 x3 : Vec Ideal S1x512x512 .bf16) (x4 : Vec Ideal S1024x3072 .bf16)
    (x5 x6 x7 : Vec Ideal S512x1024 .bf16) (x8 : Vec Ideal S1024x1024 .bf16) (x9 x10 : Vec Ideal S1x1024 .f32) :
    k0_pay7 (k0_pay9 x0 x1 x2 x3 x4 x5 x6 x7 x8 x9 x10) (k0_pay10 x0 x1 x2 x3 x4 x5 x6 x7 x8 x9 x10) (k0_pay11 x0 x1 x2 x3 x4 x5 x6 x7 x8 x9 x10) x3 x7 x8 x9 x10
      = k0_pay12 x0 x1 x2 x3 x4 x5 x6 x7 x8 x9 x10 := by
  have e3 : View.ld x3 r0_2 = x3 := by funext i; pointwise []; blk_ext []
  have e7 : View.ld x7 r0_3 = x7 := by funext i; pointwise []
  have e8 : View.ld x8 r0_6 = x8 := by funext i; pointwise []
  have e9 : View.ld x9 r0_7 = x9 := by funext i; pointwise []; blk_ext []
  have e10 : View.ld x10 r0_7 = x10 := by funext i; pointwise []; blk_ext []
  rw [k0_pay12, e3, e7, e8, e9, e10]

/-- They are, element by element, the reference's at the element's place. -/
theorem rows (c : Dev nD) (t : Fin cfg0.N) (i : Fin 512) (d : Fin 1024) :
    tile m c t (ix2 i d) = ref m c (ix3 (seqOf t) (tokOf t i) d) := by
  refine (pay12_at _ _ _ _ _ _ _ _ _ _ _ i d).trans (Eq.trans ?_ (Cert.MergeRefIdeal.Val.out_at _ _ _ _ _ _ _ _ _ _ _ _ _ _).symm)
  simp only [read0, read1, read2, read3, read4_cols, read5, read6, read7, read8, read9, read10]

/-- The first result after the run: the merge. -/
theorem final11 (c : Dev nD) : (dats m 0 c).arrAt 11 (cfgs 0).N = ref m c := by
  refine (dats m 0 c).arrAt_eq_of_covers 11 _ (by decide +kernel) fun t hf y => ?_
  blk_simp; rw [after0_11]; frame_out
  refine Eq.trans ?_ ((rows m c t (y 1) (y 2)).trans ?_)
  · pointwise [k0_pay8]
    rw [pay12_eq]
  · blk_ext [idx_val t]

/-- The second: the same numbers. -/
theorem final12 (c : Dev nD) : (dats m 0 c).arrAt 12 (cfgs 0).N
    = truncf (F := Ideal) .bf16 (s := Cert.MergeRefIdeal.S4x4096x1024) (ref m c) Cert.MergeRefIdeal.Gen.bitsLt_bf16_f32 := by
  refine (dats m 0 c).arrAt_eq_of_covers 12 _ (by decide +kernel) fun t hf y => ?_
  blk_simp; rw [after0_12]; frame_out
  refine Eq.trans ?_ ((rows m c t (y 1) (y 2)).trans ?_)
  · pointwise [k0_pay1]
  · blk_ext [idx_val t]

/-- The third: the same with tokens and columns exchanged. -/
theorem final13 (c : Dev nD) : (dats m 0 c).arrAt 13 (cfgs 0).N
    = truncf (F := Ideal) .bf16 (transpose Cert.MergeRefIdeal.S4x1024x4096 [0, 2, 1] (s := Cert.MergeRefIdeal.S4x4096x1024) (ref m c) Cert.MergeRefIdeal.Gen.transposes_S4x4096x1024_S4x1024x4096_0_2_1) Cert.MergeRefIdeal.Gen.bitsLt_bf16_f32 := by
  refine (dats m 0 c).arrAt_eq_of_covers 13 _ (by decide +kernel) fun t hf y => ?_
  blk_simp; rw [after0_13]; frame_out
  refine Eq.trans ?_ ((rows m c t (y 2) (y 1)).trans ?_)
  · pointwise [k0_pay2]
  · pointwise []
    blk_ext [idx_val t]

end Cert.MergeIdeal.Val

end
-- ==== Proof.Linear.lean ====
/- The layer's plain projections as values: the three column groups of the combined input projection, and the memory's keys
   and values. Each kernel multiplies a tile of rows by a tile of columns, the whole inner dimension at once; each reference
   multiplies the arrays whole. Here: every tile a kernel writes back is the reference's array read at the tile's place. -/
module

public import proofs.«01_k».proof.Proof.Gen.InDsaIdeal
public import proofs.«01_k».proof.Proof.Gen.InDsaIdeal.Skeleton
public import proofs.«01_k».proof.Proof.Gen.InDsaIdeal.Launch
public import proofs.«01_k».proof.Proof.Gen.InDsaIdeal.Points
public import proofs.«01_k».proof.Proof.Gen.InDsaIdeal.Frame
public import proofs.«01_k».proof.Proof.Gen.InDsaRefIdeal
public import proofs.«01_k».proof.Proof.Gen.InDsaRefIdeal.Run
public import proofs.«01_k».proof.Proof.Gen.InRwkvIdeal
public import proofs.«01_k».proof.Proof.Gen.InRwkvIdeal.Skeleton
public import proofs.«01_k».proof.Proof.Gen.InRwkvIdeal.Launch
public import proofs.«01_k».proof.Proof.Gen.InRwkvIdeal.Points
public import proofs.«01_k».proof.Proof.Gen.InRwkvIdeal.Frame
public import proofs.«01_k».proof.Proof.Gen.InRwkvRefIdeal
public import proofs.«01_k».proof.Proof.Gen.InRwkvRefIdeal.Run
public import proofs.«01_k».proof.Proof.Gen.InMemIdeal
public import proofs.«01_k».proof.Proof.Gen.InMemIdeal.Skeleton
public import proofs.«01_k».proof.Proof.Gen.InMemIdeal.Launch
public import proofs.«01_k».proof.Proof.Gen.InMemIdeal.Points
public import proofs.«01_k».proof.Proof.Gen.InMemIdeal.Frame
public import proofs.«01_k».proof.Proof.Gen.InMemRefIdeal
public import proofs.«01_k».proof.Proof.Gen.InMemRefIdeal.Run
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.LinearRow

/-- Row `r` of `x`, its `a * b` rows numbered through, against column `n` of `w`. -/
def entry {a b k e : ℕ} (x : FVec Ideal ⟨3, ![a, b, k]⟩ .f32) (w : FVec Ideal ⟨2, ![k, e]⟩ .f32) (hb : 0 < b)
    (r : Fin (a * b)) (n : Fin e) : EReal :=
  ∑ j : Fin k, x (ix3 (⟨r.val / b, Nat.div_lt_of_lt_mul (Nat.mul_comm a b ▸ r.isLt)⟩ : Fin a) (⟨r.val % b, Nat.mod_lt _ hb⟩ : Fin b) j)
    * w (ix2 j n)

/-- A column of a part of the combined projection, in the whole. -/
abbrev col {n : ℕ} (off : ℕ) (h : off + n ≤ 5800) (i : Fin n) : Fin 5800 := ⟨off + i.val, by omega⟩

end Cert.LinearRow

open Cert.LinearRow

/-! ## The sparse attention's columns -/

namespace Cert.InDsaRefIdeal.Val

open Cert.InDsaRefIdeal Cert.InDsaRefIdeal.Gen

/-- The reference's array. -/
abbrev out (x : FVec Ideal S4x4096x1024 .f32) (w : FVec Ideal S1024x5800 .f32) : FVec Ideal S16384x424 .f32 :=
  shapeCast _ (extractStridedSlice S4x4096x424 ![0, 0, 0] (Host.dotGeneral dot_S4x4096x1024_S1024x5800_S4x4096x5800_2_0_01_1_n_n none x w)
    slices_S4x4096x5800_S4x4096x424_0_0_0) shapeCasts_S4x4096x424_S16384x424

theorem out_at (x : FVec Ideal S4x4096x1024 .f32) (w : FVec Ideal S1024x5800 .f32) (t : Fin 16384) (n : Fin 424) :
    out x w (ix2 t n) = entry x w (by decide) t (⟨n.val, by omega⟩ : Fin 5800) := by
  pointwise [out, entry]

end Cert.InDsaRefIdeal.Val

namespace Cert.InDsaIdeal.Val

open Cert.InDsaIdeal Cert.InDsaIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

theorem pay_at (x : Vec Ideal S2048x1024 .bf16) (w : Vec Ideal S1024x424 .bf16) (i : Fin 2048) (n : Fin 424) :
    k0_pay1 x w (ix2 i n) = ∑ k : Fin 1024, x (ix2 i k) * w (ix2 k n) := by
  pointwise [k0_pay1]

/-- The row of the whole that row `i` of point `t`'s tile is. -/
abbrev rowOf (t : Fin cfg0.N) (i : Fin 2048) : Fin 16384 := ⟨2048 * t.val + i.val, by have : t.val < 8 := t.isLt; omega⟩

theorem read0 (c : Dev nD) (t : Fin cfg0.N) (i : Fin 2048) (k : Fin 1024) :
    iblk m c 0 t (ix2 i k) = m ((c : Thread nD τ).loc main_arg0)
      (ix3 (⟨(rowOf t i).val / 4096, by omega⟩ : Fin 4) (⟨(rowOf t i).val % 4096, by omega⟩ : Fin 4096) k) := by
  blk_point [iblk, V, idx_val t]

theorem read1 (c : Dev nD) (t : Fin cfg0.N) (k : Fin 1024) (n : Fin 424) :
    iblk m c 1 t (ix2 k n) = m ((c : Thread nD τ).loc main_arg1) (ix2 k (⟨n.val, by omega⟩ : Fin 5800)) := by
  blk_point [iblk, V, idx_val t]

/-- What point `t` computes is the reference's array at the tile's place. -/
theorem rows (c : Dev nD) (t : Fin cfg0.N) (i : Fin 2048) (n : Fin 424) :
    k0_pay1 (iblk m c 0 t) (iblk m c 1 t) (ix2 i n)
      = Cert.InDsaRefIdeal.Val.out (m ((c : Thread nD τ).loc main_arg0)) (m ((c : Thread nD τ).loc main_arg1)) (ix2 (rowOf t i) n) := by
  rw [pay_at, Cert.InDsaRefIdeal.Val.out_at]
  exact Finset.sum_congr rfl fun k _ => congrArg₂ _ (read0 m c t i k) (read1 m c t k n)

/-- The kernel's array is the reference's. -/
theorem final (c : Dev nD) : (dats m 0 c).arrAt 2 (cfgs 0).N
    = Cert.InDsaRefIdeal.Val.out (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans ?_ ((rows m c t (y 0) (y 1)).trans ?_)
  · pointwise []
  · blk_ext [idx_val t]

end Cert.InDsaIdeal.Val

/-! ## The recurrence's columns, in two halves -/

namespace Cert.InRwkvRefIdeal.Val

open Cert.InRwkvRefIdeal Cert.InRwkvRefIdeal.Gen

/-- The reference's array. -/
abbrev out (x : FVec Ideal S4x4096x1024 .f32) (w : FVec Ideal S1024x5800 .f32) : FVec Ideal S16384x1792 .f32 :=
  shapeCast _ (extractStridedSlice S4x4096x1792 ![0, 0, 424] (Host.dotGeneral dot_S4x4096x1024_S1024x5800_S4x4096x5800_2_0_01_1_n_n none x w)
    slices_S4x4096x5800_S4x4096x1792_0_0_424) shapeCasts_S4x4096x1792_S16384x1792

theorem out_at (x : FVec Ideal S4x4096x1024 .f32) (w : FVec Ideal S1024x5800 .f32) (t : Fin 16384) (n : Fin 1792) :
    out x w (ix2 t n) = entry x w (by decide) t (col 424 (by decide) n) := by
  pointwise [out, entry]

end Cert.InRwkvRefIdeal.Val

namespace Cert.InRwkvIdeal.Val

open Cert.InRwkvIdeal Cert.InRwkvIdeal.Gen

variable (m : (ℓ : Loc nD τ sig) → Buf (Elt Ideal) ℓ)

theorem idx_val : ∀ t : Fin cfg0.N, win0_0.index t = ![t.val / 2, 0] ∧ win0_1.index t = ![0, t.val % 2]
    ∧ win0_2.index t = ![t.val / 2, t.val % 2] :=
  (by decide +kernel : ∀ t : Fin grid0.N, _)

theorem pay_at (x : Vec Ideal S2048x1024 .bf16) (w : Vec Ideal S1024x896 .bf16) (i : Fin 2048) (n : Fin 896) :
    k0_pay1 x w (ix2 i n) = ∑ k : Fin 1024, x (ix2 i k) * w (ix2 k n) := by
  pointwise [k0_pay1]

/-- The row of the whole that row `i` of point `t`'s tile is, and the column that its column `n` is. -/
abbrev rowOf (t : Fin cfg0.N) (i : Fin 2048) : Fin 16384 := ⟨2048 * (t.val / 2) + i.val, by have : t.val < 16 := t.isLt; omega⟩
abbrev colOf (t : Fin cfg0.N) (n : Fin 896) : Fin 1792 := ⟨896 * (t.val % 2) + n.val, by omega⟩

theorem read0 (c : Dev nD) (t : Fin cfg0.N) (i : Fin 2048) (k : Fin 1024) :
    iblk m c 0 t (ix2 i k) = m ((c : Thread nD τ).loc main_arg0)
      (ix3 (⟨(rowOf t i).val / 4096, by omega⟩ : Fin 4) (⟨(rowOf t i).val % 4096, by omega⟩ : Fin 4096) k) := by
  blk_point [iblk, V, idx_val t]

theorem read1 (c : Dev nD) (t : Fin cfg0.N) (k : Fin 1024) (n : Fin 896) :
    iblk m c 1 t (ix2 k n) = m ((c : Thread nD τ).loc main_arg1) (ix2 k (col 424 (by decide) (colOf t n))) := by
  blk_point [iblk, V, idx_val t]

/-- What point `t` computes is the reference's array at the tile's place. -/
theorem rows (c : Dev nD) (t : Fin cfg0.N) (i : Fin 2048) (n : Fin 896) :
    k0_pay1 (iblk m c 0 t) (iblk m c 1 t) (ix2 i n)
      = Cert.InRwkvRefIdeal.Val.out (m ((c : Thread nD τ).loc main_arg0)) (m ((c : Thread nD τ).loc main_arg1))
          (ix2 (rowOf t i) (colOf t n)) := by
  rw [pay_at, Cert.InRwkvRefIdeal.Val.out_at]
  exact Finset.sum_congr rfl fun k _ => congrArg₂ _ (read0 m c t i k) (read1 m c t k n)

/-- The kernel's array is the reference's. -/
theorem final (c : Dev nD) : (dats m 0 c).arrAt 2 (cfgs 0).N
    = Cert.InRwkvRefIdeal.Val.out (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans ?_ ((rows m c t (y 0) (y 1)).trans ?_)
  · pointwise []
  · blk_ext [idx_val t]

end Cert.InRwkvIdeal.Val

/-! ## The memory attention's queries -/

namespace Cert.InMemRefIdeal.Val

open Cert.InMemRefIdeal Cert.InMemRefIdeal.Gen

/-- The reference's array. -/
abbrev out (x : FVec Ideal S4x4096x1024 .f32) (w : FVec Ideal S1024x5800 .f32) : FVec Ideal S16384x512 .bf16 :=
  truncf .bf16 (shapeCast _ (extractStridedSlice S4x4096x512 ![0, 0, 2216] (Host.dotGeneral dot_S4x4096x1024_S1024x5800_S4x4096x5800_2_0_01_1_n_n none x w)
    slices_S4x4096x5800_S4x4096x512_0_0_2216) shapeCasts_S4x4096x512_S16384x512) bitsLt_bf16_f32

theorem out_at (x : FVec Ideal S4x4096x1024 .f32) (w : FVec Ideal S1024x5800 .f32) (t : Fin 16384) (n : Fin 512) :
    out x w (ix2 t n) = entry x w (by decide) t (col 2216 (by decide) n) := by
  pointwise [out, entry]

end Cert.InMemRefIdeal.Val

namespace Cert.InMemIdeal.Val

open Cert.InMemIdeal Cert.InMemIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

theorem pay_at (x : Vec Ideal S2048x1024 .bf16) (w : Vec Ideal S1024x512 .bf16) (i : Fin 2048) (n : Fin 512) :
    k0_pay1 x w (ix2 i n) = ∑ k : Fin 1024, x (ix2 i k) * w (ix2 k n) := by
  pointwise [k0_pay1]

/-- The row of the whole that row `i` of point `t`'s tile is. -/
abbrev rowOf (t : Fin cfg0.N) (i : Fin 2048) : Fin 16384 := ⟨2048 * t.val + i.val, by have : t.val < 8 := t.isLt; omega⟩

theorem read0 (c : Dev nD) (t : Fin cfg0.N) (i : Fin 2048) (k : Fin 1024) :
    iblk m c 0 t (ix2 i k) = m ((c : Thread nD τ).loc main_arg0)
      (ix3 (⟨(rowOf t i).val / 4096, by omega⟩ : Fin 4) (⟨(rowOf t i).val % 4096, by omega⟩ : Fin 4096) k) := by
  blk_point [iblk, V, idx_val t]

theorem read1 (c : Dev nD) (t : Fin cfg0.N) (k : Fin 1024) (n : Fin 512) :
    iblk m c 1 t (ix2 k n) = m ((c : Thread nD τ).loc main_arg1) (ix2 k (col 2216 (by decide) n)) := by
  blk_point [iblk, V, idx_val t]

/-- What point `t` computes is the reference's array at the tile's place. -/
theorem rows (c : Dev nD) (t : Fin cfg0.N) (i : Fin 2048) (n : Fin 512) :
    k0_pay1 (iblk m c 0 t) (iblk m c 1 t) (ix2 i n)
      = Cert.InMemRefIdeal.Val.out (m ((c : Thread nD τ).loc main_arg0)) (m ((c : Thread nD τ).loc main_arg1)) (ix2 (rowOf t i) n) := by
  rw [pay_at, Cert.InMemRefIdeal.Val.out_at]
  exact Finset.sum_congr rfl fun k _ => congrArg₂ _ (read0 m c t i k) (read1 m c t k n)

/-- The kernel's array is the reference's. -/
theorem final (c : Dev nD) : (dats m 0 c).arrAt 2 (cfgs 0).N
    = Cert.InMemRefIdeal.Val.out (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans ?_ ((rows m c t (y 0) (y 1)).trans ?_)
  · pointwise []
  · blk_ext [idx_val t]

end Cert.InMemIdeal.Val

/-! ## The memory's keys and values -/

namespace Cert.MemKvRefIdeal.Val

open Cert.MemKvRefIdeal Cert.MemKvRefIdeal.Gen

/-- The reference's array. -/
abbrev out (x : FVec Ideal S4x256x1024 .f32) (w : FVec Ideal S1024x1024 .f32) : FVec Ideal S1024x1024 .bf16 :=
  truncf .bf16 (shapeCast _ (Host.dotGeneral dot_S4x256x1024_S1024x1024_S4x256x1024_2_0_01_1_n_n none x w)
    shapeCasts_S4x256x1024_S1024x1024) bitsLt_bf16_f32

theorem out_at (x : FVec Ideal S4x256x1024 .f32) (w : FVec Ideal S1024x1024 .f32) (t n : Fin 1024) :
    out x w (ix2 t n) = entry x w (by decide) t n := by
  pointwise [out, entry]

end Cert.MemKvRefIdeal.Val

namespace Cert.MemKvIdeal.Val

open Cert.MemKvIdeal Cert.MemKvIdeal.Gen

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

theorem pay_at (x : Vec Ideal S512x1024 .f32) (w : Vec Ideal S1024x1024 .bf16) (i : Fin 512) (n : Fin 1024) :
    k0_pay1 x w (ix2 i n) = ∑ k : Fin 1024, x (ix2 i k) * w (ix2 k n) := by
  pointwise [k0_pay1]

/-- The row of the whole that row `i` of point `t`'s tile is. -/
abbrev rowOf (t : Fin cfg0.N) (i : Fin 512) : Fin 1024 := ⟨512 * t.val + i.val, by have : t.val < 2 := t.isLt; omega⟩

theorem read0 (c : Dev nD) (t : Fin cfg0.N) (i : Fin 512) (k : Fin 1024) :
    iblk m c 0 t (ix2 i k) = m ((c : Thread nD τ).loc main_arg0)
      (ix3 (⟨(rowOf t i).val / 256, by omega⟩ : Fin 4) (⟨(rowOf t i).val % 256, by omega⟩ : Fin 256) k) := by
  blk_point [iblk, V, idx_val t]

theorem read1 (c : Dev nD) (t : Fin cfg0.N) (k n : Fin 1024) :
    iblk m c 1 t (ix2 k n) = m ((c : Thread nD τ).loc main_arg1) (ix2 k n) := by
  blk_point [iblk, V, idx_val t]

/-- What point `t` computes is the reference's array at the tile's place. -/
theorem rows (c : Dev nD) (t : Fin cfg0.N) (i : Fin 512) (n : Fin 1024) :
    k0_pay1 (iblk m c 0 t) (iblk m c 1 t) (ix2 i n)
      = Cert.MemKvRefIdeal.Val.out (m ((c : Thread nD τ).loc main_arg0)) (m ((c : Thread nD τ).loc main_arg1)) (ix2 (rowOf t i) n) := by
  rw [pay_at, Cert.MemKvRefIdeal.Val.out_at]
  exact Finset.sum_congr rfl fun k _ => congrArg₂ _ (read0 m c t i k) (read1 m c t k n)

/-- The kernel's array is the reference's. -/
theorem final (c : Dev nD) : (dats m 0 c).arrAt 2 (cfgs 0).N
    = Cert.MemKvRefIdeal.Val.out (m ((c : Thread nD τ).loc main_arg0)) (m ((c : Thread nD τ).loc main_arg1)) := by
  refine (dats m 0 c).arrAt_eq_of_covers 2 _ (by decide +kernel) fun t hf y => ?_
  blk_simp; rw [after0_2]; frame_out
  refine Eq.trans ?_ ((rows m c t (y 0) (y 1)).trans ?_)
  · pointwise []
  · blk_ext [idx_val t]

end Cert.MemKvIdeal.Val

end
-- ==== Proof.MemAttn.lean ====
/- The attention over the memory as a value. The kernel takes 512 tokens at a time and goes through the four heads one after
   the other, each a plain softmax attention over the 256 memory rows; the reference forms the four heads' logits, weights
   and sums whole. Here: each head's tile the kernel writes back is the reference's array read at the tile's place. -/
module

public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.MemAttnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MemRow

/-! One token's attention in one head, over extended reals: `q` its query, `k` and `v` the head's keys and values. -/

/-- The logits: the scale is the f32 word of 1/√128. -/
def logit (q : Fin 128 → EReal) (k : Fin 256 → Fin 128 → EReal) (j : Fin 256) : EReal :=
  (∑ a, q a * k j a) * Ideal.ofBits .f32 0x3DB504F3#32

/-- The largest logit. -/
def peak (l : Fin 256 → EReal) : EReal := Finset.univ.fold max (Ideal.ofBits .f32 0xFF800000#32) l

/-- The weights before they are divided by their sum. -/
def weight (l : Fin 256 → EReal) (j : Fin 256) : EReal := Ideal.exp (l j - peak l)

/-- The weighted sum of the values. -/
def attend (l : Fin 256 → EReal) (v : Fin 256 → Fin 128 → EReal) (d : Fin 128) : EReal :=
  ∑ j, Ideal.div (weight l j) (∑ i, weight l i) * v j d

/-- The largest logit is no smaller than where the search for it began. -/
theorem max_peak (l : Fin 256 → EReal) : max (Ideal.ofBits .f32 0xFF800000#32) (peak l) = peak l :=
  max_eq_right ((Finset.le_fold_max _).mpr (Or.inl le_rfl))

end Cert.MemRow

open Cert.MemRow

/-! ## The reference -/

namespace Cert.MemAttnRefIdeal.Val

open Cert.MemAttnRefIdeal Cert.MemAttnRefIdeal.Gen

variable (x : FVec Ideal S4x4096x512 .bf16) (kv : FVec Ideal S4x256x1024 .bf16)

/-- The logits of all heads. -/
abbrev logits : FVec Ideal S4x4x4096x256 .f32 :=
  mulf (Host.dotGeneral dot_S4x4096x4x128_S4x256x4x128_S4x4x4096x256_3_3_1_1_02_02 none (shapeCast _ (extf .f32 x bitsLt_bf16_f32) shapeCasts_S4x4096x512_S4x4096x4x128) (shapeCast _ (extf .f32 (extractStridedSlice S4x256x512 ![0, 0, 0] kv slices_S4x256x1024_S4x256x512_0_0_0) bitsLt_bf16_f32) shapeCasts_S4x256x512_S4x256x4x128)) (broadcastInDim S4x4x4096x256 ![] bcast_S_S4x4x4096x256 (constant S_ .f32 0x3DB504F3#32))

/-- Every row's largest number, as the reference searches for it. -/
abbrev peaks (l : FVec Ideal S4x4x4096x256 .f32) : FVec Ideal S4x4x4096 .f32 :=
  Host.reduce FloatOps.maximumf l (constant S_ .f32 0xFF800000#32) reducesTo_S4x4x4096x256_S4x4x4096_d3 h_S_

/-- A bound below put under every number. -/
abbrev shift (p : FVec Ideal S4x4x4096 .f32) : FVec Ideal S4x4x4096 .f32 :=
  maximumf (broadcastInDim S4x4x4096 ![] bcast_S_S4x4x4096 (constant S_ .f32 0xFF800000#32)) p

/-- One number per row, along the row. -/
abbrev spread (p : FVec Ideal S4x4x4096 .f32) : FVec Ideal S4x4x4096x256 .f32 :=
  broadcastInDim S4x4x4096x256 ![0, 1, 2, 3] bcast_S4x4x4096x1_S4x4x4096x256_0_1_2_3 (broadcastInDim S4x4x4096x1 ![0, 1, 2] bcast_S4x4x4096_S4x4x4096x1_0_1_2 p)

/-- The weights before they are divided by their sum. -/
abbrev weights (l : FVec Ideal S4x4x4096x256 .f32) : FVec Ideal S4x4x4096x256 .f32 :=
  Host.exp (subf l (spread (shift (peaks l))))

/-- The weights divided by their sum, against the values, the heads side by side. -/
abbrev outOf (e : FVec Ideal S4x4x4096x256 .f32) : FVec Ideal S4x4096x512 .bf16 :=
  truncf .bf16 (shapeCast _ (transpose S4x4096x4x128 [0, 3, 1, 2] (Host.dotGeneral dot_S4x256x4x128_S4x4x4096x256_S4x4x128x4096_1_3_3_2_02_01 none (shapeCast _ (extf .f32 (extractStridedSlice S4x256x512 ![0, 0, 512] kv slices_S4x256x1024_S4x256x512_0_0_512) bitsLt_bf16_f32) shapeCasts_S4x256x512_S4x256x4x128) (Host.divf e (spread (Host.reduceAdd e (constant S_ .f32 0x00000000#32) reducesTo_S4x4x4096x256_S4x4x4096_d3 h_S_)))) transposes_S4x4x128x4096_S4x4096x4x128_0_3_1_2) shapeCasts_S4x4096x4x128_S4x4096x512) bitsLt_bf16_f32

/-- The reference's array. -/
abbrev out : FVec Ideal S4x4096x512 .bf16 := outOf kv (weights (logits x kv))

theorem logits_at (b h : Fin 4) (s : Fin 4096) (j : Fin 256) :
    logits x kv (ix4 b h s j) = logit (fun a => x (ix3 b s (⟨h.val * 128 + a.val, by omega⟩ : Fin 512)))
      (fun i a => kv (ix3 b i (⟨h.val * 128 + a.val, by omega⟩ : Fin 1024))) j := by
  pointwise [logits, logit]

theorem peaks_at (l : FVec Ideal S4x4x4096x256 .f32) (b h : Fin 4) (s : Fin 4096) :
    peaks l (ix3 b h s) = peak fun j => l (ix4 b h s j) := by
  refine (Host.reduce_eq_fold_single (FloatOps.maximumf (F := Ideal)) l _ _ (by decide) _ _).trans ?_
  refine congrArg (Finset.fold max (Ideal.ofBits .f32 0xFF800000#32) · Finset.univ) (funext fun j => congrArg l ?_)
  funext a
  fin_cases a <;> rfl

theorem shift_at (p : FVec Ideal S4x4x4096 .f32) (b h : Fin 4) (s : Fin 4096) :
    shift p (ix3 b h s) = max (Ideal.ofBits .f32 0xFF800000#32) (p (ix3 b h s)) := by
  pointwise [shift]

theorem spread_at (p : FVec Ideal S4x4x4096 .f32) (b h : Fin 4) (s : Fin 4096) (j : Fin 256) :
    spread p (ix4 b h s j) = p (ix3 b h s) := by
  pointwise [spread]

theorem exp_at (l q : FVec Ideal S4x4x4096x256 .f32) (b h : Fin 4) (s : Fin 4096) (j : Fin 256) :
    Host.exp (subf l q) (ix4 b h s j) = Ideal.exp (l (ix4 b h s j) - q (ix4 b h s j)) := by
  pointwise []

theorem weights_at (l : FVec Ideal S4x4x4096x256 .f32) (b h : Fin 4) (s : Fin 4096) (j : Fin 256) :
    weights l (ix4 b h s j) = weight (fun i => l (ix4 b h s i)) j := by
  refine (exp_at _ _ b h s j).trans (congrArg (fun z => Ideal.exp (l (ix4 b h s j) - z)) ?_)
  exact (spread_at _ b h s j).trans ((shift_at _ b h s).trans ((congrArg (max _) (peaks_at l b h s)).trans (max_peak _)))

theorem outOf_at (e : FVec Ideal S4x4x4096x256 .f32) (b : Fin 4) (s : Fin 4096) (h : Fin 4) (d : Fin 128) :
    outOf kv e (ix3 b s (⟨h.val * 128 + d.val, by omega⟩ : Fin 512)) = ∑ j : Fin 256,
      kv (ix3 b j (⟨512 + (h.val * 128 + d.val), by omega⟩ : Fin 1024)) * Ideal.div (e (ix4 b h s j)) (∑ i : Fin 256, e (ix4 b h s i)) := by
  pointwise [outOf]

/-- A token's attention in head `h`, at the head's column `d`. -/
theorem out_at (b : Fin 4) (s : Fin 4096) (h : Fin 4) (d : Fin 128) :
    out x kv (ix3 b s (⟨h.val * 128 + d.val, by omega⟩ : Fin 512)) = attend
      (logit (fun a => x (ix3 b s (⟨h.val * 128 + a.val, by omega⟩ : Fin 512))) (fun i a => kv (ix3 b i (⟨h.val * 128 + a.val, by omega⟩ : Fin 1024))))
      (fun j a => kv (ix3 b j (⟨512 + (h.val * 128 + a.val), by omega⟩ : Fin 1024))) d := by
  refine (outOf_at kv _ b s h d).trans ?_
  unfold attend
  refine Finset.sum_congr rfl fun j _ => ?_
  simp only [weights_at, logits_at]
  exact mul_comm _ _

end Cert.MemAttnRefIdeal.Val

/-! ## The kernel -/

namespace Cert.MemAttnIdeal.Val

open Cert.MemAttnIdeal Cert.MemAttnIdeal.Gen

variable (m : (ℓ : Loc nD τ sig) → Buf (Elt Ideal) ℓ)

/-- One head over a tile. -/
abbrev head (q : FVec Ideal S512x128 .bf16) (k v : FVec Ideal S256x128 .bf16) : FVec Ideal S1x512x128 .bf16 :=
  k0_pay7 q k v (constant S512x256 .f32 0x00000000#32)

theorem head_at (q : FVec Ideal S512x128 .bf16) (k v : FVec Ideal S256x128 .bf16) (i : Fin 512) (d : Fin 128) :
    head q k v (ix3 0 i d) = attend (logit (fun a => q (ix2 i a)) (fun j a => k (ix2 j a))) (fun j a => v (ix2 j a)) d := by
  pointwise [k0_pay7, attend, weight, peak, logit]

/-- The four stores' numbers are the same function of the head's columns. -/
theorem store0_eq (q : Vec Ideal S1x512x128 .bf16) (k v : Vec Ideal S1x256x128 .bf16) :
    k0_pay3 q k v = head (k0_pay4 q) (k0_pay5 k) (k0_pay6 v) := rfl
theorem store2_eq (q : Vec Ideal S1x512x128 .bf16) (k v : Vec Ideal S1x256x128 .bf16) :
    k0_pay1 (k0_pay8 q k v) = head (k0_pay4 q) (k0_pay5 k) (k0_pay6 v) := rfl
theorem store3_eq (q : Vec Ideal S1x512x128 .bf16) (k v : Vec Ideal S1x256x128 .bf16) :
    k0_pay2 q k v = head (k0_pay4 q) (k0_pay5 k) (k0_pay6 v) := rfl

theorem query_at (q : Vec Ideal S1x512x128 .bf16) (i : Fin 512) (a : Fin 128) : k0_pay4 q (ix2 i a) = q (ix3 0 i a) := by
  pointwise [k0_pay4]
theorem key_at (k : Vec Ideal S1x256x128 .bf16) (j : Fin 256) (a : Fin 128) : k0_pay5 k (ix2 j a) = k (ix3 0 j a) := by
  pointwise [k0_pay5]
theorem value_at (v : Vec Ideal S1x256x128 .bf16) (j : Fin 256) (a : Fin 128) : k0_pay6 v (ix2 j a) = v (ix3 0 j a) := by
  pointwise [k0_pay6]

theorem idx_val : ∀ t : Fin cfg0.N, win0_0.index t = ![t.val / 8, t.val % 8, 0] ∧ win0_1.index t = ![t.val / 8, 0, 0]
    ∧ win0_2.index t = ![t.val / 8, t.val % 8, 0] :=
  (by decide +kernel : ∀ t : Fin grid0.N, _)

/-- Point `t`'s sequence, and the token that its row `i` is. -/
abbrev seqOf (t : Fin cfg0.N) : Fin 4 := ⟨t.val / 8, by have : t.val < 32 := t.isLt; omega⟩
abbrev tokOf (t : Fin cfg0.N) (i : Fin 512) : Fin 4096 := ⟨512 * (t.val % 8) + i.val, by omega⟩

theorem read0 (c : Dev nD) (t : Fin cfg0.N) (i a : Fin 512) :
    iblk m c 0 t (ix3 0 i a) = m ((c : Thread nD τ).loc main_arg0) (ix3 (seqOf t) (tokOf t i) a) := by
  blk_point [iblk, V, idx_val t]

theorem read1 (c : Dev nD) (t : Fin cfg0.N) (j : Fin 256) (a : Fin 1024) :
    iblk m c 1 t (ix3 0 j a) = m ((c : Thread nD τ).loc main_arg1) (ix3 (seqOf t) j a) := by
  blk_point [iblk, V, idx_val t]

/-- The reference's array. -/
def ref (c : Dev nD) : FVec Ideal S4x4096x512 .bf16 := Cert.MemAttnRefIdeal.Val.out (m ((c : Thread nD τ).loc main_arg0)) (m ((c : Thread nD τ).loc main_arg1))

/-- Head `h` at point `t`, from the head's columns of the blocks, is the reference's array at the tile's place. -/
theorem rows (c : Dev nD) (t : Fin cfg0.N) (h : Fin 4) (q : Vec Ideal S1x512x128 .bf16) (k v : Vec Ideal S1x256x128 .bf16)
    (hq : ∀ i a, q (ix3 0 i a) = iblk m c 0 t (ix3 0 i (⟨h.val * 128 + a.val, by omega⟩ : Fin 512)))
    (hk : ∀ j a, k (ix3 0 j a) = iblk m c 1 t (ix3 0 j (⟨h.val * 128 + a.val, by omega⟩ : Fin 1024)))
    (hv : ∀ j a, v (ix3 0 j a) = iblk m c 1 t (ix3 0 j (⟨512 + (h.val * 128 + a.val), by omega⟩ : Fin 1024)))
    (z : S1x512x128.Idx) :
    head (k0_pay4 q) (k0_pay5 k) (k0_pay6 v) z
      = ref m c (ix3 (seqOf t) (tokOf t (z 1)) (⟨h.val * 128 + (z 2).val, by have : (z 2).val < 128 := (z 2).isLt; omega⟩ : Fin 512)) := by
  obtain ⟨i, d, rfl⟩ : ∃ (i : Fin 512) (d : Fin 128), z = ix3 0 i d :=
    ⟨z 1, z 2, by
      funext a
      fin_cases a
      · exact Subsingleton.elim (α := Fin 1) _ _
      · rfl
      · rfl⟩
  refine (head_at _ _ _ i d).trans (Eq.trans ?_ (Cert.MemAttnRefIdeal.Val.out_at _ _ (seqOf t) (tokOf t i) h d).symm)
  simp only [query_at, key_at, value_at, hq, hk, hv, read0, read1]

/-- The tile as a function of the place in it. -/
abbrev tile (c : Dev nD) (t : Fin cfg0.N) : S1x512x512.Idx → Elt Ideal .bf16 :=
  fun y => ref m c (ix3 (seqOf t) (tokOf t (y 1)) (y 2))

theorem at_eq (c : Dev nD) (t : Fin cfg0.N) (i n : Fin 512) (y : S1x512x512.Idx) (hi : i.val = (y 1).val) (hn : n.val = (y 2).val) :
    ref m c (ix3 (seqOf t) (tokOf t i) n) = tile m c t y :=
  congrArg₂ (fun a b => ref m c (ix3 (seqOf t) (tokOf t a) b)) (Fin.ext hi) (Fin.ext hn)

theorem out_eq (c : Dev nD) (t : Fin cfg0.N) (y : S1x512x512.Idx) :
    out0_2 (iblk m c 0 t) (iblk m c 1 t) y = tile m c t y := by
  refine View.canon_apply_of_pieces (tile m c t) _ ?_ y (cover0_2 _ _ _ _ y)
  intro p hp z
  simp only [List.mem_cons, List.not_mem_nil, or_false] at hp
  rcases hp with rfl | rfl | rfl | rfl
  · rw [store3_eq]
    refine (rows m c t 3 (View.ld (iblk m c 0 t) r0_9) (View.ld (iblk m c 1 t) r0_10) (View.ld (iblk m c 1 t) r0_11)
      (fun i a => ?_) (fun j a => ?_) (fun j a => ?_) z).trans (at_eq m c t _ _ _ ?_ ?_)
    · pointwise []
    · pointwise []
    · pointwise []
      exact congrArg (fun n => iblk m c 1 t (ix3 0 j n)) (Fin.ext (by show 896 + a.val = 512 + (384 + a.val); omega))
    · show (z 1).val = 0 + 1 * (z 1).val
      omega
    · show 384 + (z 2).val = 384 + 1 * (z 2).val
      omega
  · rw [store2_eq]
    refine (rows m c t 2 (View.ld (iblk m c 0 t) r0_6) (View.ld (iblk m c 1 t) r0_7) (View.ld (iblk m c 1 t) r0_8)
      (fun i a => ?_) (fun j a => ?_) (fun j a => ?_) z).trans (at_eq m c t _ _ _ ?_ ?_)
    · pointwise []
    · pointwise []
    · pointwise []
      exact congrArg (fun n => iblk m c 1 t (ix3 0 j n)) (Fin.ext (by show 768 + a.val = 512 + (256 + a.val); omega))
    · show (z 1).val = 0 + 1 * (z 1).val
      omega
    · show 256 + (z 2).val = 256 + 1 * (z 2).val
      omega
  · refine (rows m c t 1 (View.ld (iblk m c 0 t) r0_3) (View.ld (iblk m c 1 t) r0_4) (View.ld (iblk m c 1 t) r0_5)
      (fun i a => ?_) (fun j a => ?_) (fun j a => ?_) z).trans (at_eq m c t _ _ _ ?_ ?_)
    · pointwise []
    · pointwise []
    · pointwise []
      exact congrArg (fun n => iblk m c 1 t (ix3 0 j n)) (Fin.ext (by show 640 + a.val = 512 + (128 + a.val); omega))
    · show (z 1).val = 0 + 1 * (z 1).val
      omega
    · show 128 + (z 2).val = 128 + 1 * (z 2).val
      omega
  · rw [store0_eq]
    refine (rows m c t 0 (View.ld (iblk m c 0 t) r0_0) (View.ld (iblk m c 1 t) r0_1) (View.ld (iblk m c 1 t) r0_2)
      (fun i a => ?_) (fun j a => ?_) (fun j a => ?_) z).trans (at_eq m c t _ _ _ ?_ ?_)
    · pointwise []
    · pointwise []
    · pointwise []
    · show (z 1).val = 0 + 1 * (z 1).val
      omega
    · show 0 + (z 2).val = 0 + 1 * (z 2).val
      omega

/-- The kernel's array is the reference's. -/
theorem final (c : Dev nD) : (dats m 0 c).arrAt 2 (cfgs 0).N = ref m c := by
  refine (dats m 0 c).arrAt_eq_of_covers 2 _ (by decide +kernel) fun t hf y => ?_
  blk_simp; rw [after0_2]
  refine (out_eq m c t y).trans ?_
  show ref m c (ix3 (seqOf t) (tokOf t (y 1)) (y 2)) = _
  generalize ref m c = R
  blk_ext [idx_val t]

end Cert.MemAttnIdeal.Val

end
-- ==== Proof.Experts.lean ====
/- The experts as a value. The kernel takes 1024 tokens and 1024 experts at a time, forms the experts' gates head after head,
   and adds the gated activations' products with the second weights to an accumulator, which the last point of a run of
   sixteen normalises and writes back; the reference forms every gate and the two products whole. Here: the accumulator at
   the end of a run is the sum over all 16384 experts, and the tile written back is the reference's array read at the
   tile's place. -/
module

public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.ExpertsRow

/-- The exact GELU of a number. -/
def gelu (z : EReal) : EReal :=
  (Ideal.ofBits .f32 0x3F000000#32 * z) * (1 + Ideal.erf (z * Ideal.ofBits .f32 0x3F3504F3#32))

/-- An expert's gate: the heads' weights of the pairs chosen, each scaled, summed over the heads. -/
def gate (rk r1 p c1 : Fin 8 → EReal) : EReal := ∑ h : Fin 8, (if rk h < r1 h then p h else 0) * c1 h

/-- A row less its mean. -/
def centred (r : Fin 1024 → EReal) (a : Fin 1024) : EReal :=
  r a - Ideal.div (∑ x, r x) (Ideal.ofBits .f32 0x44800000#32)

/-- A centred row over its deviation, scaled and shifted. -/
def scaled (r g b : Fin 1024 → EReal) (a : Fin 1024) : EReal :=
  r a * Ideal.rsqrt (Ideal.div (∑ x, r x * r x) (Ideal.ofBits .f32 0x44800000#32) + Ideal.ofBits .f32 0x3727C5AC#32) * g a + b a

/-- A row and what the experts add to it, before the normalisation. -/
def summed (x e : Fin 1024 → EReal) (a : Fin 1024) : EReal := Ideal.ofBits .f32 0x3F9837F0#32 * x a + e a

end Cert.ExpertsRow

namespace Cert.ExpertsRefIdeal.Val

open Cert.ExpertsRefIdeal Cert.ExpertsRefIdeal.Gen

/-- The rows' products with the experts' first weights. -/
def dots (x : FVec Ideal S4x4096x1024 .f32) (u : FVec Ideal S16384x1024 .f32) : FVec Ideal S4x4096x16384 .f32 :=
  Host.dotGeneral dot_S4x4096x1024_S1024x16384_S4x4096x16384_2_0_01_1_n_n none x (transpose S1024x16384 [1, 0] u transposes_S16384x1024_S1024x16384_1_0)

/-- Their GELU. -/
def acts (z : FVec Ideal S4x4096x16384 .f32) : FVec Ideal S4x4096x16384 .f32 :=
  mulf (mulf (broadcastInDim S4x4096x16384 ![] bcast_S_S4x4096x16384 (constant S_ .f32 0x3F000000#32)) z)
    (Host.erfc (mulf (Host.negf z) (broadcastInDim S4x4096x16384 ![] bcast_S_S4x4096x16384 (constant S_ .f32 0x3F3504F3#32))))

/-- Rows of the first key, spread over the second. -/
abbrev first (r : FVec Ideal S4x8x128x4096 .f32) : FVec Ideal S4x8x128x128x4096 .f32 :=
  broadcastInDim S4x8x128x128x4096 ![0, 1, 2, 3, 4] bcast_S4x8x128x1x4096_S4x8x128x128x4096_0_1_2_3_4 (broadcastInDim S4x8x128x1x4096 ![0, 1, 2, 4] bcast_S4x8x128x4096_S4x8x128x1x4096_0_1_2_4 r)

/-- Rows of the second key, spread over the first. -/
abbrev second (r : FVec Ideal S4x8x128x4096 .bf16) : FVec Ideal S4x8x128x128x4096 .f32 :=
  broadcastInDim S4x8x128x128x4096 ![0, 1, 2, 3, 4] bcast_S4x8x1x128x4096_S4x8x128x128x4096_0_1_2_3_4 (broadcastInDim S4x8x1x128x4096 ![0, 1, 3, 4] bcast_S4x8x128x4096_S4x8x1x128x4096_0_1_3_4 (extf .f32 r bitsLt_bf16_f32))

/-- Each head's gates. -/
def headGates (r1 c1 : FVec Ideal S4x8x128x4096 .f32) (rk p : FVec Ideal S4x8x128x4096 .bf16) : FVec Ideal S4x8x128x128x4096 .f32 :=
  mulf (select (cmpf .olt (second rk) (first r1)) (second p) (broadcastInDim S4x8x128x128x4096 ![] bcast_S_S4x8x128x128x4096 (id (constant S_ .f32 0x00000000#32)))) (first c1)

/-- Their sum, one row of experts for every token. -/
def sums (g : FVec Ideal S4x8x128x128x4096 .f32) : FVec Ideal S4x4096x16384 .f32 :=
  transpose S4x4096x16384 [0, 2, 1] (shapeCast _ (Host.reduceAdd g (constant S_ .f32 0x00000000#32) reducesTo_S4x8x128x128x4096_S4x128x128x4096_d1 h_S_) shapeCasts_S4x128x128x4096_S4x16384x4096) transposes_S4x16384x4096_S4x4096x16384_0_2_1

/-- The rows before the normalisation. -/
def pre (x : FVec Ideal S4x4096x1024 .f32) (g z : FVec Ideal S4x4096x16384 .f32) (v : FVec Ideal S16384x1024 .f32) : FVec Ideal S4x4096x1024 .f32 :=
  addf (mulf (broadcastInDim S4x4096x1024 ![] bcast_S_S4x4096x1024 (constant S_ .f32 0x3F9837F0#32)) x) (Host.dotGeneral dot_S4x4096x16384_S16384x1024_S4x4096x1024_2_0_01_1_n_n none (mulf g z) v)

/-- The rows' means. -/
abbrev means (v : FVec Ideal S4x4096x1024 .f32) : FVec Ideal S4x4096x1 .f32 :=
  Host.divf (broadcastInDim S4x4096x1 ![0, 1] bcast_S4x4096_S4x4096x1_0_1 (Host.reduceAdd v (constant S_ .f32 0x00000000#32) reducesTo_S4x4096x1024_S4x4096_d2 h_S_)) (broadcastInDim S4x4096x1 ![] bcast_S_S4x4096x1 (constant S_ .f32 0x44800000#32))

/-- Rows less their means. -/
def centred (v : FVec Ideal S4x4096x1024 .f32) : FVec Ideal S4x4096x1024 .f32 :=
  subf v (broadcastInDim S4x4096x1024 ![0, 1, 2] bcast_S4x4096x1_S4x4096x1024_0_1_2 (means v))

/-- Centred rows over their deviation, scaled and shifted. -/
def scaled (c : FVec Ideal S4x4096x1024 .f32) (g b : FVec Ideal S1024 .f32) : FVec Ideal S4x4096x1024 .f32 :=
  addf (mulf (mulf c (broadcastInDim S4x4096x1024 ![0, 1, 2] bcast_S4x4096x1_S4x4096x1024_0_1_2 (Host.rsqrt (addf (means (mulf c c)) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S1x1x1024_S4x4096x1024_0_1_2 (broadcastInDim S1x1x1024 ![2] bcast_S1024_S1x1x1024_2 b))

/-- The reference's result, over the arguments. -/
def out (x : FVec Ideal S4x4096x1024 .f32) (r1 c1 : FVec Ideal S4x8x128x4096 .f32) (rk p : FVec Ideal S4x8x128x4096 .bf16)
    (u v : FVec Ideal S16384x1024 .f32) (g b : FVec Ideal S1024 .f32) : FVec Ideal S4x4096x1024 .f32 :=
  scaled (centred (pre x (sums (headGates r1 c1 rk p)) (acts (dots x u)) v)) g b

theorem dots_at (x u) (i : Fin 4) (j : Fin 4096) (n : Fin 16384) :
    dots x u (ix3 i j n) = (∑ d : Fin 1024, x (ix3 i j d) * u (ix2 n d) : EReal) := by
  pointwise [dots]

theorem acts_at (z) (i : Fin 4) (j : Fin 4096) (n : Fin 16384) : acts z (ix3 i j n) = Cert.ExpertsRow.gelu (z (ix3 i j n)) := by
  pointwise [acts]
  rw [Cert.ExpertsRow.gelu, neg_mul, Ideal.erfc_neg]

theorem headGates_at (r1 c1 rk p) (i : Fin 4) (h : Fin 8) (k l : Fin 128) (j : Fin 4096) :
    headGates r1 c1 rk p (ix5 i h k l j)
      = ((if rk (ix4 i h l j) < r1 (ix4 i h k j) then p (ix4 i h l j) else 0) * c1 (ix4 i h k j) : EReal) := by
  pointwise [headGates, id]

theorem sums_at (g) (i : Fin 4) (j : Fin 4096) (n : Fin 16384) :
    sums g (ix3 i j n) = (∑ h : Fin 8, g (ix5 i h (⟨n.val / 128, by omega⟩ : Fin 128) (⟨n.val % 128, by omega⟩ : Fin 128) j) : EReal) := by
  pointwise [sums]

theorem pre_at (x g z v) (i : Fin 4) (j : Fin 4096) (a : Fin 1024) :
    pre x g z v (ix3 i j a) = Cert.ExpertsRow.summed (fun d => x (ix3 i j d))
      (fun a => ∑ n : Fin 16384, (g (ix3 i j n) * z (ix3 i j n) : EReal) * (v (ix2 n a) : EReal)) a := by
  pointwise [pre]
  rfl

theorem centred_at (v) (i : Fin 4) (j : Fin 4096) (a : Fin 1024) :
    centred v (ix3 i j a) = Cert.ExpertsRow.centred (fun d => v (ix3 i j d)) a := by
  pointwise [centred]
  rfl

theorem scaled_at (v g b) (i : Fin 4) (j : Fin 4096) (a : Fin 1024) :
    scaled v g b (ix3 i j a) = Cert.ExpertsRow.scaled (fun d => v (ix3 i j d)) (fun d => g (ix1 d)) (fun d => b (ix1 d)) a := by
  pointwise [scaled]
  rfl

variable (m : (ℓ : Loc nD τ sig) → Buf (Elt Ideal) ℓ)

theorem res_out0_eq (c : Dev nD) : Value.res_out0 m c = out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  delta Value.res_out0 Value.res_main_v52 out; rfl

/-- What expert `n` adds to entry `a` of token `j`'s row in sequence `i`. -/
def expert (x : FVec Ideal S4x4096x1024 .f32) (r1 c1 : FVec Ideal S4x8x128x4096 .f32) (rk p : FVec Ideal S4x8x128x4096 .bf16)
    (u v : FVec Ideal S16384x1024 .f32) (i : Fin 4) (j : Fin 4096) (n : Fin 16384) (a : Fin 1024) : EReal :=
  Cert.ExpertsRow.gate (fun h => rk (ix4 i h (⟨n.val % 128, by omega⟩ : Fin 128) j)) (fun h => r1 (ix4 i h (⟨n.val / 128, by omega⟩ : Fin 128) j))
      (fun h => p (ix4 i h (⟨n.val % 128, by omega⟩ : Fin 128) j)) (fun h => c1 (ix4 i h (⟨n.val / 128, by omega⟩ : Fin 128) j))
    * Cert.ExpertsRow.gelu (∑ d : Fin 1024, x (ix3 i j d) * u (ix2 n d) : EReal) * v (ix2 n a)

theorem out_at (x r1 c1 rk p u v g b) (i : Fin 4) (j : Fin 4096) (a : Fin 1024) :
    out x r1 c1 rk p u v g b (ix3 i j a)
      = Cert.ExpertsRow.scaled (Cert.ExpertsRow.centred (Cert.ExpertsRow.summed (fun d => x (ix3 i j d))
          (fun a => ∑ n : Fin 16384, expert x r1 c1 rk p u v i j n a))) (fun d => g (ix1 d)) (fun d => b (ix1 d)) a := by
  simp only [out, scaled_at, centred_at, pre_at, acts_at, dots_at, sums_at, headGates_at]
  rfl

end Cert.ExpertsRefIdeal.Val

namespace Cert.ExpertsIdeal.Val

open Cert.ExpertsIdeal Cert.ExpertsIdeal.Gen

/-- Row `r` of head `h` in a block of eight rows for each head. -/
def rowOf (x : FVec Ideal S1x8x8x1024 .f32) (h r : Fin 8) : FVec Ideal S1x1x1x1024 .f32 :=
  View.ld (Val := Elt Ideal) (e' := .f32) x (Rect.unit (s := S1x8x8x1024) ![0, h.val, r.val, 0] ![1, 1, 1, 1024] (by
    have := h.isLt; have := r.isLt
    intro a; fin_cases a <;> simp [S1x8x8x1024] <;> omega))

/-- The keys of head `h`. -/
def keysOf (x : FVec Ideal S1x8x128x1024 .bf16) (h : Fin 8) : FVec Ideal S1x1x128x1024 .bf16 :=
  View.ld (Val := Elt Ideal) (e' := .bf16) x (Rect.unit (s := S1x8x128x1024) ![0, h.val, 0, 0] ![1, 1, 128, 1024] (by
    have := h.isLt
    intro a; fin_cases a <;> simp [S1x8x128x1024] <;> omega))

/-- One head's part of the gates, added to those of the heads before. -/
def addHead (acc : FVec Ideal S128x1024 .bf16) (r1 c1 : FVec Ideal S1x1x1x1024 .f32) (rk p : FVec Ideal S1x1x128x1024 .bf16) :
    FVec Ideal S128x1024 .bf16 :=
  addf acc (mulf (select (cmpf .olt (shapeCast S128x1024 rk shapeCasts_S1x1x128x1024_S128x1024)
      (broadcastTo S128x1024 (truncf .bf16 (shapeCast S1x1024 r1 shapeCasts_S1x1x1x1024_S1x1024) bitsLt_bf16_f32) broadcasts_S1x1024_S128x1024))
      (shapeCast S128x1024 p shapeCasts_S1x1x128x1024_S128x1024) (broadcast S128x1024 (Scalar.ofBits .bf16 0x0000#16)))
    (broadcastTo S128x1024 (truncf .bf16 (shapeCast S1x1024 c1 shapeCasts_S1x1x1x1024_S1x1024) bitsLt_bf16_f32) broadcasts_S1x1024_S128x1024))

/-- The gates of the experts in row `r` of the block: the heads' parts, one after the other. -/
def gates (x2 x3 : FVec Ideal S1x8x8x1024 .f32) (x4 x5 : FVec Ideal S1x8x128x1024 .bf16) (r : Fin 8) : FVec Ideal S128x1024 .bf16 :=
  addHead (addHead (addHead (addHead (addHead (addHead (addHead (addHead (broadcast S128x1024 (Scalar.ofBits .bf16 0x0000#16))
    (rowOf x2 0 r) (rowOf x3 0 r) (keysOf x4 0) (keysOf x5 0))
    (rowOf x2 1 r) (rowOf x3 1 r) (keysOf x4 1) (keysOf x5 1))
    (rowOf x2 2 r) (rowOf x3 2 r) (keysOf x4 2) (keysOf x5 2))
    (rowOf x2 3 r) (rowOf x3 3 r) (keysOf x4 3) (keysOf x5 3))
    (rowOf x2 4 r) (rowOf x3 4 r) (keysOf x4 4) (keysOf x5 4))
    (rowOf x2 5 r) (rowOf x3 5 r) (keysOf x4 5) (keysOf x5 5))
    (rowOf x2 6 r) (rowOf x3 6 r) (keysOf x4 6) (keysOf x5 6))
    (rowOf x2 7 r) (rowOf x3 7 r) (keysOf x4 7) (keysOf x5 7)

/-- The eight rows of gates, stacked. -/
def gateBlock (x2 x3 : FVec Ideal S1x8x8x1024 .f32) (x4 x5 : FVec Ideal S1x8x128x1024 .bf16) : FVec Ideal S1024x1024 .bf16 :=
  concatenate S1024x1024 0 [⟨S128x1024, gates x2 x3 x4 x5 0⟩, ⟨S128x1024, gates x2 x3 x4 x5 1⟩, ⟨S128x1024, gates x2 x3 x4 x5 2⟩,
    ⟨S128x1024, gates x2 x3 x4 x5 3⟩, ⟨S128x1024, gates x2 x3 x4 x5 4⟩, ⟨S128x1024, gates x2 x3 x4 x5 5⟩,
    ⟨S128x1024, gates x2 x3 x4 x5 6⟩, ⟨S128x1024, gates x2 x3 x4 x5 7⟩]
    concatenates_S128x1024_S128x1024_S128x1024_S128x1024_S128x1024_S128x1024_S128x1024_S128x1024_S1024x1024_d0

/-- What a grid point leaves in the accumulator, over what it held. -/
def stepOf (x1 : FVec Ideal S1x1024x1024 .bf16) (x2 x3 : FVec Ideal S1x8x8x1024 .f32) (x4 x5 : FVec Ideal S1x8x128x1024 .bf16)
    (x6 x7 : FVec Ideal S1024x1024 .bf16) (acc : FVec Ideal S1024x1024 .f32) : FVec Ideal S1024x1024 .f32 :=
  shapeCast S1024x1024 (addf acc (matmul dot_S1024x1024_S1024x1024_S1024x1024_1_0_0_1_n_n none (shapeCast S1024x1024 x7 shapeCasts_S1024x1024_S1024x1024)
    (mulf (gateBlock x2 x3 x4 x5) (truncf .bf16 (k0_pay3 x6 x1) bitsLt_bf16_f32)) (constant S1024x1024 .f32 0x00000000#32)))
    shapeCasts_S1024x1024_S1024x1024

variable (m : (ℓ : Loc nD τ sig) → Buf (Elt Ideal) ℓ)

theorem last_row (v15 : FVec Ideal S1024x1024 .f32) (v152 v289 v426 v563 v700 v837 v974 v1094 : FVec Ideal S128x1024 .bf16) (v1100 : FVec Ideal S1x1024 .bf16)
    (v1108 : FVec Ideal S128x1024 .bf16) (v1115 : FVec Ideal S1024x1024 .f32) (v1116 : FVec Ideal S1024x1024 .bf16)
    (x1 : FVec Ideal S1x1024x1024 .bf16) (x2 x3 : FVec Ideal S1x8x8x1024 .f32) (x4 x5 : FVec Ideal S1x8x128x1024 .bf16)
    (x6 x7 : FVec Ideal S1024x1024 .bf16) (acc : FVec Ideal S1024x1024 .f32)
    (e0 : v152 = gates x2 x3 x4 x5 0) (e1 : v289 = gates x2 x3 x4 x5 1) (e2 : v426 = gates x2 x3 x4 x5 2) (e3 : v563 = gates x2 x3 x4 x5 3)
    (e4 : v700 = gates x2 x3 x4 x5 4) (e5 : v837 = gates x2 x3 x4 x5 5) (e6 : v974 = gates x2 x3 x4 x5 6)
    (e7 : addf v1094 (mulf v1108 (broadcastTo S128x1024 v1100 broadcasts_S1x1024_S128x1024)) = gates x2 x3 x4 x5 7)
    (e8 : v15 = k0_pay3 x6 x1) (e9 : v1115 = acc) (e10 : v1116 = x7) :
    k0_pay113 v15 v152 v289 v426 v563 v700 v837 v974 v1094 v1100 v1108 v1115 v1116 = stepOf x1 x2 x3 x4 x5 x6 x7 acc := by
  subst e8 e9 e10
  unfold stepOf gateBlock
  rw [← e0, ← e1, ← e2, ← e3, ← e4, ← e5, ← e6, ← e7]
  rfl

theorem acc_B (c : Dev nD) (t : Fin cfg0.N) (h0 : ¬t.val % 16 = 0) (h1 : ¬t.val % 16 = 15) (j : S1024x1024.Idx) :
    (outsAt0 m c t.val t.isLt).2 j
      = stepOf (iblk m c 1 t) (iblk m c 2 t) (iblk m c 3 t) (iblk m c 4 t) (iblk m c 5 t) (iblk m c 6 t) (iblk m c 7 t)
          (outsAt0 m c (t.val - 1) (by omega)).2 j := by
  rw [outsAt0_B m c t h0 h1]
  frame_out
  refine congrFun (last_row _ _ _ _ _ _ _ _ _ _ _ _ _ _ _ _ _ _ _ _ _ rfl rfl rfl rfl rfl rfl rfl rfl rfl ?_ rfl) j
  exact (Memref.isWhole_whole _).read_unread _

theorem acc_C (c : Dev nD) (t : Fin cfg0.N) (h0 : ¬t.val % 16 = 0) (h1 : t.val % 16 = 15) (j : S1024x1024.Idx) :
    (outsAt0 m c t.val t.isLt).2 j
      = stepOf (iblk m c 1 t) (iblk m c 2 t) (iblk m c 3 t) (iblk m c 4 t) (iblk m c 5 t) (iblk m c 6 t) (iblk m c 7 t)
          (outsAt0 m c (t.val - 1) (by omega)).2 j := by
  rw [outsAt0_C m c t h0 h1]
  frame_out
  refine congrFun (last_row _ _ _ _ _ _ _ _ _ _ _ _ _ _ _ _ _ _ _ _ _ rfl rfl rfl rfl rfl rfl rfl rfl rfl ?_ rfl) j
  exact (Memref.isWhole_whole _).read_unread _

theorem acc_A (c : Dev nD) (t : Fin cfg0.N) (h0 : t.val % 16 = 0) (h1 : ¬t.val % 16 = 15) (j : S1024x1024.Idx) :
    (outsAt0 m c t.val t.isLt).2 j
      = stepOf (iblk m c 1 t) (iblk m c 2 t) (iblk m c 3 t) (iblk m c 4 t) (iblk m c 5 t) (iblk m c 6 t) (iblk m c 7 t)
          (k0_pay2 (F := Ideal)) j := by
  rw [outsAt0_A m c t h0 h1]
  frame_out
  refine congrFun (last_row _ _ _ _ _ _ _ _ _ _ _ _ _ _ _ _ _ _ _ _ _ rfl rfl rfl rfl rfl rfl rfl rfl rfl ?_ rfl) j
  rfl

theorem out_C (c : Dev nD) (t : Fin cfg0.N) (h0 : ¬t.val % 16 = 0) (h1 : t.val % 16 = 15) (j : S1x1024x1024.Idx) :
    (outsAt0 m c t.val t.isLt).1 j
      = k0_pay1 (iblk m c 0 t) (outsAt0 m c t.val t.isLt).2 (iblk m c 8 t) (iblk m c 9 t) j := by
  rw [funext (acc_C m c t h0 h1), outsAt0_C m c t h0 h1]
  frame_out
  refine congrFun (congrArg (fun a => k0_pay1 (iblk m c 0 t) a (iblk m c 8 t) (iblk m c 9 t)) ?_) j
  refine last_row _ _ _ _ _ _ _ _ _ _ _ _ _ _ _ _ _ _ _ _ _ rfl rfl rfl rfl rfl rfl rfl rfl rfl ?_ rfl
  exact (Memref.isWhole_whole _).read_unread _

theorem addHead_at (acc : FVec Ideal S128x1024 .bf16) (r1 c1 : FVec Ideal S1x1x1x1024 .f32) (rk p : FVec Ideal S1x1x128x1024 .bf16) (k : Fin 128) (q : Fin 1024) :
    addHead acc r1 c1 rk p (ix2 k q)
      = acc (ix2 k q) + (if rk (ix4 0 0 k q) < r1 (ix4 0 0 0 q) then p (ix4 0 0 k q) else 0) * c1 (ix4 0 0 0 q) := by
  pointwise [addHead]

theorem rowOf_at (x : FVec Ideal S1x8x8x1024 .f32) (h r : Fin 8) (q : Fin 1024) : rowOf x h r (ix4 0 0 0 q) = x (ix4 0 h r q) := by
  refine congrArg x (funext fun a => ?_)
  fin_cases a
  · rfl
  · exact Fin.ext (show h.val + 1 * 0 = h.val by omega)
  · exact Fin.ext (show r.val + 1 * 0 = r.val by omega)
  · exact Fin.ext (show 0 + 1 * q.val = q.val by omega)

theorem keysOf_at (x : FVec Ideal S1x8x128x1024 .bf16) (h : Fin 8) (k : Fin 128) (q : Fin 1024) : keysOf x h (ix4 0 0 k q) = x (ix4 0 h k q) := by
  refine congrArg x (funext fun a => ?_)
  fin_cases a
  · rfl
  · exact Fin.ext (show h.val + 1 * 0 = h.val by omega)
  · exact Fin.ext (show 0 + 1 * k.val = k.val by omega)
  · exact Fin.ext (show 0 + 1 * q.val = q.val by omega)

theorem gates_at (x2 x3 : FVec Ideal S1x8x8x1024 .f32) (x4 x5 : FVec Ideal S1x8x128x1024 .bf16) (r : Fin 8) (k : Fin 128) (q : Fin 1024) :
    gates x2 x3 x4 x5 r (ix2 k q)
      = ∑ h : Fin 8, (if x4 (ix4 0 h k q) < x2 (ix4 0 h r q) then x5 (ix4 0 h k q) else 0) * x3 (ix4 0 h r q) := by
  have hz : broadcast S128x1024 (Scalar.ofBits (F := Ideal) .bf16 0x0000#16) (ix2 k q) = (0 : EReal) := by pointwise []
  rw [Fin.sum_univ_eight]
  simp only [gates, addHead_at, rowOf_at, keysOf_at]
  rw [hz, zero_add]

theorem act_at (x6 : FVec Ideal S1024x1024 .bf16) (x1 : FVec Ideal S1x1024x1024 .bf16) (k q : Fin 1024) :
   k0_pay3 (F := Ideal) x6 x1 (ix2 k q) = Cert.ExpertsRow.gelu (∑ d : Fin 1024, x6 (ix2 k d) * x1 (ix3 0 d q) : EReal) := by
  pointwise [k0_pay3]
  rfl

theorem gateBlock_at (x2 x3 : FVec Ideal S1x8x8x1024 .f32) (x4 x5 : FVec Ideal S1x8x128x1024 .bf16) (k q : Fin 1024) :
    gateBlock x2 x3 x4 x5 (ix2 k q) = gates x2 x3 x4 x5 (⟨k.val / 128, by omega⟩ : Fin 8) (ix2 (⟨k.val % 128, by omega⟩ : Fin 128) q) := by
  pointwise [gateBlock]
  have hk := k.isLt
  split_ifs
  all_goals refine congrArg₂ (fun r i => gates x2 x3 x4 x5 r (ix2 i q)) (Fin.ext ?_) (Fin.ext ?_)
  all_goals simp
  all_goals omega

theorem stepOf_at (x1 : FVec Ideal S1x1024x1024 .bf16) (x2 x3 : FVec Ideal S1x8x8x1024 .f32) (x4 x5 : FVec Ideal S1x8x128x1024 .bf16)
    (x6 x7 : FVec Ideal S1024x1024 .bf16) (acc : FVec Ideal S1024x1024 .f32) (a q : Fin 1024) :
    stepOf x1 x2 x3 x4 x5 x6 x7 acc (ix2 a q)
      = acc (ix2 a q) + ∑ k : Fin 1024, (x7 (ix2 a k) : EReal) * (gateBlock x2 x3 x4 x5 (ix2 k q) * k0_pay3 (F := Ideal) x6 x1 (ix2 k q) : EReal) := by
  pointwise [stepOf]

/-- The last point's normalisation. -/
theorem out_at (x0 : FVec Ideal S1x1024x1024 .f32) (acc : FVec Ideal S1024x1024 .f32) (x8 x9 : FVec Ideal S1x1024 .f32) (i a : Fin 1024) :
    k0_pay1 (F := Ideal) x0 acc x8 x9 (ix3 0 i a)
      = Cert.ExpertsRow.scaled (Cert.ExpertsRow.centred (Cert.ExpertsRow.summed (fun d => x0 (ix3 0 i d)) (fun d => acc (ix2 d i))))
          (fun d => x8 (ix2 0 d)) (fun d => x9 (ix2 0 d)) a := by
  pointwise [k0_pay1]
  rfl

theorem idx_val : ∀ t : Fin cfg0.N, win0_0.index t = ![t.val / 64, t.val / 16 % 4, 0] ∧ win0_1.index t = ![t.val / 64, 0, t.val / 16 % 4]
    ∧ win0_2.index t = ![t.val / 64, 0, t.val % 16, t.val / 16 % 4] ∧ win0_3.index t = ![t.val / 64, 0, t.val % 16, t.val / 16 % 4]
    ∧ win0_4.index t = ![t.val / 64, 0, 0, t.val / 16 % 4] ∧ win0_5.index t = ![t.val / 64, 0, 0, t.val / 16 % 4]
    ∧ win0_6.index t = ![t.val % 16, 0] ∧ win0_7.index t = ![0, t.val % 16] ∧ win0_8.index t = ![0, 0] ∧ win0_9.index t = ![0, 0]
    ∧ win0_10.index t = ![t.val / 64, t.val / 16 % 4, 0] :=
  (by decide +kernel : ∀ t : Fin grid0.N, _)

/-- Point `t`'s sequence, the token that its column `q` is, and the expert that its row `k` is. -/
abbrev seqOf (t : Fin cfg0.N) : Fin 4 := ⟨t.val / 64, by have : t.val < 256 := t.isLt; omega⟩
abbrev tokOf (t : Fin cfg0.N) (q : Fin 1024) : Fin 4096 := ⟨1024 * (t.val / 16 % 4) + q.val, by omega⟩
abbrev expOf (t : Fin cfg0.N) (k : Fin 1024) : Fin 16384 := ⟨1024 * (t.val % 16) + k.val, by omega⟩

theorem read0 (c : Dev nD) (t : Fin cfg0.N) (i d : Fin 1024) :
    iblk m c 0 t (ix3 0 i d) = m ((c : Thread nD τ).loc main_arg0) (ix3 (seqOf t) (tokOf t i) d) := by
  blk_point [iblk, V, idx_val t]

theorem read1 (c : Dev nD) (t : Fin cfg0.N) (d q : Fin 1024) :
    iblk m c 1 t (ix3 0 d q) = m ((c : Thread nD τ).loc main_arg0) (ix3 (seqOf t) (tokOf t q) d) := by
  blk_point [iblk, V, idx_val t]

theorem read2 (c : Dev nD) (t : Fin cfg0.N) (h r : Fin 8) (q : Fin 1024) :
    iblk m c 2 t (ix4 0 h r q) = m ((c : Thread nD τ).loc main_arg1) (ix4 (seqOf t) h (⟨8 * (t.val % 16) + r.val, by omega⟩ : Fin 128) (tokOf t q)) := by
  blk_point [iblk, V, idx_val t]

theorem read3 (c : Dev nD) (t : Fin cfg0.N) (h r : Fin 8) (q : Fin 1024) :
    iblk m c 3 t (ix4 0 h r q) = m ((c : Thread nD τ).loc main_arg2) (ix4 (seqOf t) h (⟨8 * (t.val % 16) + r.val, by omega⟩ : Fin 128) (tokOf t q)) := by
  blk_point [iblk, V, idx_val t]

theorem read4 (c : Dev nD) (t : Fin cfg0.N) (h : Fin 8) (k : Fin 128) (q : Fin 1024) :
    iblk m c 4 t (ix4 0 h k q) = m ((c : Thread nD τ).loc main_arg3) (ix4 (seqOf t) h k (tokOf t q)) := by
  blk_point [iblk, V, idx_val t]

theorem read5 (c : Dev nD) (t : Fin cfg0.N) (h : Fin 8) (k : Fin 128) (q : Fin 1024) :
    iblk m c 5 t (ix4 0 h k q) = m ((c : Thread nD τ).loc main_arg4) (ix4 (seqOf t) h k (tokOf t q)) := by
  blk_point [iblk, V, idx_val t]

theorem read6 (c : Dev nD) (t : Fin cfg0.N) (k d : Fin 1024) :
    iblk m c 6 t (ix2 k d) = m ((c : Thread nD τ).loc main_arg5) (ix2 (expOf t k) d) := by
  blk_point [iblk, V, idx_val t]

theorem read7 (c : Dev nD) (t : Fin cfg0.N) (a k : Fin 1024) :
    iblk m c 7 t (ix2 a k) = m ((c : Thread nD τ).loc main_arg6) (ix2 (expOf t k) a) := by
  blk_point [iblk, V, idx_val t]

theorem read8 (c : Dev nD) (t : Fin cfg0.N) (a : Fin 1024) :
    iblk m c 8 t (ix2 0 a) = m ((c : Thread nD τ).loc main_arg7) (ix1 a) := by
  blk_point [iblk, V, idx_val t]

theorem read9 (c : Dev nD) (t : Fin cfg0.N) (a : Fin 1024) :
    iblk m c 9 t (ix2 0 a) = m ((c : Thread nD τ).loc main_arg8) (ix1 a) := by
  blk_point [iblk, V, idx_val t]

/-- What an expert adds to a token's row, over the arguments. -/
def added (c : Dev nD) (i : Fin 4) (j : Fin 4096) (n : Fin 16384) (a : Fin 1024) : EReal :=
  Cert.ExpertsRefIdeal.Val.expert (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) i j n a

theorem term_eq (c : Dev nD) (t : Fin cfg0.N) (a k q : Fin 1024) :
    HMul.hMul (α := EReal) (β := EReal) (γ := EReal) (iblk m c 7 t (ix2 a k)) (HMul.hMul (α := EReal) (β := EReal) (γ := EReal)
        (gateBlock (iblk m c 2 t) (iblk m c 3 t) (iblk m c 4 t) (iblk m c 5 t) (ix2 k q)) (k0_pay3 (F := Ideal) (iblk m c 6 t) (iblk m c 1 t) (ix2 k q)))
      = added m c (seqOf t) (tokOf t q) (expOf t k) a := by
  have hd : (⟨8 * (t.val % 16) + k.val / 128, by omega⟩ : Fin 128) = ⟨(expOf t k).val / 128, by omega⟩ := Fin.ext (by simp; omega)
  have hr : (⟨k.val % 128, by omega⟩ : Fin 128) = ⟨(expOf t k).val % 128, by omega⟩ := Fin.ext (by simp; omega)
  rw [gateBlock_at, gates_at, act_at, read7]
  simp only [read1, read2, read3, read4, read5, read6]
  rw [hd, hr, mul_comm]
  unfold added Cert.ExpertsRefIdeal.Val.expert Cert.ExpertsRow.gate
  refine congrArg₂ (· * ·) (congrArg₂ (· * ·) rfl (congrArg Cert.ExpertsRow.gelu ?_)) rfl
  exact Finset.sum_congr rfl fun d _ => mul_comm _ _

/-- What a grid point adds to the accumulator. -/
def term (c : Dev nD) (t : Fin cfg0.N) (y : S1024x1024.Idx) : EReal :=
  ∑ k : Fin 1024, added m c (seqOf t) (tokOf t (y 1)) (expOf t k) (y 0)

theorem step_eq (c : Dev nD) (t : Fin cfg0.N) (acc : FVec Ideal S1024x1024 .f32) (y : S1024x1024.Idx) :
    stepOf (iblk m c 1 t) (iblk m c 2 t) (iblk m c 3 t) (iblk m c 4 t) (iblk m c 5 t) (iblk m c 6 t) (iblk m c 7 t) acc y
      = (acc y + term m c t y : EReal) := by
  obtain ⟨a, q, rfl⟩ : ∃ a q : Fin 1024, y = ix2 a q := ⟨y 0, y 1, by funext x; fin_cases x <;> rfl⟩
  rw [stepOf_at]
  exact congrArg (acc (ix2 a q) + · : EReal → EReal) (Finset.sum_congr rfl fun k _ => term_eq m c t a k q)

theorem zero_at (y : S1024x1024.Idx) : k0_pay2 (F := Ideal) y = (0 : EReal) := by
  obtain ⟨a, q, rfl⟩ : ∃ a q : Fin 1024, y = ix2 a q := ⟨y 0, y 1, by funext x; fin_cases x <;> rfl⟩
  pointwise [k0_pay2]

/-- The accumulator at the last point of a run: every expert's part. -/
theorem acc_run (c : Dev nD) (t : Fin cfg0.N) (h : t.val % 16 = 15) (a q : Fin 1024) :
    (outsAt0 m c t.val t.isLt).2 (ix2 a q) = (∑ n : Fin 16384, added m c (seqOf t) (tokOf t q) n a : EReal) := by
  refine (Pipeline.eq_sum_fin_of_reset_step_apply_of_flush (M := EReal) (fun n hn => (outsAt0 m c n hn).2) 16 (fun _ => 0) (term m c)
    (fun t h0 y => ?_) (fun t h0 y => ?_) t h (ix2 a q)).trans ?_
  · exact (acc_A m c t h0 (by omega) y).trans ((step_eq m c t _ y).trans (congrArg (· + term m c t y) (zero_at y)))
  · by_cases h1 : t.val % 16 = 15
    · exact (acc_C m c t h0 h1 y).trans (step_eq m c t _ y)
    · exact (acc_B m c t h0 h1 y).trans (step_eq m c t _ y)
  · rw [zero_add]
    refine Fin.sum_mul_add_congr fun s k hl => ?_
    have hs := s.isLt
    have e1 : seqOf ⟨16 * (t.val / 16) + s.val, Pipeline.run_point_lt_of_flush t h s⟩ = seqOf t := Fin.ext (by simp; omega)
    have e2 : tokOf ⟨16 * (t.val / 16) + s.val, Pipeline.run_point_lt_of_flush t h s⟩ q = tokOf t q := Fin.ext (by simp; omega)
    have e3 : expOf ⟨16 * (t.val / 16) + s.val, Pipeline.run_point_lt_of_flush t h s⟩ k = ⟨s.val * 1024 + k.val, hl⟩ := Fin.ext (by simp; omega)
    show added m c (seqOf _) (tokOf _ q) (expOf _ k) a = _
    rw [e1, e2, e3]

/-- The reference's result, over the arguments. -/
def ref (c : Dev nD) : FVec Ideal S4x4096x1024 .f32 :=
  Cert.ExpertsRefIdeal.Val.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

theorem out_eq (c : Dev nD) (t : Fin cfg0.N) (h : t.val % 16 = 15) (y : S1x1024x1024.Idx) :
    (outsAt0 m c t.val t.isLt).1 y = ref m c (ix3 (seqOf t) (tokOf t (y 1)) (y 2)) := by
  obtain ⟨i, a, rfl⟩ : ∃ i a : Fin 1024, y = ix3 0 i a := ⟨y 1, y 2, by funext x; fin_cases x <;> first | rfl | exact Subsingleton.elim (α := Fin 1) _ _⟩
  rw [out_C m c t (by omega) h, out_at]
  unfold ref
  refine Eq.trans ?_ (Cert.ExpertsRefIdeal.Val.out_at _ _ _ _ _ _ _ _ _ _ _ _).symm
  rw [funext fun d => read0 m c t i d, funext fun d => acc_run m c t h d i, funext fun d => read8 m c t d, funext fun d => read9 m c t d]
  rfl

theorem final (c : Dev nD) : (dats m 0 c).arrAt 10 (cfgs 0).N = ref m c := by
  refine (dats m 0 c).arrAt_eq_of_covers 10 _ (by decide +kernel) fun t hf y => ?_
  blk_simp; rw [after0_10]
  refine (out_eq m c t ((flush0_10 t).mp hf) y).trans ?_
  generalize ref m c = R
  blk_ext [idx_val t]

end Cert.ExpertsIdeal.Val

end
-- ==== Proof.DsaPrep.lean ====
/- The sparse attention's operands as values. The kernel takes 512 tokens at a time, normalises their two latents and goes
   through the eight heads one after the other, each its own columns of the projections; the reference projects all heads
   at once. Here: each of the five tiles the kernel writes back is the reference's array read at the tile's place. -/
module

public import proofs.«01_k».proof.Proof.Gen.DsaPrepIdeal
public import proofs.«01_k».proof.Proof.Gen.DsaPrepIdeal.Skeleton
public import proofs.«01_k».proof.Proof.Gen.DsaPrepIdeal.Launch
public import proofs.«01_k».proof.Proof.Gen.DsaPrepIdeal.Points
public import proofs.«01_k».proof.Proof.Gen.DsaPrepIdeal.Frame
public import proofs.«01_k».proof.Proof.Gen.DsaPrepRefIdeal
public import proofs.«01_k».proof.Proof.Gen.DsaPrepRefIdeal.Run
public import Idealize.ShloMosaic.Lib.Pipeline.ValueKit

set_option maxRecDepth 16384

@[expose] public noncomputable section

open Idealize.ShloMosaic Idealize.ShloMosaic.TcCoe Idealize.SL.Sem
open Idealize.ShloMosaic.Pipeline (Dat)
open scoped BigOperators

namespace Cert.LatentRow

/-- A query's latent over the root of its mean square, scaled. -/
def query (r g : Fin 256 → EReal) (a : Fin 256) : EReal :=
  r a * Ideal.rsqrt (Ideal.div (∑ x, r x * r x) (Ideal.ofBits .f32 0x43800000#32) + Ideal.ofBits .f32 0x358637BD#32) * g a

/-- A key's latent over the root of its mean square, scaled. -/
def key (r g : Fin 128 → EReal) (a : Fin 128) : EReal :=
  r a * Ideal.rsqrt (Ideal.div (∑ x, r x * r x) (Ideal.ofBits .f32 0x43000000#32) + Ideal.ofBits .f32 0x358637BD#32) * g a

/-- A head's query carried into the keys' latents. -/
def carried (q : Fin 256 → EReal) (w : Fin 256 → Fin 64 → EReal) (u : Fin 64 → EReal) : EReal :=
  (∑ d : Fin 64, (∑ k : Fin 256, q k * w k d) * u d) * Ideal.ofBits .f32 0x3E000000#32

end Cert.LatentRow

open Cert.LatentRow

/-! ## The reference -/

namespace Cert.DsaPrepRefIdeal.Val

open Cert.DsaPrepRefIdeal Cert.DsaPrepRefIdeal.Gen

/-- The queries' latents. -/
def queries (x : FVec Ideal S4x4096x424 .f32) (g : FVec Ideal S256 .f32) : FVec Ideal S4x4096x256 .f32 :=
  mulf (mulf (extractStridedSlice S4x4096x256 ![0, 0, 0] x slices_S4x4096x424_S4x4096x256_0_0_0) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 0] x slices_S4x4096x424_S4x4096x256_0_0_0) (extractStridedSlice S4x4096x256 ![0, 0, 0] x slices_S4x4096x424_S4x4096x256_0_0_0)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 g))

/-- The keys' latents. -/
def keys (x : FVec Ideal S4x4096x424 .f32) (g : FVec Ideal S128 .f32) : FVec Ideal S4x4096x128 .f32 :=
  mulf (mulf (extractStridedSlice S4x4096x128 ![0, 0, 256] x slices_S4x4096x424_S4x4096x128_0_0_256) (broadcastInDim S4x4096x128 ![0, 1, 2] bcast_S4x4096x1_S4x4096x128_0_1_2 (Host.rsqrt (addf (Host.divf (broadcastInDim S4x4096x1 ![0, 1] bcast_S4x4096_S4x4096x1_0_1 (Host.reduceAdd (mulf (extractStridedSlice S4x4096x128 ![0, 0, 256] x slices_S4x4096x424_S4x4096x128_0_0_256) (extractStridedSlice S4x4096x128 ![0, 0, 256] x slices_S4x4096x424_S4x4096x128_0_0_256)) (constant S_ .f32 0x00000000#32) reducesTo_S4x4096x128_S4x4096_d2 h_S_)) (broadcastInDim S4x4096x1 ![] bcast_S_S4x4096x1 (constant S_ .f32 0x43000000#32))) (broadcastInDim S4x4096x1 ![] bcast_S_S4x4096x1 (constant S_ .f32 0x358637BD#32)))))) (broadcastInDim S4x4096x128 ![0, 1, 2] bcast_S1x1x128_S4x4096x128_0_1_2 (broadcastInDim S1x1x128 ![2] bcast_S128_S1x1x128_2 g))

/-- The heads' queries, carried into the keys' latents. -/
def carry (q : FVec Ideal S4x4096x256 .f32) (w : FVec Ideal S256x512 .f32) (u : FVec Ideal S128x8x64 .f32) : FVec Ideal S4x8x4096x128 .bf16 :=
  truncf .bf16 (transpose S4x8x4096x128 [0, 2, 1, 3] (mulf (transpose S4x4096x8x128 [2, 3, 0, 1] (Host.dotGeneral dot_S128x8x64_S4x4096x8x64_S8x128x4x4096_2_3_0_01_1_2 none u (shapeCast _ (Host.dotGeneral dot_S4x4096x256_S256x512_S4x4096x512_2_0_01_1_n_n none q w) shapeCasts_S4x4096x512_S4x4096x8x64)) transposes_S8x128x4x4096_S4x4096x8x128_2_3_0_1) (broadcastInDim S4x4096x8x128 ![] bcast_S_S4x4096x8x128 (constant S_ .f32 0x3E000000#32))) transposes_S4x4096x8x128_S4x8x4096x128_0_2_1_3) bitsLt_bf16_f32

/-- The indexer's queries. -/
def indexed (q : FVec Ideal S4x4096x256 .f32) (w : FVec Ideal S256x256 .f32) : FVec Ideal S4x8x4096x32 .bf16 :=
  truncf .bf16 (transpose S4x8x4096x32 [0, 2, 1, 3] (shapeCast _ (Host.dotGeneral dot_S4x4096x256_S256x256_S4x4096x256_2_0_01_1_n_n none q w) shapeCasts_S4x4096x256_S4x4096x8x32) transposes_S4x4096x8x32_S4x8x4096x32_0_2_1_3) bitsLt_bf16_f32

/-- The five results. -/
def out0 (x : FVec Ideal S4x4096x424 .f32) (g : FVec Ideal S256 .f32) (w : FVec Ideal S256x512 .f32) (u : FVec Ideal S128x8x64 .f32) : FVec Ideal S4x8x4096x128 .bf16 :=
  carry (queries x g) w u
def out1 (x : FVec Ideal S4x4096x424 .f32) (g : FVec Ideal S256 .f32) (w : FVec Ideal S256x256 .f32) : FVec Ideal S4x8x4096x32 .bf16 :=
  indexed (queries x g) w
def out2 (x : FVec Ideal S4x4096x424 .f32) : FVec Ideal S4x4096x8 .f32 :=
  mulf (extractStridedSlice S4x4096x8 ![0, 0, 416] x slices_S4x4096x424_S4x4096x8_0_0_416) (broadcastInDim S4x4096x8 ![] bcast_S_S4x4096x8 (constant S_ .f32 0x3D800000#32))
def out3 (x : FVec Ideal S4x4096x424 .f32) : FVec Ideal S4x4096x32 .bf16 :=
  truncf .bf16 (extractStridedSlice S4x4096x32 ![0, 0, 384] x slices_S4x4096x424_S4x4096x32_0_0_384) bitsLt_bf16_f32
def out4 (x : FVec Ideal S4x4096x424 .f32) (g : FVec Ideal S128 .f32) : FVec Ideal S4x4096x128 .bf16 :=
  truncf .bf16 (keys x g) bitsLt_bf16_f32

theorem queries_at (x g) (i : Fin 4) (j : Fin 4096) (a : Fin 256) :
    queries x g (ix3 i j a) = query (fun k => x (ix3 i j (⟨k.val, by omega⟩ : Fin 424))) (fun k => g (ix1 k)) a := by
  pointwise [queries, query]

theorem keys_at (x g) (i : Fin 4) (j : Fin 4096) (a : Fin 128) :
    keys x g (ix3 i j a) = key (fun k => x (ix3 i j (⟨256 + k.val, by omega⟩ : Fin 424))) (fun k => g (ix1 k)) a := by
  pointwise [keys, key]

theorem carry_at (q w u) (i : Fin 4) (h : Fin 8) (j : Fin 4096) (a : Fin 128) :
    carry q w u (ix4 i h j a) = carried (fun k => q (ix3 i j k)) (fun k d => w (ix2 k (⟨h.val * 64 + d.val, by omega⟩ : Fin 512))) (fun d => u (ix3 a h d)) := by
  refine Eq.trans (b := (∑ d : Fin 64, (u (ix3 a h d) : EReal) * (∑ k : Fin 256, q (ix3 i j k) * w (ix2 k (⟨h.val * 64 + d.val, by omega⟩ : Fin 512)) : EReal) : EReal) * Ideal.ofBits .f32 0x3E000000#32) ?_ ?_
  · pointwise [carry]
  · exact congrArg (· * Ideal.ofBits .f32 0x3E000000#32) (Finset.sum_congr rfl fun d _ => mul_comm _ _)

theorem indexed_at (q w) (i : Fin 4) (h : Fin 8) (j : Fin 4096) (a : Fin 32) :
    indexed q w (ix4 i h j a) = (∑ k : Fin 256, q (ix3 i j k) * w (ix2 k (⟨h.val * 32 + a.val, by omega⟩ : Fin 256)) : EReal) := by
  pointwise [indexed]

theorem out2_at (x) (i : Fin 4) (j : Fin 4096) (a : Fin 8) :
    out2 x (ix3 i j a) = (x (ix3 i j (⟨416 + a.val, by omega⟩ : Fin 424)) * Ideal.ofBits .f32 0x3D800000#32 : EReal) := by
  pointwise [out2]

theorem out3_at (x) (i : Fin 4) (j : Fin 4096) (a : Fin 32) :
    out3 x (ix3 i j a) = (x (ix3 i j (⟨384 + a.val, by omega⟩ : Fin 424)) : EReal) := by
  pointwise [out3]

theorem out4_at (x g) (i : Fin 4) (j : Fin 4096) (a : Fin 128) :
    out4 x g (ix3 i j a) = key (fun k => x (ix3 i j (⟨256 + k.val, by omega⟩ : Fin 424))) (fun k => g (ix1 k)) a :=
  keys_at x g i j a

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = out0 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v43) = out1 (m ((c.tc : Thread nD τ).loc main_arg0)) (m ((c.tc : Thread nD τ).loc main_arg1)) (m ((c.tc : Thread nD τ).loc main_arg5))
      ∧ r.2.mem ((c.tc : Thread nD τ).loc main_v39) = out2 (m ((c.tc : Thread nD τ).loc main_arg0))
      ∧ r.2.mem ((c.tc : Thread nD τ).loc main_v44) = out3 (m ((c.tc : Thread nD τ).loc main_arg0))
      ∧ r.2.mem ((c.tc : Thread nD τ).loc main_v45) = out4 (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  delta out0 out1 out2 out3 out4 carry indexed keys queries
  exact Value.run m ρ

end Cert.DsaPrepRefIdeal.Val

/-! ## The kernel -/

namespace Cert.DsaPrepIdeal.Val

open Cert.DsaPrepIdeal Cert.DsaPrepIdeal.Gen

theorem query_at (x : Vec Ideal S1x512x424 .f32) (g : Vec Ideal S1x256 .f32) (i : Fin 512) (a : Fin 256) :
    k0_pay5 x g (ix2 i a) = query (fun k => x (ix3 0 i (⟨k.val, by omega⟩ : Fin 424))) (fun k => g (ix2 0 k)) a := by
  pointwise [k0_pay5, k0_pay1, query]

theorem key_at (x : Vec Ideal S1x512x424 .f32) (g : Vec Ideal S1x128 .f32) (i : Fin 512) (a : Fin 128) :
    k0_pay28 (k0_pay4 x g) (ix3 0 i a) = key (fun k => x (ix3 0 i (⟨256 + k.val, by omega⟩ : Fin 424))) (fun k => g (ix2 0 k)) a := by
  pointwise [k0_pay28, k0_pay4, k0_pay1, key]

theorem weight_at (x : Vec Ideal S1x512x424 .f32) (i : Fin 512) (a : Fin 8) :
    k0_pay26 (k0_pay3 x) (ix3 0 i a) = (x (ix3 0 i (⟨416 + a.val, by omega⟩ : Fin 424)) * Ideal.ofBits .f32 0x3D800000#32 : EReal) := by
  pointwise [k0_pay26, k0_pay3, k0_pay1]

theorem index_at (x : Vec Ideal S1x512x424 .f32) (i : Fin 512) (a : Fin 32) :
    k0_pay27 (k0_pay2 x) (ix3 0 i a) = (x (ix3 0 i (⟨384 + a.val, by omega⟩ : Fin 424)) : EReal) := by
  pointwise [k0_pay27, k0_pay2, k0_pay1]

/-- One head's query over a tile, and one head of the indexer's. -/
abbrev head (q : FVec Ideal S512x256 .bf16) (w : Vec Ideal S1x256x64 .bf16) (u : Vec Ideal S1x64x128 .bf16) : FVec Ideal S1x1x512x128 .bf16 :=
  k0_pay9 q w u
abbrev indexHead (q : FVec Ideal S512x256 .bf16) (w : Vec Ideal S1x256x32 .bf16) : FVec Ideal S1x1x512x32 .bf16 :=
  k0_pay8 q w

theorem head_at (q : FVec Ideal S512x256 .bf16) (w : Vec Ideal S1x256x64 .bf16) (u : Vec Ideal S1x64x128 .bf16) (i : Fin 512) (a : Fin 128) :
    head q w u (ix4 0 0 i a) = carried (fun k => q (ix2 i k)) (fun k d => w (ix3 0 k d)) (fun d => u (ix3 0 d a)) := by
  pointwise [k0_pay9, carried]

theorem indexHead_at (q : FVec Ideal S512x256 .bf16) (w : Vec Ideal S1x256x32 .bf16) (i : Fin 512) (a : Fin 32) :
    indexHead q w (ix4 0 0 i a) = (∑ k : Fin 256, q (ix2 i k) * w (ix3 0 k a) : EReal) := by
  pointwise [k0_pay8]

variable (m : (ℓ : Loc nD τ sig) → Buf (Elt Ideal) ℓ)

theorem idx_val : ∀ t : Fin cfg0.N, win0_0.index t = ![t.val / 8, t.val % 8, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![t.val / 8, 0, t.val % 8, 0] ∧ win0_7.index t = ![t.val / 8, 0, t.val % 8, 0]
    ∧ win0_8.index t = ![t.val / 8, t.val % 8, 0] ∧ win0_9.index t = ![t.val / 8, t.val % 8, 0] ∧ win0_10.index t = ![t.val / 8, t.val % 8, 0] :=
  (by decide +kernel : ∀ t : Fin grid0.N, _)

/-- Point `t`'s sequence, and the token that its row `i` is. -/
abbrev seqOf (t : Fin cfg0.N) : Fin 4 := ⟨t.val / 8, by have : t.val < 32 := t.isLt; omega⟩
abbrev tokOf (t : Fin cfg0.N) (i : Fin 512) : Fin 4096 := ⟨512 * (t.val % 8) + i.val, by omega⟩

theorem read0 (c : Dev nD) (t : Fin cfg0.N) (i : Fin 512) (a : Fin 424) :
    iblk m c 0 t (ix3 0 i a) = m ((c : Thread nD τ).loc main_arg0) (ix3 (seqOf t) (tokOf t i) a) := by
  blk_point [iblk, V, idx_val t]

theorem read1 (c : Dev nD) (t : Fin cfg0.N) (a : Fin 256) :
    iblk m c 1 t (ix2 0 a) = m ((c : Thread nD τ).loc main_arg1) (ix1 a) := by
  blk_point [iblk, V, idx_val t]

theorem read2 (c : Dev nD) (t : Fin cfg0.N) (a : Fin 128) :
    iblk m c 2 t (ix2 0 a) = m ((c : Thread nD τ).loc main_arg2) (ix1 a) := by
  blk_point [iblk, V, idx_val t]

theorem read3 (c : Dev nD) (t : Fin cfg0.N) (h : Fin 8) (k : Fin 256) (d : Fin 64) :
    iblk m c 3 t (ix3 h k d) = m ((c : Thread nD τ).loc main_arg3) (ix2 k (⟨h.val * 64 + d.val, by omega⟩ : Fin 512)) := by
  blk_point [iblk, V, idx_val t]

theorem read4 (c : Dev nD) (t : Fin cfg0.N) (h : Fin 8) (d : Fin 64) (a : Fin 128) :
    iblk m c 4 t (ix3 h d a) = m ((c : Thread nD τ).loc main_arg4) (ix3 a h d) := by
  blk_point [iblk, V, idx_val t]

theorem read5 (c : Dev nD) (t : Fin cfg0.N) (h : Fin 8) (k : Fin 256) (a : Fin 32) :
    iblk m c 5 t (ix3 h k a) = m ((c : Thread nD τ).loc main_arg5) (ix2 k (⟨h.val * 32 + a.val, by omega⟩ : Fin 256)) := by
  blk_point [iblk, V, idx_val t]

/-- The reference's arrays. -/
def ref6 (c : Dev nD) : FVec Ideal S4x8x4096x128 .bf16 := Cert.DsaPrepRefIdeal.Val.out0 (m ((c : Thread nD τ).loc main_arg0)) (m ((c : Thread nD τ).loc main_arg1)) (m ((c : Thread nD τ).loc main_arg3)) (m ((c : Thread nD τ).loc main_arg4))
def ref7 (c : Dev nD) : FVec Ideal S4x8x4096x32 .bf16 := Cert.DsaPrepRefIdeal.Val.out1 (m ((c : Thread nD τ).loc main_arg0)) (m ((c : Thread nD τ).loc main_arg1)) (m ((c : Thread nD τ).loc main_arg5))
def ref8 (c : Dev nD) : FVec Ideal S4x4096x8 .f32 := Cert.DsaPrepRefIdeal.Val.out2 (m ((c : Thread nD τ).loc main_arg0))
def ref9 (c : Dev nD) : FVec Ideal S4x4096x32 .bf16 := Cert.DsaPrepRefIdeal.Val.out3 (m ((c : Thread nD τ).loc main_arg0))
def ref10 (c : Dev nD) : FVec Ideal S4x4096x128 .bf16 := Cert.DsaPrepRefIdeal.Val.out4 (m ((c : Thread nD τ).loc main_arg0)) (m ((c : Thread nD τ).loc main_arg2))

/-- The queries' latents at point `t`. -/
abbrev latents (c : Dev nD) (t : Fin cfg0.N) : FVec Ideal S512x256 .bf16 :=
  k0_pay5 (View.ld (iblk m c 0 t) r0_0) (View.ld (iblk m c 1 t) r0_1)

theorem whole0 (c : Dev nD) (t : Fin cfg0.N) (i : Fin 512) (a : Fin 424) :
    View.ld (iblk m c 0 t) r0_0 (ix3 0 i a) = m ((c : Thread nD τ).loc main_arg0) (ix3 (seqOf t) (tokOf t i) a) := by
  refine Eq.trans ?_ (read0 m c t i a)
  pointwise []

theorem whole1 (c : Dev nD) (t : Fin cfg0.N) (a : Fin 256) :
    View.ld (iblk m c 1 t) r0_1 (ix2 0 a) = m ((c : Thread nD τ).loc main_arg1) (ix1 a) := by
  refine Eq.trans ?_ (read1 m c t a)
  pointwise []

theorem whole2 (c : Dev nD) (t : Fin cfg0.N) (a : Fin 128) :
    View.ld (iblk m c 2 t) r0_2 (ix2 0 a) = m ((c : Thread nD τ).loc main_arg2) (ix1 a) := by
  refine Eq.trans ?_ (read2 m c t a)
  pointwise []

theorem latents_at (c : Dev nD) (t : Fin cfg0.N) (i : Fin 512) (a : Fin 256) :
    latents m c t (ix2 i a) = Cert.DsaPrepRefIdeal.Val.queries (m ((c : Thread nD τ).loc main_arg0)) (m ((c : Thread nD τ).loc main_arg1)) (ix3 (seqOf t) (tokOf t i) a) := by
  refine (query_at _ _ i a).trans (Eq.trans ?_ (Cert.DsaPrepRefIdeal.Val.queries_at _ _ (seqOf t) (tokOf t i) a).symm)
  simp only [whole0, whole1]

/-- Head `h` at point `t` is the reference's array at the tile's place. -/
theorem rows6 (c : Dev nD) (t : Fin cfg0.N) (h : Fin 8) (w : Vec Ideal S1x256x64 .bf16) (u : Vec Ideal S1x64x128 .bf16)
    (hw : ∀ k d, w (ix3 0 k d) = iblk m c 3 t (ix3 h k d)) (hu : ∀ d a, u (ix3 0 d a) = iblk m c 4 t (ix3 h d a)) (z : S1x1x512x128.Idx) :
    head (latents m c t) w u z = ref6 m c (ix4 (seqOf t) h (tokOf t (z 2)) (z 3)) := by
  obtain ⟨i, a, rfl⟩ : ∃ (i : Fin 512) (a : Fin 128), z = ix4 0 0 i a :=
    ⟨z 2, z 3, by funext x; fin_cases x <;> first | rfl | exact Subsingleton.elim (α := Fin 1) _ _⟩
  refine (head_at _ _ _ i a).trans (Eq.trans ?_ (Cert.DsaPrepRefIdeal.Val.carry_at _ _ _ (seqOf t) h (tokOf t i) a).symm)
  simp only [latents_at, hw, hu, read3, read4]

theorem rows7 (c : Dev nD) (t : Fin cfg0.N) (h : Fin 8) (w : Vec Ideal S1x256x32 .bf16)
    (hw : ∀ k a, w (ix3 0 k a) = iblk m c 5 t (ix3 h k a)) (z : S1x1x512x32.Idx) :
    indexHead (latents m c t) w z = ref7 m c (ix4 (seqOf t) h (tokOf t (z 2)) (z 3)) := by
  obtain ⟨i, a, rfl⟩ : ∃ (i : Fin 512) (a : Fin 32), z = ix4 0 0 i a :=
    ⟨z 2, z 3, by funext x; fin_cases x <;> first | rfl | exact Subsingleton.elim (α := Fin 1) _ _⟩
  refine (indexHead_at _ _ i a).trans (Eq.trans ?_ (Cert.DsaPrepRefIdeal.Val.indexed_at _ _ (seqOf t) h (tokOf t i) a).symm)
  simp only [latents_at, hw, read5]

/-- The tiles as functions of the place in them. -/
abbrev tile6 (c : Dev nD) (t : Fin cfg0.N) : S1x8x512x128.Idx → Elt Ideal .bf16 := fun y => ref6 m c (ix4 (seqOf t) (y 1) (tokOf t (y 2)) (y 3))
abbrev tile7 (c : Dev nD) (t : Fin cfg0.N) : S1x8x512x32.Idx → Elt Ideal .bf16 := fun y => ref7 m c (ix4 (seqOf t) (y 1) (tokOf t (y 2)) (y 3))
abbrev tile8 (c : Dev nD) (t : Fin cfg0.N) : S1x512x8.Idx → Elt Ideal .f32 := fun y => ref8 m c (ix3 (seqOf t) (tokOf t (y 1)) (y 2))
abbrev tile9 (c : Dev nD) (t : Fin cfg0.N) : S1x512x32.Idx → Elt Ideal .bf16 := fun y => ref9 m c (ix3 (seqOf t) (tokOf t (y 1)) (y 2))
abbrev tile10 (c : Dev nD) (t : Fin cfg0.N) : S1x512x128.Idx → Elt Ideal .bf16 := fun y => ref10 m c (ix3 (seqOf t) (tokOf t (y 1)) (y 2))

theorem at6 (c : Dev nD) (t : Fin cfg0.N) (h : Fin 8) (i : Fin 512) (a : Fin 128) (y : S1x8x512x128.Idx)
    (hh : h.val = (y 1).val) (hi : i.val = (y 2).val) (ha : a.val = (y 3).val) :
    ref6 m c (ix4 (seqOf t) h (tokOf t i) a) = tile6 m c t y := by
  rw [show h = y 1 from Fin.ext hh, show i = y 2 from Fin.ext hi, show a = y 3 from Fin.ext ha]

theorem at7 (c : Dev nD) (t : Fin cfg0.N) (h : Fin 8) (i : Fin 512) (a : Fin 32) (y : S1x8x512x32.Idx)
    (hh : h.val = (y 1).val) (hi : i.val = (y 2).val) (ha : a.val = (y 3).val) :
    ref7 m c (ix4 (seqOf t) h (tokOf t i) a) = tile7 m c t y := by
  rw [show h = y 1 from Fin.ext hh, show i = y 2 from Fin.ext hi, show a = y 3 from Fin.ext ha]

theorem out6_eq (c : Dev nD) (t : Fin cfg0.N) (y : S1x8x512x128.Idx) :
    out0_6 (iblk m c 0 t) (iblk m c 1 t) (iblk m c 2 t) (iblk m c 3 t) (iblk m c 4 t) (iblk m c 5 t) y = tile6 m c t y := by
  refine View.canon_apply_of_pieces (tile6 m c t) _ ?_ y (cover0_6 _ _ _ _ _ _ _ _ y)
  intro p hp z
  simp only [List.mem_cons, List.not_mem_nil, or_false] at hp
  rcases hp with rfl | rfl | rfl | rfl | rfl | rfl | rfl | rfl
  · refine (rows6 m c t 7 (View.ld (iblk m c 3 t) r0_38) (View.ld (iblk m c 4 t) r0_39) (fun k d => ?_) (fun d a => ?_) z).trans (at6 m c t _ _ _ _ ?_ ?_ ?_)
    · pointwise []
    · pointwise []
    · show 7 = 7 + 1 * (z 1).val
      have : (z 1).val < 1 := (z 1).isLt
      omega
    · show (z 2).val = 0 + 1 * (z 2).val
      omega
    · show (z 3).val = 0 + 1 * (z 3).val
      omega
  · refine (rows6 m c t 6 (View.ld (iblk m c 3 t) r0_33) (View.ld (iblk m c 4 t) r0_34) (fun k d => ?_) (fun d a => ?_) z).trans (at6 m c t _ _ _ _ ?_ ?_ ?_)
    · pointwise []
    · pointwise []
    · show 6 = 6 + 1 * (z 1).val
      have : (z 1).val < 1 := (z 1).isLt
      omega
    · show (z 2).val = 0 + 1 * (z 2).val
      omega
    · show (z 3).val = 0 + 1 * (z 3).val
      omega
  · refine (rows6 m c t 5 (View.ld (iblk m c 3 t) r0_28) (View.ld (iblk m c 4 t) r0_29) (fun k d => ?_) (fun d a => ?_) z).trans (at6 m c t _ _ _ _ ?_ ?_ ?_)
    · pointwise []
    · pointwise []
    · show 5 = 5 + 1 * (z 1).val
      have : (z 1).val < 1 := (z 1).isLt
      omega
    · show (z 2).val = 0 + 1 * (z 2).val
      omega
    · show (z 3).val = 0 + 1 * (z 3).val
      omega
  · refine (rows6 m c t 4 (View.ld (iblk m c 3 t) r0_23) (View.ld (iblk m c 4 t) r0_24) (fun k d => ?_) (fun d a => ?_) z).trans (at6 m c t _ _ _ _ ?_ ?_ ?_)
    · pointwise []
    · pointwise []
    · show 4 = 4 + 1 * (z 1).val
      have : (z 1).val < 1 := (z 1).isLt
      omega
    · show (z 2).val = 0 + 1 * (z 2).val
      omega
    · show (z 3).val = 0 + 1 * (z 3).val
      omega
  · refine (rows6 m c t 3 (View.ld (iblk m c 3 t) r0_18) (View.ld (iblk m c 4 t) r0_19) (fun k d => ?_) (fun d a => ?_) z).trans (at6 m c t _ _ _ _ ?_ ?_ ?_)
    · pointwise []
    · pointwise []
    · show 3 = 3 + 1 * (z 1).val
      have : (z 1).val < 1 := (z 1).isLt
      omega
    · show (z 2).val = 0 + 1 * (z 2).val
      omega
    · show (z 3).val = 0 + 1 * (z 3).val
      omega
  · refine (rows6 m c t 2 (View.ld (iblk m c 3 t) r0_13) (View.ld (iblk m c 4 t) r0_14) (fun k d => ?_) (fun d a => ?_) z).trans (at6 m c t _ _ _ _ ?_ ?_ ?_)
    · pointwise []
    · pointwise []
    · show 2 = 2 + 1 * (z 1).val
      have : (z 1).val < 1 := (z 1).isLt
      omega
    · show (z 2).val = 0 + 1 * (z 2).val
      omega
    · show (z 3).val = 0 + 1 * (z 3).val
      omega
  · refine (rows6 m c t 1 (View.ld (iblk m c 3 t) r0_8) (View.ld (iblk m c 4 t) r0_9) (fun k d => ?_) (fun d a => ?_) z).trans (at6 m c t _ _ _ _ ?_ ?_ ?_)
    · pointwise []
    · pointwise []
    · show 1 = 1 + 1 * (z 1).val
      have : (z 1).val < 1 := (z 1).isLt
      omega
    · show (z 2).val = 0 + 1 * (z 2).val
      omega
    · show (z 3).val = 0 + 1 * (z 3).val
      omega
  · refine (rows6 m c t 0 (View.ld (iblk m c 3 t) r0_3) (View.ld (iblk m c 4 t) r0_4) (fun k d => ?_) (fun d a => ?_) z).trans (at6 m c t _ _ _ _ ?_ ?_ ?_)
    · pointwise []
    · pointwise []
    · show 0 = 0 + 1 * (z 1).val
      have : (z 1).val < 1 := (z 1).isLt
      omega
    · show (z 2).val = 0 + 1 * (z 2).val
      omega
    · show (z 3).val = 0 + 1 * (z 3).val
      omega

theorem out7_eq (c : Dev nD) (t : Fin cfg0.N) (y : S1x8x512x32.Idx) :
    out0_7 (iblk m c 0 t) (iblk m c 1 t) (iblk m c 2 t) (iblk m c 3 t) (iblk m c 4 t) (iblk m c 5 t) y = tile7 m c t y := by
  refine View.canon_apply_of_pieces (tile7 m c t) _ ?_ y (cover0_7 _ _ _ _ _ _ _ _ y)
  intro p hp z
  simp only [List.mem_cons, List.not_mem_nil, or_false] at hp
  rcases hp with rfl | rfl | rfl | rfl | rfl | rfl | rfl | rfl
  · refine (rows7 m c t 7 (View.ld (iblk m c 5 t) r0_41) (fun k a => ?_) z).trans (at7 m c t _ _ _ _ ?_ ?_ ?_)
    · pointwise []
    · show 7 = 7 + 1 * (z 1).val
      have : (z 1).val < 1 := (z 1).isLt
      omega
    · show (z 2).val = 0 + 1 * (z 2).val
      omega
    · show (z 3).val = 0 + 1 * (z 3).val
      omega
  · refine (rows7 m c t 6 (View.ld (iblk m c 5 t) r0_36) (fun k a => ?_) z).trans (at7 m c t _ _ _ _ ?_ ?_ ?_)
    · pointwise []
    · show 6 = 6 + 1 * (z 1).val
      have : (z 1).val < 1 := (z 1).isLt
      omega
    · show (z 2).val = 0 + 1 * (z 2).val
      omega
    · show (z 3).val = 0 + 1 * (z 3).val
      omega
  · refine (rows7 m c t 5 (View.ld (iblk m c 5 t) r0_31) (fun k a => ?_) z).trans (at7 m c t _ _ _ _ ?_ ?_ ?_)
    · pointwise []
    · show 5 = 5 + 1 * (z 1).val
      have : (z 1).val < 1 := (z 1).isLt
      omega
    · show (z 2).val = 0 + 1 * (z 2).val
      omega
    · show (z 3).val = 0 + 1 * (z 3).val
      omega
  · refine (rows7 m c t 4 (View.ld (iblk m c 5 t) r0_26) (fun k a => ?_) z).trans (at7 m c t _ _ _ _ ?_ ?_ ?_)
    · pointwise []
    · show 4 = 4 + 1 * (z 1).val
      have : (z 1).val < 1 := (z 1).isLt
      omega
    · show (z 2).val = 0 + 1 * (z 2).val
      omega
    · show (z 3).val = 0 + 1 * (z 3).val
      omega
  · refine (rows7 m c t 3 (View.ld (iblk m c 5 t) r0_21) (fun k a => ?_) z).trans (at7 m c t _ _ _ _ ?_ ?_ ?_)
    · pointwise []
    · show 3 = 3 + 1 * (z 1).val
      have : (z 1).val < 1 := (z 1).isLt
      omega
    · show (z 2).val = 0 + 1 * (z 2).val
      omega
    · show (z 3).val = 0 + 1 * (z 3).val
      omega
  · refine (rows7 m c t 2 (View.ld (iblk m c 5 t) r0_16) (fun k a => ?_) z).trans (at7 m c t _ _ _ _ ?_ ?_ ?_)
    · pointwise []
    · show 2 = 2 + 1 * (z 1).val
      have : (z 1).val < 1 := (z 1).isLt
      omega
    · show (z 2).val = 0 + 1 * (z 2).val
      omega
    · show (z 3).val = 0 + 1 * (z 3).val
      omega
  · refine (rows7 m c t 1 (View.ld (iblk m c 5 t) r0_11) (fun k a => ?_) z).trans (at7 m c t _ _ _ _ ?_ ?_ ?_)
    · pointwise []
    · show 1 = 1 + 1 * (z 1).val
      have : (z 1).val < 1 := (z 1).isLt
      omega
    · show (z 2).val = 0 + 1 * (z 2).val
      omega
    · show (z 3).val = 0 + 1 * (z 3).val
      omega
  · refine (rows7 m c t 0 (View.ld (iblk m c 5 t) r0_6) (fun k a => ?_) z).trans (at7 m c t _ _ _ _ ?_ ?_ ?_)
    · pointwise []
    · show 0 = 0 + 1 * (z 1).val
      have : (z 1).val < 1 := (z 1).isLt
      omega
    · show (z 2).val = 0 + 1 * (z 2).val
      omega
    · show (z 3).val = 0 + 1 * (z 3).val
      omega

theorem out8_eq (c : Dev nD) (t : Fin cfg0.N) (y : S1x512x8.Idx) :
    out0_8 (iblk m c 0 t) (iblk m c 1 t) (iblk m c 2 t) (iblk m c 3 t) (iblk m c 4 t) (iblk m c 5 t) y = ref8 m c (ix3 (seqOf t) (tokOf t (y 1)) (y 2)) := by
  refine View.canon_apply_of_pieces (tile8 m c t) _ ?_ y (cover0_8 _ y)
  intro p hp z
  simp only [List.mem_cons, List.not_mem_nil, or_false] at hp
  subst hp
  obtain ⟨i, a, rfl⟩ : ∃ (i : Fin 512) (a : Fin 8), z = ix3 0 i a :=
    ⟨z 1, z 2, by funext x; fin_cases x <;> first | rfl | exact Subsingleton.elim (α := Fin 1) _ _⟩
  refine Eq.trans (b := ref8 m c (ix3 (seqOf t) (tokOf t i) a)) ?_ (congrArg₂ (fun x y => ref8 m c (ix3 (seqOf t) (tokOf t x) y)) (Fin.ext ?_) (Fin.ext ?_))
  · refine (weight_at _ i a).trans (Eq.trans ?_ (Cert.DsaPrepRefIdeal.Val.out2_at _ (seqOf t) (tokOf t i) a).symm)
    simp only [whole0]
  · show i.val = 0 + 1 * i.val
    omega
  · show a.val = 0 + 1 * a.val
    omega

theorem out9_eq (c : Dev nD) (t : Fin cfg0.N) (y : S1x512x32.Idx) :
    out0_9 (iblk m c 0 t) (iblk m c 1 t) (iblk m c 2 t) (iblk m c 3 t) (iblk m c 4 t) (iblk m c 5 t) y = ref9 m c (ix3 (seqOf t) (tokOf t (y 1)) (y 2)) := by
  refine View.canon_apply_of_pieces (tile9 m c t) _ ?_ y (cover0_9 _ y)
  intro p hp z
  simp only [List.mem_cons, List.not_mem_nil, or_false] at hp
  subst hp
  obtain ⟨i, a, rfl⟩ : ∃ (i : Fin 512) (a : Fin 32), z = ix3 0 i a :=
    ⟨z 1, z 2, by funext x; fin_cases x <;> first | rfl | exact Subsingleton.elim (α := Fin 1) _ _⟩
  refine Eq.trans (b := ref9 m c (ix3 (seqOf t) (tokOf t i) a)) ?_ (congrArg₂ (fun x y => ref9 m c (ix3 (seqOf t) (tokOf t x) y)) (Fin.ext ?_) (Fin.ext ?_))
  · refine (index_at _ i a).trans (Eq.trans ?_ (Cert.DsaPrepRefIdeal.Val.out3_at _ (seqOf t) (tokOf t i) a).symm)
    simp only [whole0]
  · show i.val = 0 + 1 * i.val
    omega
  · show a.val = 0 + 1 * a.val
    omega

theorem out10_eq (c : Dev nD) (t : Fin cfg0.N) (y : S1x512x128.Idx) :
    out0_10 (iblk m c 0 t) (iblk m c 1 t) (iblk m c 2 t) (iblk m c 3 t) (iblk m c 4 t) (iblk m c 5 t) y = ref10 m c (ix3 (seqOf t) (tokOf t (y 1)) (y 2)) := by
  refine View.canon_apply_of_pieces (tile10 m c t) _ ?_ y (cover0_10 _ y)
  intro p hp z
  simp only [List.mem_cons, List.not_mem_nil, or_false] at hp
  subst hp
  obtain ⟨i, a, rfl⟩ : ∃ (i : Fin 512) (a : Fin 128), z = ix3 0 i a :=
    ⟨z 1, z 2, by funext x; fin_cases x <;> first | rfl | exact Subsingleton.elim (α := Fin 1) _ _⟩
  refine Eq.trans (b := ref10 m c (ix3 (seqOf t) (tokOf t i) a)) ?_ (congrArg₂ (fun x y => ref10 m c (ix3 (seqOf t) (tokOf t x) y)) (Fin.ext ?_) (Fin.ext ?_))
  · refine (key_at _ _ i a).trans (Eq.trans ?_ (Cert.DsaPrepRefIdeal.Val.out4_at _ _ (seqOf t) (tokOf t i) a).symm)
    simp only [whole0, whole2]
  · show i.val = 0 + 1 * i.val
    omega
  · show a.val = 0 + 1 * a.val
    omega

theorem final6 (c : Dev nD) : (dats m 0 c).arrAt 6 (cfgs 0).N = ref6 m c := by
  refine (dats m 0 c).arrAt_eq_of_covers 6 _ (by decide +kernel) fun t hf y => ?_
  blk_simp; rw [after0_6]
  refine (out6_eq m c t y).trans ?_
  show ref6 m c (ix4 (seqOf t) (y 1) (tokOf t (y 2)) (y 3)) = _
  generalize ref6 m c = R
  blk_ext [idx_val t]

theorem final7 (c : Dev nD) : (dats m 0 c).arrAt 7 (cfgs 0).N = ref7 m c := by
  refine (dats m 0 c).arrAt_eq_of_covers 7 _ (by decide +kernel) fun t hf y => ?_
  blk_simp; rw [after0_7]
  refine (out7_eq m c t y).trans ?_
  show ref7 m c (ix4 (seqOf t) (y 1) (tokOf t (y 2)) (y 3)) = _
  generalize ref7 m c = R
  blk_ext [idx_val t]

theorem final8 (c : Dev nD) : (dats m 0 c).arrAt 8 (cfgs 0).N = ref8 m c := by
  refine (dats m 0 c).arrAt_eq_of_covers 8 _ (by decide +kernel) fun t hf y => ?_
  blk_simp; rw [after0_8]
  refine (out8_eq m c t y).trans ?_
  show ref8 m c (ix3 (seqOf t) (tokOf t (y 1)) (y 2)) = _
  generalize ref8 m c = R
  blk_ext [idx_val t]

theorem final9 (c : Dev nD) : (dats m 0 c).arrAt 9 (cfgs 0).N = ref9 m c := by
  refine (dats m 0 c).arrAt_eq_of_covers 9 _ (by decide +kernel) fun t hf y => ?_
  blk_simp; rw [after0_9]
  refine (out9_eq m c t y).trans ?_
  show ref9 m c (ix3 (seqOf t) (tokOf t (y 1)) (y 2)) = _
  generalize ref9 m c = R
  blk_ext [idx_val t]

theorem final10 (c : Dev nD) : (dats m 0 c).arrAt 10 (cfgs 0).N = ref10 m c := by
  refine (dats m 0 c).arrAt_eq_of_covers 10 _ (by decide +kernel) fun t hf y => ?_
  blk_simp; rw [after0_10]
  refine (out10_eq m c t y).trans ?_
  show ref10 m c (ix3 (seqOf t) (tokOf t (y 1)) (y 2)) = _
  generalize ref10 m c = R
  blk_ext [idx_val t]

end Cert.DsaPrepIdeal.Val

end
-- ==== Proof.RwkvRows.lean ====
/- The recurrent branch's operands, as functions of a token's row and as the arrays of the reference. -/
module

public import proofs.«01_k».proof.Proof.Gen.RwkvPrepRefIdeal
public import proofs.«01_k».proof.Proof.Gen.RwkvPrepRefIdeal.Run
public import Idealize.ShloMosaic.Lib.Pipeline.ValueKit

set_option maxRecDepth 16384

@[expose] public noncomputable section

open Idealize.ShloMosaic Idealize.ShloMosaic.TcCoe Idealize.SL.Sem
open scoped BigOperators

namespace Cert.RecurrentRow

/-- A column of a token, drawn towards the token before it. -/
def mixed (x p u : EReal) : EReal := x + (p - x) * u

/-- `log (1 + e^s)`. -/
def softplus (s : EReal) : EReal := max s 0 + Ideal.log1p (Ideal.exp (-(max s (-s))))

/-- The logarithm of the decay. -/
def decay (s : EReal) : EReal := -Ideal.exp (-softplus s - Ideal.ofBits .f32 0x3F000000#32)

/-- The decay's argument: the bias and the row's low-rank part carried up. -/
def decayArg (l w : Fin 64 → EReal) (b : EReal) : EReal := -(b + ∑ d, Ideal.tanh (l d) * w d)

/-- The learning rate. -/
def rate (l w : Fin 64 → EReal) (b : EReal) : EReal := Ideal.logistic (b + ∑ d, l d * w d)

/-- The output gate. -/
def gate (l w : Fin 128 → EReal) : EReal := ∑ d, Ideal.logistic (l d) * w d

/-- The key, scaled by the learning rate. -/
def scaled (k a s : EReal) : EReal := k * (1 + (a - 1) * s)

/-- A key's column over the length of its head's columns. -/
def unit (k : EReal) (h : Fin 64 → EReal) : EReal :=
  Ideal.div k (max (Ideal.sqrt (∑ d, h d * h d)) (Ideal.ofBits .f32 0x2B8CBCCC#32))

end Cert.RecurrentRow

open Cert.RecurrentRow

namespace Cert.RwkvPrepRefIdeal.Val

open Cert.RwkvPrepRefIdeal Cert.RwkvPrepRefIdeal.Gen

/-- The columns, every token's drawn towards the token before it in its sequence (a zero row before the first). -/
def mix (x : FVec Ideal S16384x1792 .f32) (u : FVec Ideal S1792 .f32) : FVec Ideal S4x4096x1792 .f32 :=
  addf (shapeCast _ x shapeCasts_S16384x1792_S4x4096x1792) (mulf (subf (extractStridedSlice S4x4096x1792 ![0, 0, 0] (pad S4x4097x1792 ![0, 1, 0] ![0, 0, 0] ![0, 0, 0] (shapeCast _ x shapeCasts_S16384x1792_S4x4096x1792) (sitofp .f32 (constantI S_ 32 0#32)) pads_S4x4096x1792_S4x4097x1792_000_100_000 h_S_) slices_S4x4097x1792_S4x4096x1792_0_0_0) (shapeCast _ x shapeCasts_S16384x1792_S4x4096x1792)) (broadcastInDim S4x4096x1792 ![0, 1, 2] bcast_S1x1x1792_S4x4096x1792_0_1_2 (broadcastInDim S1x1x1792 ![2] bcast_S1792_S1x1x1792_2 u)))

/-- A vector of 512 in every row. -/
def wide (w : FVec Ideal S512 .f32) : FVec Ideal S4x4096x512 .f32 :=
  broadcastInDim S4x4096x512 ![0, 1, 2] bcast_S1x1x512_S4x4096x512_0_1_2 (broadcastInDim S1x1x512 ![2] bcast_S512_S1x1x512_2 w)

def receptance (z : FVec Ideal S4x4096x1792 .f32) : FVec Ideal S4x4096x512 .f32 :=
  extractStridedSlice S4x4096x512 ![0, 0, 0] z slices_S4x4096x1792_S4x4096x512_0_0_0
def key (z : FVec Ideal S4x4096x1792 .f32) : FVec Ideal S4x4096x512 .f32 :=
  extractStridedSlice S4x4096x512 ![0, 0, 512] z slices_S4x4096x1792_S4x4096x512_0_0_512
def value (z : FVec Ideal S4x4096x1792 .f32) : FVec Ideal S4x4096x512 .f32 :=
  extractStridedSlice S4x4096x512 ![0, 0, 1024] z slices_S4x4096x1792_S4x4096x512_0_0_1024

/-- The decay's argument. -/
def bend (z : FVec Ideal S4x4096x1792 .f32) (b : FVec Ideal S512 .f32) (w : FVec Ideal S64x512 .f32) : FVec Ideal S4x4096x512 .f32 :=
  Host.negf (addf (wide b) (Host.dotGeneral dot_S4x4096x64_S64x512_S4x4096x512_2_0_01_1_n_n none (Host.tanh (extractStridedSlice S4x4096x64 ![0, 0, 1536] z slices_S4x4096x1792_S4x4096x64_0_0_1536)) w))

def soft (s : FVec Ideal S4x4096x512 .f32) : FVec Ideal S4x4096x512 .f32 :=
  select (cmpf .une (subf s (broadcastInDim S4x4096x512 ![] bcast_S_S4x4096x512 (constant S_ .f32 0x00000000#32))) (subf s (broadcastInDim S4x4096x512 ![] bcast_S_S4x4096x512 (constant S_ .f32 0x00000000#32)))) (addf s (broadcastInDim S4x4096x512 ![] bcast_S_S4x4096x512 (constant S_ .f32 0x00000000#32))) (addf (maximumf s (broadcastInDim S4x4096x512 ![] bcast_S_S4x4096x512 (constant S_ .f32 0x00000000#32))) (Host.log1p (Host.exp (Host.negf (Host.absf (subf s (broadcastInDim S4x4096x512 ![] bcast_S_S4x4096x512 (constant S_ .f32 0x00000000#32))))))))

def decays (s : FVec Ideal S4x4096x512 .f32) : FVec Ideal S4x4096x512 .f32 :=
  Host.negf (Host.exp (subf (Host.negf (soft s)) (broadcastInDim S4x4096x512 ![] bcast_S_S4x4096x512 (constant S_ .f32 0x3F000000#32))))

def rates (z : FVec Ideal S4x4096x1792 .f32) (b : FVec Ideal S512 .f32) (w : FVec Ideal S64x512 .f32) : FVec Ideal S4x4096x512 .f32 :=
  Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (addf (wide b) (Host.dotGeneral dot_S4x4096x64_S64x512_S4x4096x512_2_0_01_1_n_n none (extractStridedSlice S4x4096x64 ![0, 0, 1600] z slices_S4x4096x1792_S4x4096x64_0_0_1600) w)))))

def gates (z : FVec Ideal S4x4096x1792 .f32) (w : FVec Ideal S128x512 .f32) : FVec Ideal S4x4096x512 .f32 :=
  Host.dotGeneral dot_S4x4096x128_S128x512_S4x4096x512_2_0_01_1_n_n none (Host.divf (broadcastInDim S4x4096x128 ![] bcast_S_S4x4096x128 (constant S_ .f32 0x3F800000#32)) (addf (broadcastInDim S4x4096x128 ![] bcast_S_S4x4096x128 (constant S_ .f32 0x3F800000#32)) (Host.exp (Host.negf (extractStridedSlice S4x4096x128 ![0, 0, 1664] z slices_S4x4096x1792_S4x4096x128_0_0_1664))))) w

def scales (k a : FVec Ideal S4x4096x512 .f32) (s : FVec Ideal S512 .f32) : FVec Ideal S4x4096x512 .f32 :=
  mulf k (addf (broadcastInDim S4x4096x512 ![] bcast_S_S4x4096x512 (constant S_ .f32 0x3F800000#32)) (mulf (subf a (broadcastInDim S4x4096x512 ![] bcast_S_S4x4096x512 (constant S_ .f32 0x3F800000#32))) (wide s)))

/-- The columns of 512 as eight heads of 64. -/
def heads (k : FVec Ideal S4x4096x512 .f32) : FVec Ideal S4x4096x8x64 .f32 :=
  shapeCast _ k shapeCasts_S4x4096x512_S4x4096x8x64

def units (q : FVec Ideal S4x4096x8x64 .f32) : FVec Ideal S4x4096x8x64 .f32 :=
  Host.divf q (broadcastInDim S4x4096x8x64 ![0, 1, 2, 3] bcast_S4x4096x8x1_S4x4096x8x64_0_1_2_3 (maximumf (Host.sqrt (broadcastInDim S4x4096x8x1 ![0, 1, 2] bcast_S4x4096x8_S4x4096x8x1_0_1_2 (Host.reduceAdd (mulf q q) (constant S_ .f32 0x00000000#32) reducesTo_S4x4096x8x64_S4x4096x8_d3 h_S_))) (broadcastInDim S4x4096x8x1 ![] bcast_S_S4x4096x8x1 (constant S_ .f32 0x2B8CBCCC#32))))

def bonuses (r k v : FVec Ideal S4x4096x8x64 .f32) (w : FVec Ideal S8x64 .f32) : FVec Ideal S4x4096x8x64 .f32 :=
  mulf (broadcastInDim S4x4096x8x64 ![0, 1, 2, 3] bcast_S4x4096x8x1_S4x4096x8x64_0_1_2_3 (broadcastInDim S4x4096x8x1 ![0, 1, 2] bcast_S4x4096x8_S4x4096x8x1_0_1_2 (Host.reduceAdd (mulf (mulf r k) (broadcastInDim S4x4096x8x64 ![0, 1, 2, 3] bcast_S1x1x8x64_S4x4096x8x64_0_1_2_3 (broadcastInDim S1x1x8x64 ![2, 3] bcast_S8x64_S1x1x8x64_2_3 w))) (constant S_ .f32 0x00000000#32) reducesTo_S4x4096x8x64_S4x4096x8_d3 h_S_))) v

/-- The tokens numbered through. -/
def rows (k : FVec Ideal S4x4096x512 .f32) : FVec Ideal S16384x512 .f32 :=
  shapeCast _ k shapeCasts_S4x4096x512_S16384x512
def flat (k : FVec Ideal S4x4096x8x64 .f32) : FVec Ideal S16384x512 .f32 :=
  shapeCast _ k shapeCasts_S4x4096x8x64_S16384x512

/-- The eight results. -/
def out0 (x : FVec Ideal S16384x1792 .f32) (u : FVec Ideal S1792 .f32) : FVec Ideal S16384x512 .f32 :=
  rows (receptance (mix x u))
def out1 (x : FVec Ideal S16384x1792 .f32) (u : FVec Ideal S1792 .f32) (b : FVec Ideal S512 .f32) (w : FVec Ideal S64x512 .f32) (s : FVec Ideal S512 .f32) : FVec Ideal S16384x512 .f32 :=
  rows (scales (key (mix x u)) (rates (mix x u) b w) s)
def out2 (x : FVec Ideal S16384x1792 .f32) (u : FVec Ideal S1792 .f32) : FVec Ideal S16384x512 .f32 :=
  rows (value (mix x u))
def out3 (x : FVec Ideal S16384x1792 .f32) (u : FVec Ideal S1792 .f32) (n : FVec Ideal S512 .f32) : FVec Ideal S16384x512 .f32 :=
  flat (units (heads (mulf (key (mix x u)) (wide n))))
def out4 (x : FVec Ideal S16384x1792 .f32) (u : FVec Ideal S1792 .f32) (b : FVec Ideal S512 .f32) (w : FVec Ideal S64x512 .f32) (n : FVec Ideal S512 .f32) : FVec Ideal S16384x512 .f32 :=
  flat (mulf (units (heads (mulf (key (mix x u)) (wide n)))) (heads (rates (mix x u) b w)))
def out5 (x : FVec Ideal S16384x1792 .f32) (u : FVec Ideal S1792 .f32) (b : FVec Ideal S512 .f32) (w : FVec Ideal S64x512 .f32) : FVec Ideal S16384x512 .f32 :=
  rows (decays (bend (mix x u) b w))
def out6 (x : FVec Ideal S16384x1792 .f32) (u : FVec Ideal S1792 .f32) (b : FVec Ideal S512 .f32) (w : FVec Ideal S64x512 .f32) (s : FVec Ideal S512 .f32) (q : FVec Ideal S8x64 .f32) : FVec Ideal S16384x512 .f32 :=
  flat (bonuses (heads (receptance (mix x u))) (heads (scales (key (mix x u)) (rates (mix x u) b w) s)) (heads (value (mix x u))) q)
def out7 (x : FVec Ideal S16384x1792 .f32) (u : FVec Ideal S1792 .f32) (w : FVec Ideal S128x512 .f32) : FVec Ideal S16384x512 .f32 :=
  rows (gates (mix x u) w)

theorem mix_at (x u) (i : Fin 4) (j : Fin 4096) (k : Fin 1792) :
    mix x u (ix3 i j k) = mixed (x (ix2 (⟨i.val * 4096 + j.val, by omega⟩ : Fin 16384) k))
      (if h : j.val = 0 then 0 else x (ix2 (⟨i.val * 4096 + j.val - 1, by omega⟩ : Fin 16384) k)) (u (ix1 k)) := by
  have h0 : FloatOps.sitofp (F := Ideal) FTy.f32 (0#32 : BitVec 32) = (0 : EReal) := by
    show (((0#32 : BitVec 32).toInt : ℝ) : EReal) = 0
    norm_num
  pointwise [mix, mixed]
  by_cases hj : j.val = 0
  · rw [dif_neg (by omega), dif_pos hj, h0]
  · rw [dif_pos (by omega), dif_neg hj]
    congr 5
    exact Fin.ext (by show i.val * 4096 + (j.val - 1) = i.val * 4096 + j.val - 1; omega)

theorem bend_at (z b w) (i : Fin 4) (j : Fin 4096) (c : Fin 512) :
    bend z b w (ix3 i j c) = decayArg (fun d => z (ix3 i j (⟨1536 + d.val, by omega⟩ : Fin 1792))) (fun d => w (ix2 d c)) (b (ix1 c)) := by
  pointwise [bend, wide, decayArg]

theorem decays_at (s) (i : Fin 4) (j : Fin 4096) (c : Fin 512) : decays s (ix3 i j c) = decay (s (ix3 i j c)) := by
  pointwise [decays, soft, decay, softplus]
  rw [if_neg (fun h => h rfl)]
  rfl

theorem rates_at (z b w) (i : Fin 4) (j : Fin 4096) (c : Fin 512) :
    rates z b w (ix3 i j c) = rate (fun d => z (ix3 i j (⟨1600 + d.val, by omega⟩ : Fin 1792))) (fun d => w (ix2 d c)) (b (ix1 c)) := by
  pointwise [rates, wide, rate, Ideal.logistic]

theorem gates_at (z w) (i : Fin 4) (j : Fin 4096) (c : Fin 512) :
    gates z w (ix3 i j c) = gate (fun d => z (ix3 i j (⟨1664 + d.val, by omega⟩ : Fin 1792))) (fun d => w (ix2 d c)) := by
  pointwise [gates, gate, Ideal.logistic]

theorem scales_at (k a s) (i : Fin 4) (j : Fin 4096) (c : Fin 512) :
    scales k a s (ix3 i j c) = scaled (k (ix3 i j c)) (a (ix3 i j c)) (s (ix1 c)) := by
  pointwise [scales, wide, scaled]

theorem units_at (q) (i : Fin 4) (j : Fin 4096) (h : Fin 8) (a : Fin 64) :
    units q (ix4 i j h a) = unit (q (ix4 i j h a)) (fun d => q (ix4 i j h d)) := by
  pointwise [units, unit]

theorem bonuses_at (r k v w) (i : Fin 4) (j : Fin 4096) (h : Fin 8) (a : Fin 64) :
    bonuses r k v w (ix4 i j h a) = ((∑ d, r (ix4 i j h d) * k (ix4 i j h d) * w (ix2 h d)) * v (ix4 i j h a) : EReal) := by
  pointwise [bonuses]

theorem heads_at (k) (i : Fin 4) (j : Fin 4096) (h : Fin 8) (a : Fin 64) :
    heads k (ix4 i j h a) = k (ix3 i j (⟨h.val * 64 + a.val, by omega⟩ : Fin 512)) := by
  pointwise [heads]

theorem rows_at (k) (n : Fin 16384) (c : Fin 512) :
    rows k (ix2 n c) = k (ix3 (⟨n.val / 4096, by omega⟩ : Fin 4) (⟨n.val % 4096, by omega⟩ : Fin 4096) c) := by
  pointwise [rows]

theorem flat_at (k) (n : Fin 16384) (c : Fin 512) :
    flat k (ix2 n c) = k (ix4 (⟨n.val / 4096, by omega⟩ : Fin 4) (⟨n.val % 4096, by omega⟩ : Fin 4096) (⟨c.val / 64, by omega⟩ : Fin 8) (⟨c.val % 64, by omega⟩ : Fin 64)) := by
  pointwise [flat]

theorem receptance_at (z) (i : Fin 4) (j : Fin 4096) (c : Fin 512) : receptance z (ix3 i j c) = z (ix3 i j (⟨c.val, by omega⟩ : Fin 1792)) := by
  pointwise [receptance]
theorem key_at (z) (i : Fin 4) (j : Fin 4096) (c : Fin 512) : key z (ix3 i j c) = z (ix3 i j (⟨512 + c.val, by omega⟩ : Fin 1792)) := by
  pointwise [key]
theorem value_at (z) (i : Fin 4) (j : Fin 4096) (c : Fin 512) : value z (ix3 i j c) = z (ix3 i j (⟨1024 + c.val, by omega⟩ : Fin 1792)) := by
  pointwise [value]
theorem scaledKey_at (z n) (i : Fin 4) (j : Fin 4096) (c : Fin 512) :
    mulf (key z) (wide n) (ix3 i j c) = (z (ix3 i j (⟨512 + c.val, by omega⟩ : Fin 1792)) * n (ix1 c) : EReal) := by
  pointwise [key, wide]

/-- Token `n`'s row, drawn towards the token before it. -/
def drawn (x : FVec Ideal S16384x1792 .f32) (u : FVec Ideal S1792 .f32) (n : Fin 16384) (k : Fin 1792) : EReal :=
  mix x u (ix3 (⟨n.val / 4096, by omega⟩ : Fin 4) (⟨n.val % 4096, by omega⟩ : Fin 4096) k)

/-- Column `d` of the head that column `c` belongs to. -/
abbrev mate (c : Fin 512) (d : Fin 64) : Fin 512 := ⟨c.val / 64 * 64 + d.val, by omega⟩

theorem mate_self (c : Fin 512) : mate c (⟨c.val % 64, by omega⟩ : Fin 64) = c :=
  Fin.ext (by show c.val / 64 * 64 + c.val % 64 = c.val; omega)

theorem drawn_at (x u) (n : Fin 16384) (k : Fin 1792) :
    drawn x u n k = mixed (x (ix2 n k)) (if h : n.val % 4096 = 0 then 0 else x (ix2 (⟨n.val - 1, by omega⟩ : Fin 16384) k)) (u (ix1 k)) := by
  unfold drawn
  rw [mix_at]
  have h1 : (⟨n.val / 4096 * 4096 + n.val % 4096, by omega⟩ : Fin 16384) = n := Fin.ext (by show n.val / 4096 * 4096 + n.val % 4096 = n.val; omega)
  have h2 : (⟨n.val / 4096 * 4096 + n.val % 4096 - 1, by omega⟩ : Fin 16384) = (⟨n.val - 1, by omega⟩ : Fin 16384) :=
    Fin.ext (by show n.val / 4096 * 4096 + n.val % 4096 - 1 = n.val - 1; omega)
  simp only [h1, h2]

theorem out0_at (x u) (n : Fin 16384) (c : Fin 512) : out0 x u (ix2 n c) = drawn x u n (⟨c.val, by omega⟩ : Fin 1792) := by
  unfold out0
  rw [rows_at, receptance_at]
  rfl

theorem rates_row (x u b w) (n : Fin 16384) (c : Fin 512) :
    rates (mix x u) b w (ix3 (⟨n.val / 4096, by omega⟩ : Fin 4) (⟨n.val % 4096, by omega⟩ : Fin 4096) c)
      = rate (fun d => drawn x u n (⟨1600 + d.val, by omega⟩ : Fin 1792)) (fun d => w (ix2 d c)) (b (ix1 c)) := by
  rw [rates_at]
  rfl

theorem scales_row (x u b w s) (n : Fin 16384) (c : Fin 512) :
    scales (key (mix x u)) (rates (mix x u) b w) s (ix3 (⟨n.val / 4096, by omega⟩ : Fin 4) (⟨n.val % 4096, by omega⟩ : Fin 4096) c)
      = scaled (drawn x u n (⟨512 + c.val, by omega⟩ : Fin 1792)) (rate (fun d => drawn x u n (⟨1600 + d.val, by omega⟩ : Fin 1792)) (fun d => w (ix2 d c)) (b (ix1 c))) (s (ix1 c)) := by
  rw [scales_at, rates_row, key_at]
  rfl

theorem out1_at (x u b w s) (n : Fin 16384) (c : Fin 512) : out1 x u b w s (ix2 n c)
    = scaled (drawn x u n (⟨512 + c.val, by omega⟩ : Fin 1792)) (rate (fun d => drawn x u n (⟨1600 + d.val, by omega⟩ : Fin 1792)) (fun d => w (ix2 d c)) (b (ix1 c))) (s (ix1 c)) := by
  unfold out1
  rw [rows_at, scales_row]

theorem out2_at (x u) (n : Fin 16384) (c : Fin 512) : out2 x u (ix2 n c) = drawn x u n (⟨1024 + c.val, by omega⟩ : Fin 1792) := by
  unfold out2
  rw [rows_at, value_at]
  rfl

theorem units_row (x u nn) (n : Fin 16384) (c : Fin 512) :
    units (heads (mulf (key (mix x u)) (wide nn))) (ix4 (⟨n.val / 4096, by omega⟩ : Fin 4) (⟨n.val % 4096, by omega⟩ : Fin 4096) (⟨c.val / 64, by omega⟩ : Fin 8) (⟨c.val % 64, by omega⟩ : Fin 64))
      = unit (drawn x u n (⟨512 + c.val, by omega⟩ : Fin 1792) * nn (ix1 c)) (fun d => drawn x u n (⟨512 + (mate c d).val, by omega⟩ : Fin 1792) * nn (ix1 (mate c d))) := by
  rw [units_at]
  simp only [heads_at]
  change unit (mulf (key (mix x u)) (wide nn) (ix3 _ _ (mate c (⟨c.val % 64, by omega⟩ : Fin 64)))) (fun d => mulf (key (mix x u)) (wide nn) (ix3 _ _ (mate c d))) = _
  rw [mate_self]
  simp only [scaledKey_at]
  rfl

theorem out3_at (x u nn) (n : Fin 16384) (c : Fin 512) : out3 x u nn (ix2 n c)
    = unit (drawn x u n (⟨512 + c.val, by omega⟩ : Fin 1792) * nn (ix1 c)) (fun d => drawn x u n (⟨512 + (mate c d).val, by omega⟩ : Fin 1792) * nn (ix1 (mate c d))) := by
  unfold out3
  rw [flat_at, units_row]

theorem times_at (p q : FVec Ideal S4x4096x8x64 .f32) (i : Fin 4) (j : Fin 4096) (h : Fin 8) (a : Fin 64) :
    mulf p q (ix4 i j h a) = (p (ix4 i j h a) * q (ix4 i j h a) : EReal) := by
  pointwise []

theorem out4_at (x u b w nn) (n : Fin 16384) (c : Fin 512) : out4 x u b w nn (ix2 n c)
    = (unit (drawn x u n (⟨512 + c.val, by omega⟩ : Fin 1792) * nn (ix1 c)) (fun d => drawn x u n (⟨512 + (mate c d).val, by omega⟩ : Fin 1792) * nn (ix1 (mate c d)))
      * rate (fun d => drawn x u n (⟨1600 + d.val, by omega⟩ : Fin 1792)) (fun d => w (ix2 d c)) (b (ix1 c)) : EReal) := by
  unfold out4
  rw [flat_at, times_at, units_row, heads_at]
  change _ * rates (mix x u) b w (ix3 _ _ (mate c (⟨c.val % 64, by omega⟩ : Fin 64))) = _
  rw [mate_self, rates_row]

theorem out5_at (x u b w) (n : Fin 16384) (c : Fin 512) : out5 x u b w (ix2 n c)
    = decay (decayArg (fun d => drawn x u n (⟨1536 + d.val, by omega⟩ : Fin 1792)) (fun d => w (ix2 d c)) (b (ix1 c))) := by
  unfold out5
  rw [rows_at, decays_at, bend_at]
  rfl

theorem out6_at (x u b w s q) (n : Fin 16384) (c : Fin 512) : out6 x u b w s q (ix2 n c)
    = ((∑ d : Fin 64, drawn x u n (⟨(mate c d).val, by omega⟩ : Fin 1792)
        * scaled (drawn x u n (⟨512 + (mate c d).val, by omega⟩ : Fin 1792)) (rate (fun e => drawn x u n (⟨1600 + e.val, by omega⟩ : Fin 1792)) (fun e => w (ix2 e (mate c d))) (b (ix1 (mate c d)))) (s (ix1 (mate c d)))
        * q (ix2 (⟨c.val / 64, by omega⟩ : Fin 8) d)) * drawn x u n (⟨1024 + c.val, by omega⟩ : Fin 1792) : EReal) := by
  unfold out6
  rw [flat_at, bonuses_at]
  simp only [heads_at]
  change (∑ d : Fin 64, receptance (mix x u) (ix3 _ _ (mate c d)) * scales (key (mix x u)) (rates (mix x u) b w) s (ix3 _ _ (mate c d)) * _)
    * value (mix x u) (ix3 _ _ (mate c (⟨c.val % 64, by omega⟩ : Fin 64))) = _
  rw [mate_self, value_at]
  simp only [receptance_at, scales_row]
  rfl

theorem out7_at (x u w) (n : Fin 16384) (c : Fin 512) : out7 x u w (ix2 n c)
    = gate (fun d => drawn x u n (⟨1664 + d.val, by omega⟩ : Fin 1792)) (fun d => w (ix2 d c)) := by
  unfold out7
  rw [rows_at, gates_at]
  rfl

theorem res78 (m : (ℓ : Loc nD τ sig) → Buf (Elt Ideal) ℓ) (c : Dev nD) :
    Value.res_main_v78 m c = out4 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7)) := by
  delta Value.res_main_v78 out0 out1 out2 out3 out4 out5 out6 out7 rows flat bonuses units heads scales gates rates decays soft bend value key receptance wide mix
  rfl

theorem res81 (m : (ℓ : Loc nD τ sig) → Buf (Elt Ideal) ℓ) (c : Dev nD) :
    Value.res_main_v81 m c = out5 (m ((c.tc : Thread nD τ).loc main_arg0)) (m ((c.tc : Thread nD τ).loc main_arg1)) (m ((c.tc : Thread nD τ).loc main_arg2)) (m ((c.tc : Thread nD τ).loc main_arg3)) := by
  delta Value.res_main_v81 out0 out1 out2 out3 out4 out5 out6 out7 rows flat bonuses units heads scales gates rates decays soft bend value key receptance wide mix
  rfl

theorem res82 (m : (ℓ : Loc nD τ sig) → Buf (Elt Ideal) ℓ) (c : Dev nD) :
    Value.res_main_v82 m c = out6 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) := by
  delta Value.res_main_v82 out0 out1 out2 out3 out4 out5 out6 out7 rows flat bonuses units heads scales gates rates decays soft bend value key receptance wide mix
  rfl

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = out0 (m ((c.tc : Thread nD τ).loc main_arg0)) (m ((c.tc : Thread nD τ).loc main_arg1))
      ∧ r.2.mem ((c.tc : Thread nD τ).loc main_v73) = out1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8))
      ∧ r.2.mem ((c.tc : Thread nD τ).loc main_v74) = out2 (m ((c.tc : Thread nD τ).loc main_arg0)) (m ((c.tc : Thread nD τ).loc main_arg1))
      ∧ r.2.mem ((c.tc : Thread nD τ).loc main_v75) = out3 (m ((c.tc : Thread nD τ).loc main_arg0)) (m ((c.tc : Thread nD τ).loc main_arg1)) (m ((c.tc : Thread nD τ).loc main_arg7))
      ∧ r.2.mem ((c.tc : Thread nD τ).loc main_v78) = out4 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7))
      ∧ r.2.mem ((c.tc : Thread nD τ).loc main_v81) = out5 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v82) = out6 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_v83) = out7 (m ((c.tc : Thread nD τ).loc main_arg0)) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have h78 := fun c => (res78 m c).symm
  have h81 := fun c => (res81 m c).symm
  have h82 := fun c => (res82 m c).symm
  simp only [h78, h81, h82]
  delta out0 out1 out2 out3 out4 out5 out6 out7 rows flat bonuses units heads scales gates rates decays soft bend value key receptance wide mix
  exact Value.run m ρ

end Cert.RwkvPrepRefIdeal.Val

end
-- ==== Proof.RwkvPrep.lean ====
/- The recurrent branch's operands as values. The kernel takes 512 tokens at a time, the row before them from a window of
   its own, multiplies the two low-rank parts by one block matrix, and sums a head's columns by multiplying by a matrix of
   zeros and ones, in two parts of half the width. The reference shifts the whole array, multiplies each low-rank part by its
   own matrix and sums a head's 64 columns. Here: each of the eight tiles the kernel writes back is the reference's array read
   at the tile's place. -/
module

public import proofs.«01_k».proof.Proof.Gen.RwkvPrepIdeal
public import proofs.«01_k».proof.Proof.Gen.RwkvPrepIdeal.Skeleton
public import proofs.«01_k».proof.Proof.Gen.RwkvPrepIdeal.Launch
public import proofs.«01_k».proof.Proof.Gen.RwkvPrepIdeal.Points
public import proofs.«01_k».proof.Proof.Gen.RwkvPrepIdeal.Frame
public import proofs.«01_k».proof.Proof.RwkvRows
public import Idealize.ShloMosaic.Lib.Pipeline.ValueKit
public import Idealize.ShloMosaic.Lib.Routing.OpsOne

set_option maxRecDepth 16384

@[expose] public noncomputable section

open Idealize.ShloMosaic Idealize.ShloMosaic.TcCoe Idealize.SL.Sem
open Idealize.ShloMosaic.Pipeline (Dat)
open scoped BigOperators
open Cert.RecurrentRow

namespace Cert.RwkvPrepIdeal.Val

open Cert.RwkvPrepIdeal Cert.RwkvPrepIdeal.Gen

/-! ## Sums -/

/-- A sum over 128 whose first 64 columns are multiplied by zero, or whose last 64 are. -/
theorem sum_low (l w : Fin 128 → EReal) (h : ∀ k : Fin 128, 64 ≤ k.val → w k = 0) :
    ∑ k, l k * w k = ∑ d : Fin 64, l (⟨d.val, by omega⟩ : Fin 128) * w (⟨d.val, by omega⟩ : Fin 128) := by
  symm
  refine Finset.sum_of_injOn (fun d : Fin 64 => (⟨d.val, by omega⟩ : Fin 128)) ?_ (fun _ _ => Finset.mem_univ _) ?_ (fun _ _ => rfl)
  · intro a _ b _ hab
    have := congrArg Fin.val hab
    exact Fin.ext (by simpa using this)
  · intro k _ hk
    rw [h k (by
      by_contra hlt
      exact hk ⟨⟨k.val, by omega⟩, Finset.mem_coe.2 (Finset.mem_univ _), rfl⟩), mul_zero]

theorem sum_high (l w : Fin 128 → EReal) (h : ∀ k : Fin 128, k.val < 64 → w k = 0) :
    ∑ k, l k * w k = ∑ d : Fin 64, l (⟨64 + d.val, by omega⟩ : Fin 128) * w (⟨64 + d.val, by omega⟩ : Fin 128) := by
  symm
  refine Finset.sum_of_injOn (fun d : Fin 64 => (⟨64 + d.val, by omega⟩ : Fin 128)) ?_ (fun _ _ => Finset.mem_univ _) ?_ (fun _ _ => rfl)
  · intro a _ b _ hab
    have := congrArg Fin.val hab
    exact Fin.ext (by simpa using this)
  · intro k _ hk
    rw [h k (by
      by_contra hlt
      exact hk ⟨⟨k.val - 64, by omega⟩, Finset.mem_coe.2 (Finset.mem_univ _), Fin.ext (by show 64 + (k.val - 64) = k.val; omega)⟩), mul_zero]

/-- A column of the matrix of zeros and ones sums the columns of its head. -/
theorem sum_head (l w : Fin 512 → EReal) (c : Fin 512) (h : ∀ k : Fin 512, w k = if k.val / 64 = c.val / 64 then 1 else 0) :
    ∑ k, l k * w k = ∑ d : Fin 64, l (⟨c.val / 64 * 64 + d.val, by omega⟩ : Fin 512) := by
  symm
  refine Finset.sum_of_injOn (fun d : Fin 64 => (⟨c.val / 64 * 64 + d.val, by omega⟩ : Fin 512)) ?_ (fun _ _ => Finset.mem_univ _) ?_ ?_
  · intro a _ b _ hab
    have := congrArg Fin.val hab
    exact Fin.ext (by simpa using this)
  · intro k _ hk
    rw [h k, if_neg (fun he => hk ⟨⟨k.val % 64, by omega⟩, Finset.mem_coe.2 (Finset.mem_univ _), Fin.ext (by show c.val / 64 * 64 + k.val % 64 = k.val; omega)⟩), mul_zero]
  · intro d _
    rw [h, if_pos (by show (c.val / 64 * 64 + d.val) / 64 = c.val / 64; omega), mul_one]

/-! ## Finite values -/

/-- Neither infinity. -/
def Finite (x : EReal) : Prop := ∃ r : ℝ, x = (r : EReal)

theorem Finite.zero : Finite 0 := ⟨0, rfl⟩
theorem Finite.one : Finite 1 := ⟨1, rfl⟩
theorem Finite.add {x y : EReal} (hx : Finite x) (hy : Finite y) : Finite (x + y) := by
  obtain ⟨a, rfl⟩ := hx
  obtain ⟨b, rfl⟩ := hy
  exact ⟨a + b, rfl⟩
theorem Finite.sub {x y : EReal} (hx : Finite x) (hy : Finite y) : Finite (x - y) := by
  obtain ⟨a, rfl⟩ := hx
  obtain ⟨b, rfl⟩ := hy
  exact ⟨a - b, rfl⟩
theorem Finite.mul {x y : EReal} (hx : Finite x) (hy : Finite y) : Finite (x * y) := by
  obtain ⟨a, rfl⟩ := hx
  obtain ⟨b, rfl⟩ := hy
  exact ⟨a * b, rfl⟩
theorem Finite.sub_self {x : EReal} (hx : Finite x) : x - x = 0 := by
  obtain ⟨a, rfl⟩ := hx
  rw [← EReal.coe_sub, _root_.sub_self]
  rfl
theorem Finite.mixed {x p u : EReal} (hx : Finite x) (hp : Finite p) (hu : Finite u) : Finite (mixed x p u) :=
  hx.add ((hp.sub hx).mul hu)
theorem Finite.scaled {k a s : EReal} (hk : Finite k) (ha : Finite a) (hs : Finite s) : Finite (scaled k a s) :=
  hk.mul (Finite.one.add ((ha.sub Finite.one).mul hs))
/-- The logistic of anything is finite. -/
theorem Finite.logistic (x : EReal) : Finite (Ideal.logistic x) := by
  induction x using EReal.rec with
  | bot =>
    refine ⟨0, ?_⟩
    show Ideal.div 1 (1 + (⊤ : EReal)) = _
    have h : (1 : EReal) + ⊤ = ⊤ := rfl
    rw [h]
    simp [Ideal.div]
  | top =>
    refine ⟨1, ?_⟩
    show Ideal.div 1 (1 + (0 : EReal)) = _
    simp [Ideal.div]
  | coe r =>
    refine ⟨(1 + Real.exp (-r))⁻¹, ?_⟩
    have h : (1 : EReal) + ((Real.exp (-r) : ℝ) : EReal) = ((1 + Real.exp (-r) : ℝ) : EReal) := rfl
    have hn : ((1 + Real.exp (-r) : ℝ) : EReal) ≠ 0 := by
      have := Real.exp_pos (-r)
      exact_mod_cast (by positivity : (1 + Real.exp (-r)) ≠ 0)
    show Ideal.div 1 (1 + ((Real.exp (-r) : ℝ) : EReal)) = _
    rw [h, Ideal.div, if_neg hn, one_mul, EReal.coe_inv]

/-! ## The kernel's values at an entry -/

/-- The word by which the kernel tells the first tile of a sequence: the point's remainder by 8, made nonnegative, is zero. -/
def startWord (n : BitVec 32) : BitVec 1 :=
  Scalar.cmpi .eq (Scalar.select (Scalar.andi (Scalar.xori (Scalar.cmpi .slt (Scalar.remsi n (Scalar.select (Scalar.cmpi .eq 8#32 0#32) 1#32 8#32)) 0#32)
    (Scalar.cmpi .slt (Scalar.select (Scalar.cmpi .eq 8#32 0#32) 1#32 8#32) 0#32))
    (Scalar.cmpi .ne (Scalar.remsi n (Scalar.select (Scalar.cmpi .eq 8#32 0#32) 1#32 8#32)) 0#32))
    (Scalar.addi (Scalar.remsi n (Scalar.select (Scalar.cmpi .eq 8#32 0#32) 1#32 8#32)) (Scalar.select (Scalar.cmpi .eq 8#32 0#32) 1#32 8#32))
    (Scalar.remsi n (Scalar.select (Scalar.cmpi .eq 8#32 0#32) 1#32 8#32))) 0#32

theorem startWord_eq : ∀ n : Fin 32, startWord (BitVec.ofNat 32 n.val) = if n.val % 8 = 0 then 1#1 else 0#1 := by
  decide +kernel

theorem rowWord_eq : ∀ n : Fin 512, IntOp.cmpi CmpIPredicate.eq (BitVec.ofNat 32 n.val) 0#32 = if n.val = 0 then 1#1 else 0#1 := by
  decide +kernel

theorem laneWord_eq : ∀ n : Fin 128, IntOp.cmpi CmpIPredicate.slt (BitVec.ofNat 32 n.val) 64#32 = if n.val < 64 then 1#1 else 0#1 := by
  decide +kernel

/-- A selection by a word that says whether a proposition holds. -/
theorem select_word {α : Type} (P : Prop) [Decidable P] (x y : α) : Scalar.select (if P then 1#1 else 0#1) x y = if P then x else y := by
  by_cases h : P
  · rw [if_pos h, if_pos h]
    rfl
  · rw [if_neg h, if_neg h]
    rfl

theorem pay3_at (i : grid0.Coords) (x : Vec Ideal S512x1792 .f32) (p u : Vec Ideal S1x1792 .f32) (r : Fin 512) (k : Fin 1792) :
    k0_pay3 i x p u (ix2 r k) = mixed (x (ix2 r k))
      (if h : r.val = 0 then (if (i 0).val % 8 = 0 then 0 else p (ix2 0 k)) else x (ix2 (⟨r.val - 1, by omega⟩ : Fin 512) k)) (u (ix2 0 k)) := by
  pointwise [k0_pay3, mixed]
  change x (ix2 r k) + (Scalar.select (IntOp.cmpi CmpIPredicate.eq (BitVec.ofNat 32 r.val) 0#32) (Scalar.select (startWord (BitVec.ofNat 32 (i 0).val)) 0 (p (ix2 0 k))) _ - _) * _ = _
  rw [rowWord_eq r, startWord_eq (i 0), select_word, select_word]
  by_cases h : r.val = 0
  · rw [if_pos h, dif_pos h]
  · rw [if_neg h, dif_neg h]
    congr 5
    exact Fin.ext (by show (r.val + 512 - 1) % 512 = r.val - 1; omega)

theorem pay4_at (i x p u) (r : Fin 512) (c : Fin 512) : k0_pay4 (F := Ideal) i x p u (ix2 r c) = k0_pay3 i x p u (ix2 r (⟨c.val, by omega⟩ : Fin 1792)) := by
  pointwise [k0_pay4]
theorem pay5_at (i x p u) (r : Fin 512) (c : Fin 512) : k0_pay5 (F := Ideal) i x p u (ix2 r c) = k0_pay3 i x p u (ix2 r (⟨512 + c.val, by omega⟩ : Fin 1792)) := by
  pointwise [k0_pay5]
theorem pay6_at (i x p u) (r : Fin 512) (c : Fin 512) : k0_pay6 (F := Ideal) i x p u (ix2 r c) = k0_pay3 i x p u (ix2 r (⟨1024 + c.val, by omega⟩ : Fin 1792)) := by
  pointwise [k0_pay6]
theorem pay7_at (i x p u) (r : Fin 512) (c : Fin 128) : k0_pay7 (F := Ideal) i x p u (ix2 r c) = k0_pay3 i x p u (ix2 r (⟨1664 + c.val, by omega⟩ : Fin 1792)) := by
  pointwise [k0_pay7]
theorem pay8_at (i x p u) (r : Fin 512) (c : Fin 128) : k0_pay8 (F := Ideal) i x p u (ix2 r c)
    = if c.val < 64 then Ideal.tanh (k0_pay3 i x p u (ix2 r (⟨1536 + c.val, by omega⟩ : Fin 1792))) else k0_pay3 i x p u (ix2 r (⟨1536 + c.val, by omega⟩ : Fin 1792)) := by
  pointwise [k0_pay8]
  rw [laneWord_eq c, select_word]

theorem pay10_at (l : FVec Ideal S512x128 .bf16) (w : Vec Ideal S128x1024 .bf16) (b : Vec Ideal S1x512 .f32) (r : Fin 512) (c : Fin 512) :
    k0_pay10 l w b (ix2 r c) = -softplus (-(b (ix2 0 c) + ∑ k : Fin 128, l (ix2 r k) * w (ix2 k (⟨c.val, by omega⟩ : Fin 1024)))) - Ideal.ofBits .f32 0x3F000000#32 := by
  pointwise [k0_pay10, k0_pay9, softplus]
  rw [if_neg (fun h => h rfl)]
  simp only [zero_sub]
  rfl

theorem pay11_at (l : FVec Ideal S512x128 .bf16) (w : Vec Ideal S128x1024 .bf16) (b : Vec Ideal S1x512 .f32) (r : Fin 512) (c : Fin 512) :
    k0_pay11 l w b (ix2 r c) = Ideal.logistic (b (ix2 0 c) + ∑ k : Fin 128, l (ix2 r k) * w (ix2 k (⟨512 + c.val, by omega⟩ : Fin 1024))) := by
  pointwise [k0_pay11, k0_pay9]

theorem pay21_at (s : FVec Ideal S512x512 .f32) (r : Fin 512) (c : Fin 512) : k0_pay21 s (ix2 r c) = -Ideal.exp (s (ix2 r c)) := by
  pointwise [k0_pay21]
  exact zero_sub _

theorem pay13_at (k : FVec Ideal S512x512 .f32) (n : Vec Ideal S1x512 .f32) (r : Fin 512) (c : Fin 512) :
    k0_pay13 k n (ix2 r c) = (k (ix2 r c) * n (ix2 0 c) : EReal) := by
  pointwise [k0_pay13]

theorem pay14_at (k : FVec Ideal S512x512 .f32) (n : Vec Ideal S1x512 .f32) (r : Fin 512) (c : Fin 512) :
    k0_pay14 k n (ix2 r c) = (k0_pay13 k n (ix2 r c) * k0_pay13 k n (ix2 r c) : EReal) := by
  pointwise [k0_pay14]

theorem pay18_at (k : FVec Ideal S512x512 .f32) (n : Vec Ideal S1x512 .f32) (o : Vec Ideal S512x512 .bf16) (r : Fin 512) (c : Fin 512) :
    k0_pay18 (k0_pay12 o) (k0_pay13 k n) (k0_pay16 k n) (k0_pay17 k o n) (ix2 r c)
      = Ideal.div (k0_pay13 k n (ix2 r c)) (max (Ideal.sqrt ((∑ j : Fin 512, k0_pay14 k n (ix2 r j) * o (ix2 j c))
          + ∑ j : Fin 512, (k0_pay14 k n (ix2 r j) - k0_pay14 k n (ix2 r j)) * o (ix2 j c))) (Ideal.ofBits .f32 0x2B8CBCCC#32)) := by
  pointwise [k0_pay18, k0_pay17, k0_pay16, k0_pay15, k0_pay12]

theorem pay19_at (k a : FVec Ideal S512x512 .f32) (s : Vec Ideal S1x512 .f32) (r : Fin 512) (c : Fin 512) :
    k0_pay19 k a s (ix2 r c) = scaled (k (ix2 r c)) (a (ix2 r c)) (s (ix2 0 c)) := by
  pointwise [k0_pay19, scaled]

theorem pay22_at (q k a : FVec Ideal S512x512 .f32) (s n : Vec Ideal S1x512 .f32) (r : Fin 512) (c : Fin 512) :
    k0_pay22 q k a s n (ix2 r c) = (q (ix2 r c) * scaled (k (ix2 r c)) (a (ix2 r c)) (s (ix2 0 c)) * n (ix2 0 c) : EReal) := by
  pointwise [k0_pay22, k0_pay19, scaled]

theorem pay1_at (v : FVec Ideal S512x512 .f32) (o : Vec Ideal S512x512 .bf16) (q k a : FVec Ideal S512x512 .f32) (s n : Vec Ideal S1x512 .f32) (r : Fin 512) (c : Fin 512) :
    k0_pay1 v (k0_pay12 o) (k0_pay23 q k a s n) (k0_pay24 q k a s n) (ix2 r c)
      = (((∑ j : Fin 512, k0_pay22 q k a s n (ix2 r j) * o (ix2 j c))
          + ∑ j : Fin 512, (k0_pay22 q k a s n (ix2 r j) - k0_pay22 q k a s n (ix2 r j)) * o (ix2 j c)) * v (ix2 r c) : EReal) := by
  pointwise [k0_pay1, k0_pay12, k0_pay23, k0_pay24]

theorem pay2_at (l : FVec Ideal S512x128 .f32) (w : Vec Ideal S128x512 .bf16) (r : Fin 512) (c : Fin 512) :
    k0_pay2 l w (ix2 r c) = gate (fun d => l (ix2 r d)) (fun d => w (ix2 d c)) := by
  pointwise [k0_pay2, gate]

/-! ## The host's arrays -/

/-- Two index words. -/
def pairOf (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem pairOf_first (a b : BitVec 32) : pairOf a b (ix1 (0 : Fin 2)) = a := by
  pointwise [pairOf]
theorem pairOf_second (a b : BitVec 32) : pairOf a b (ix1 (1 : Fin 2)) = b := by
  pointwise [pairOf]

/-- The two low-rank weights on the diagonal of one matrix of zeros. -/
def placed (w2 a2 : FVec Ideal S64x512 .f32) : FVec Ideal S128x1024 .f32 :=
  Host.scatter scatter_S128x1024_S2_S64x512_01_n_01_0 (fun _ b => b)
    (Host.scatter scatter_S128x1024_S2_S64x512_01_n_01_0 (fun _ b => b) (broadcastInDim S128x1024 ![] bcast_S_S128x1024 (constant S_ .f32 0x00000000#32))
      (pairOf 0#32 0#32) w2)
    (pairOf 64#32 512#32) a2

def blocks (w2 a2 : FVec Ideal S64x512 .f32) : FVec Ideal S128x1024 .bf16 :=
  truncf .bf16 (placed w2 a2) bitsLt_bf16_f32

theorem window_row (a : Fin 64) (b : Fin 512) : scatter_S128x1024_S2_S64x512_01_n_01_0.window (ix2 a b) 0 = a.val := rfl
theorem window_col (a : Fin 64) (b : Fin 512) : scatter_S128x1024_S2_S64x512_01_n_01_0.window (ix2 a b) 1 = b.val := rfl

/-- Update `(a, b)` lands at `(r, c)` exactly when the first index word plus `a` is `r` and the second plus `b` is `c`. -/
theorem lands_block (idx : IVec S2 32) (a : Fin 64) (b : Fin 512) (r : Fin 128) (c : Fin 1024) :
    scatter_S128x1024_S2_S64x512_01_n_01_0.resultIdx? (ix2 a b) idx = some (ix2 r c)
      ↔ (idx (ix1 (0 : Fin 2))).toInt + (a.val : Int) = r.val ∧ (idx (ix1 (1 : Fin 2))).toInt + (b.val : Int) = c.val := by
  refine Iff.trans (Routing.resultIdx?_ix2 (R := 128) (C := 1024) scatter_S128x1024_S2_S64x512_01_n_01_0 (ix2 a b) idx r c) ?_
  rw [Routing.start_pair (R := 128) (C := 1024) scatter_S128x1024_S2_S64x512_01_n_01_0 rfl rfl, Routing.start_pair (R := 128) (C := 1024) scatter_S128x1024_S2_S64x512_01_n_01_0 rfl rfl, window_row, window_col]
  exact Iff.rfl

theorem scatter_at {α : Type} (x : S128x1024.Idx → α) (idx : IVec S2 32) (u : S64x512.Idx → α) (i j : Nat) (hi : (idx (ix1 (0 : Fin 2))).toInt = (i : Int))
    (hj : (idx (ix1 (1 : Fin 2))).toInt = (j : Int)) (r : Fin 128) (c : Fin 1024) :
    Host.scatter scatter_S128x1024_S2_S64x512_01_n_01_0 (fun _ b => b) x idx u (ix2 r c)
      = if h : (i ≤ r.val ∧ r.val < i + 64) ∧ (j ≤ c.val ∧ c.val < j + 512) then u (ix2 (⟨r.val - i, by omega⟩ : Fin 64) (⟨c.val - j, by omega⟩ : Fin 512)) else x (ix2 r c) := by
  have split : ∀ k : S64x512.Idx, ∃ (a : Fin 64) (b : Fin 512), k = ix2 a b := fun k => ⟨k 0, k 1, by funext z; fin_cases z <;> rfl⟩
  by_cases h : (i ≤ r.val ∧ r.val < i + 64) ∧ (j ≤ c.val ∧ c.val < j + 512)
  · rw [dif_pos h]
    refine Routing.scatter_set_hit _ x idx u _ _ (fun k hk => ?_) (ix2 (⟨r.val - i, by omega⟩ : Fin 64) (⟨c.val - j, by omega⟩ : Fin 512)) ?_
    · obtain ⟨a, b, rfl⟩ := split k
      have := (lands_block idx a b r c).1 hk
      rw [hi, hj] at this
      exact congrArg u (congrArg₂ ix2 (Fin.ext (by show a.val = r.val - i; omega)) (Fin.ext (by show b.val = c.val - j; omega)))
    · refine (lands_block idx _ _ r c).2 ?_
      rw [hi, hj]
      constructor
      · show (i : Int) + ((r.val - i : ℕ) : Int) = r.val
        omega
      · show (j : Int) + ((c.val - j : ℕ) : Int) = c.val
        omega
  · rw [dif_neg h]
    refine Routing.scatter_set_miss _ x idx u _ fun k hk => h ?_
    obtain ⟨a, b, rfl⟩ := split k
    have := (lands_block idx a b r c).1 hk
    rw [hi, hj] at this
    omega

theorem blocks_at (w2 a2 : FVec Ideal S64x512 .f32) (r : Fin 128) (c : Fin 1024) :
    blocks w2 a2 (ix2 r c) = if h : 64 ≤ r.val ∧ 512 ≤ c.val then a2 (ix2 (⟨r.val - 64, by omega⟩ : Fin 64) (⟨c.val - 512, by omega⟩ : Fin 512))
      else if h : r.val < 64 ∧ c.val < 512 then w2 (ix2 (⟨r.val, h.1⟩ : Fin 64) (⟨c.val, h.2⟩ : Fin 512)) else 0 := by
  have hp : blocks w2 a2 (ix2 r c) = placed w2 a2 (ix2 r c) := by
    pointwise [blocks]
  rw [hp]
  unfold placed
  rw [scatter_at _ _ a2 64 512 (by rw [pairOf_first]; rfl) (by rw [pairOf_second]; rfl), scatter_at _ _ w2 0 0 (by rw [pairOf_first]; rfl) (by rw [pairOf_second]; rfl)]
  by_cases h : 64 ≤ r.val ∧ 512 ≤ c.val
  · rw [dif_pos h, dif_pos (by omega)]
  · rw [dif_neg h, dif_neg (by omega)]
    by_cases g : r.val < 64 ∧ c.val < 512
    · rw [dif_pos g, dif_pos (by omega)]
      rfl
    · rw [dif_neg g, dif_neg (by omega)]
      pointwise []

/-- The columns' heads. -/
def headsOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- One where two columns are of one head. -/
def ones : FVec Ideal S512x512 .bf16 :=
  uitofp .bf16 (cmpi .eq (broadcastInDim S512x512 ![0, 1] bcast_S512x1_S512x512_0_1 (broadcastInDim S512x1 ![0] bcast_S512_S512x1_0 headsOf))
    (broadcastInDim S512x512 ![0, 1] bcast_S1x512_S512x512_0_1 (broadcastInDim S1x512 ![1] bcast_S512_S1x512_1 headsOf)))

theorem headWord_eq : ∀ c : Fin 512, Scalar.select (IntOp.andi (IntOp.cmpi CmpIPredicate.ne
        (if BitVec.ofNat 32 c.val = 0 then (0 : BitVec 32) else if (BitVec.ofNat 32 c.val).msb = true then -1 else 1)
        (if 64#32 = 0 then (0 : BitVec 32) else if (64#32).msb = true then -1 else 1))
      (IntOp.cmpi CmpIPredicate.ne (IntOp.remsi ArithUnit.host (BitVec.ofNat 32 c.val) 64#32) 0#32))
    (IntOp.subi (IntOp.divsi ArithUnit.host (BitVec.ofNat 32 c.val) 64#32) 1#32)
    (IntOp.divsi ArithUnit.host (BitVec.ofNat 32 c.val) 64#32) = BitVec.ofNat 32 (c.val / 64) := by
  decide +kernel

theorem oneWord_eq : ∀ a b : Fin 8, IntOp.cmpi CmpIPredicate.eq (BitVec.ofNat 32 a.val) (BitVec.ofNat 32 b.val) = if a.val = b.val then 1#1 else 0#1 := by
  decide +kernel

theorem headsOf_at (c : Fin 512) : headsOf (ix1 c) = BitVec.ofNat 32 (c.val / 64) := by
  pointwise [headsOf]
  exact headWord_eq c

theorem ones_at (k c : Fin 512) : ones (ix2 k c) = if k.val / 64 = c.val / 64 then 1 else 0 := by
  pointwise [ones]
  rw [headsOf_at, headsOf_at, oneWord_eq (⟨k.val / 64, by omega⟩ : Fin 8) (⟨c.val / 64, by omega⟩ : Fin 8)]
  by_cases h : k.val / 64 = c.val / 64
  · rw [if_pos h, if_pos h]
    show (((1#1 : BitVec 1).toNat : ℝ) : EReal) = 1
    norm_num
  · rw [if_neg h, if_neg h]
    show (((0#1 : BitVec 1).toNat : ℝ) : EReal) = 0
    norm_num

variable (m : (ℓ : Loc nD τ sig) → Buf (Elt Ideal) ℓ)

theorem idx_val : ∀ t : Fin cfg0.N, win0_0.index t = ![t.val, 0] ∧ win0_1.index t = ![t.val * 64 - 1, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] :=
  (by decide +kernel : ∀ t : Fin grid0.N, _)

/-- The token that row `i` of point `t` is. -/
abbrev rowOf (t : Fin cfg0.N) (i : Fin 512) : Fin 16384 := ⟨512 * t.val + i.val, by have : t.val < 32 := t.isLt; omega⟩

theorem read0 (c : Dev nD) (t : Fin cfg0.N) (i : Fin 512) (a : Fin 1792) :
    iblk m c 0 t (ix2 i a) = m ((c : Thread nD τ).loc main_arg0) (ix2 (rowOf t i) a) := by
  blk_point [iblk, V, idx_val t]

theorem read1 (c : Dev nD) (t : Fin cfg0.N) (a : Fin 1792) (h : t.val ≠ 0) :
    iblk m c 1 t (ix2 7 a) = m ((c : Thread nD τ).loc main_arg0) (ix2 (⟨512 * t.val - 1, by have : t.val < 32 := t.isLt; omega⟩ : Fin 16384) a) := by
  blk_point [iblk, V, idx_val t]

theorem at_v9 (c : Dev nD) : V m c main_v9 = blocks (m ((c : Thread nD τ).loc main_arg3)) (m ((c : Thread nD τ).loc main_arg5)) := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v17 (c : Dev nD) : V m c main_v17 = ones := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v18 (c : Dev nD) : V m c main_v18 = shapeCast S1x1792 (m ((c : Thread nD τ).loc main_arg1)) shapeCasts_S1792_S1x1792 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v19 (c : Dev nD) : V m c main_v19 = shapeCast S1x512 (m ((c : Thread nD τ).loc main_arg2)) shapeCasts_S512_S1x512 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v20 (c : Dev nD) : V m c main_v20 = shapeCast S1x512 (m ((c : Thread nD τ).loc main_arg4)) shapeCasts_S512_S1x512 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v21 (c : Dev nD) : V m c main_v21 = shapeCast S1x512 (m ((c : Thread nD τ).loc main_arg7)) shapeCasts_S512_S1x512 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v22 (c : Dev nD) : V m c main_v22 = shapeCast S1x512 (m ((c : Thread nD τ).loc main_arg8)) shapeCasts_S512_S1x512 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem at_v24 (c : Dev nD) : V m c main_v24 = shapeCast S1x512 (shapeCast S512 (m ((c : Thread nD τ).loc main_arg9)) shapeCasts_S8x64_S512) shapeCasts_S512_S1x512 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem read2 (c : Dev nD) (t : Fin cfg0.N) (a : Fin 1792) :
    iblk m c 2 t (ix2 0 a) = (m ((c : Thread nD τ).loc main_arg1)) (ix1 a) := by
  refine Eq.trans (b := V m c main_v18 (ix2 0 a)) ?_ ?_
  · blk_point [iblk, idx_val t]
  · rw [at_v18]
    pointwise []

theorem read3 (c : Dev nD) (t : Fin cfg0.N) (a : Fin 512) :
    iblk m c 3 t (ix2 0 a) = (m ((c : Thread nD τ).loc main_arg2)) (ix1 a) := by
  refine Eq.trans (b := V m c main_v19 (ix2 0 a)) ?_ ?_
  · blk_point [iblk, idx_val t]
  · rw [at_v19]
    pointwise []

theorem read4 (c : Dev nD) (t : Fin cfg0.N) (a : Fin 512) :
    iblk m c 4 t (ix2 0 a) = (m ((c : Thread nD τ).loc main_arg4)) (ix1 a) := by
  refine Eq.trans (b := V m c main_v20 (ix2 0 a)) ?_ ?_
  · blk_point [iblk, idx_val t]
  · rw [at_v20]
    pointwise []

theorem read5 (c : Dev nD) (t : Fin cfg0.N) (a : Fin 512) :
    iblk m c 5 t (ix2 0 a) = (m ((c : Thread nD τ).loc main_arg7)) (ix1 a) := by
  refine Eq.trans (b := V m c main_v21 (ix2 0 a)) ?_ ?_
  · blk_point [iblk, idx_val t]
  · rw [at_v21]
    pointwise []

theorem read6 (c : Dev nD) (t : Fin cfg0.N) (a : Fin 512) :
    iblk m c 6 t (ix2 0 a) = (m ((c : Thread nD τ).loc main_arg8)) (ix1 a) := by
  refine Eq.trans (b := V m c main_v22 (ix2 0 a)) ?_ ?_
  · blk_point [iblk, idx_val t]
  · rw [at_v22]
    pointwise []

theorem flat_vector (q : FVec Ideal S8x64 .f32) (a : Fin 512) :
    shapeCast S1x512 (shapeCast S512 q shapeCasts_S8x64_S512) shapeCasts_S512_S1x512 (ix2 0 a) = q (ix2 (⟨a.val / 64, by omega⟩ : Fin 8) (⟨a.val % 64, by omega⟩ : Fin 64)) := by
  pointwise []

theorem read7 (c : Dev nD) (t : Fin cfg0.N) (a : Fin 512) :
    iblk m c 7 t (ix2 0 a) = (m ((c : Thread nD τ).loc main_arg9)) (ix2 (⟨a.val / 64, by omega⟩ : Fin 8) (⟨a.val % 64, by omega⟩ : Fin 64)) := by
  refine Eq.trans (b := V m c main_v24 (ix2 0 a)) ?_ ?_
  · blk_point [iblk, idx_val t]
  · rw [at_v24]
    exact flat_vector _ a

theorem read8 (c : Dev nD) (t : Fin cfg0.N) (k : Fin 128) (a : Fin 1024) :
    iblk m c 8 t (ix2 k a) = blocks (m ((c : Thread nD τ).loc main_arg3)) (m ((c : Thread nD τ).loc main_arg5)) (ix2 k a) := by
  unfold iblk
  change V m c main_v9 ((win0_8.blk t).view.emb (ix2 k a)) = _
  rw [at_v9]
  generalize blocks _ _ = X
  blk_point [idx_val t]

theorem read9 (c : Dev nD) (t : Fin cfg0.N) (k : Fin 128) (a : Fin 512) :
    iblk m c 9 t (ix2 k a) = m ((c : Thread nD τ).loc main_arg6) (ix2 k a) := by
  blk_point [iblk, V, idx_val t]

theorem read10 (c : Dev nD) (t : Fin cfg0.N) (k : Fin 512) (a : Fin 512) :
    iblk m c 10 t (ix2 k a) = ones (ix2 k a) := by
  unfold iblk
  change V m c main_v17 ((win0_10.blk t).view.emb (ix2 k a)) = _
  rw [at_v17]
  generalize ones = X
  blk_point [idx_val t]

/-! ## A tile's row -/

theorem coords_val : ∀ t : Fin cfg0.N, ((grid0.coords t) 0).val = t.val := (by decide +kernel : ∀ t : Fin grid0.N, _)

theorem whole0 (c : Dev nD) (t : Fin cfg0.N) (i : Fin 512) (a : Fin 1792) :
    View.ld (iblk m c 0 t) r0_0 (ix2 i a) = (m ((c : Thread nD τ).loc main_arg0)) (ix2 (rowOf t i) a) := by
  refine Eq.trans ?_ (read0 m c t i a)
  pointwise []
theorem whole1 (c : Dev nD) (t : Fin cfg0.N) (a : Fin 1792) (h : t.val ≠ 0) :
    View.ld (iblk m c 1 t) r0_1 (ix2 0 a) = (m ((c : Thread nD τ).loc main_arg0)) (ix2 (⟨512 * t.val - 1, by have : t.val < 32 := t.isLt; omega⟩ : Fin 16384) a) := by
  refine Eq.trans ?_ (read1 m c t a h)
  pointwise []
theorem whole2 (c : Dev nD) (t : Fin cfg0.N) (a : Fin 1792) : View.ld (iblk m c 2 t) r0_2 (ix2 0 a) = (m ((c : Thread nD τ).loc main_arg1)) (ix1 a) := by
  refine Eq.trans ?_ (read2 m c t a)
  pointwise []
theorem whole3 (c : Dev nD) (t : Fin cfg0.N) (a : Fin 512) : View.ld (iblk m c 3 t) r0_4 (ix2 0 a) = (m ((c : Thread nD τ).loc main_arg2)) (ix1 a) := by
  refine Eq.trans ?_ (read3 m c t a)
  pointwise []
theorem whole4 (c : Dev nD) (t : Fin cfg0.N) (a : Fin 512) : View.ld (iblk m c 4 t) r0_4 (ix2 0 a) = (m ((c : Thread nD τ).loc main_arg4)) (ix1 a) := by
  refine Eq.trans ?_ (read4 m c t a)
  pointwise []
theorem whole5 (c : Dev nD) (t : Fin cfg0.N) (a : Fin 512) : View.ld (iblk m c 5 t) r0_4 (ix2 0 a) = (m ((c : Thread nD τ).loc main_arg7)) (ix1 a) := by
  refine Eq.trans ?_ (read5 m c t a)
  pointwise []
theorem whole6 (c : Dev nD) (t : Fin cfg0.N) (a : Fin 512) : View.ld (iblk m c 6 t) r0_4 (ix2 0 a) = (m ((c : Thread nD τ).loc main_arg8)) (ix1 a) := by
  refine Eq.trans ?_ (read6 m c t a)
  pointwise []
theorem whole7 (c : Dev nD) (t : Fin cfg0.N) (a : Fin 512) :
    View.ld (iblk m c 7 t) r0_4 (ix2 0 a) = (m ((c : Thread nD τ).loc main_arg9)) (ix2 (⟨a.val / 64, by omega⟩ : Fin 8) (⟨a.val % 64, by omega⟩ : Fin 64)) := by
  refine Eq.trans ?_ (read7 m c t a)
  pointwise []
theorem whole8 (c : Dev nD) (t : Fin cfg0.N) (k : Fin 128) (a : Fin 1024) :
    View.ld (iblk m c 8 t) r0_3 (ix2 k a) = blocks (m ((c : Thread nD τ).loc main_arg3)) (m ((c : Thread nD τ).loc main_arg5)) (ix2 k a) := by
  refine Eq.trans ?_ (read8 m c t k a)
  pointwise []
theorem whole9 (c : Dev nD) (t : Fin cfg0.N) (k : Fin 128) (a : Fin 512) :
    View.ld (iblk m c 9 t) r0_6 (ix2 k a) = (m ((c : Thread nD τ).loc main_arg6)) (ix2 k a) := by
  refine Eq.trans ?_ (read9 m c t k a)
  pointwise []
theorem whole10 (c : Dev nD) (t : Fin cfg0.N) (k : Fin 512) (a : Fin 512) :
    View.ld (iblk m c 10 t) r0_5 (ix2 k a) = (if k.val / 64 = a.val / 64 then 1 else 0 : EReal) := by
  refine Eq.trans ?_ ((read10 m c t k a).trans (ones_at k a))
  pointwise []

/-- Token `n`'s row, drawn towards the token before it: the reference's, of the kernel's arguments. -/
abbrev row (c : Dev nD) (n : Fin 16384) (k : Fin 1792) : EReal := Cert.RwkvPrepRefIdeal.Val.drawn (m ((c : Thread nD τ).loc main_arg0)) (m ((c : Thread nD τ).loc main_arg1)) n k

theorem row_at (c : Dev nD) (t : Fin cfg0.N) (i : Fin 512) (k : Fin 1792) :
    k0_pay3 (grid0.coords t) (View.ld (iblk m c 0 t) r0_0) (View.ld (iblk m c 1 t) r0_1) (View.ld (iblk m c 2 t) r0_2) (ix2 i k) = row m c (rowOf t i) k := by
  have ht : t.val < 32 := t.isLt
  rw [pay3_at, row, Cert.RwkvPrepRefIdeal.Val.drawn_at, whole0, whole2, coords_val]
  refine congrArg (fun p => mixed _ p _) ?_
  by_cases h : i.val = 0
  · rw [dif_pos h]
    by_cases h8 : t.val % 8 = 0
    · rw [if_pos h8, dif_pos (show (512 * t.val + i.val) % 4096 = 0 by omega)]
    · rw [if_neg h8, dif_neg (show ¬ (512 * t.val + i.val) % 4096 = 0 by omega), whole1 m c t k (by omega)]
      exact congrArg (fun n => (m ((c : Thread nD τ).loc main_arg0)) (ix2 n k)) (Fin.ext (by show 512 * t.val - 1 = 512 * t.val + i.val - 1; omega))
  · rw [dif_neg h, dif_neg (show ¬ (512 * t.val + i.val) % 4096 = 0 by omega), whole0]
    exact congrArg (fun n => (m ((c : Thread nD τ).loc main_arg0)) (ix2 n k)) (Fin.ext (by show 512 * t.val + (i.val - 1) = 512 * t.val + i.val - 1; omega))

/-! ## What a point holds -/

theorem receptance_at (c : Dev nD) (t : Fin cfg0.N) (i a : Fin 512) : k0_pay25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i a) = row m c (rowOf t i) (⟨a.val, by omega⟩ : Fin 1792) := by
  unfold k0_pay25
  exact (pay4_at _ _ _ _ i a).trans (row_at m c t i _)
theorem key_at (c : Dev nD) (t : Fin cfg0.N) (i a : Fin 512) : k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i a) = row m c (rowOf t i) (⟨512 + a.val, by omega⟩ : Fin 1792) := by
  unfold k0_pay26
  exact (pay5_at _ _ _ _ i a).trans (row_at m c t i _)
theorem value_at (c : Dev nD) (t : Fin cfg0.N) (i a : Fin 512) : k0_pay27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i a) = row m c (rowOf t i) (⟨1024 + a.val, by omega⟩ : Fin 1792) := by
  unfold k0_pay27
  exact (pay6_at _ _ _ _ i a).trans (row_at m c t i _)
theorem low_at (c : Dev nD) (t : Fin cfg0.N) (i : Fin 512) (a : Fin 128) : k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i a)
    = if a.val < 64 then Ideal.tanh (row m c (rowOf t i) (⟨1536 + a.val, by omega⟩ : Fin 1792)) else row m c (rowOf t i) (⟨1536 + a.val, by omega⟩ : Fin 1792) := by
  unfold k0_pay28
  refine (pay8_at _ _ _ _ i a).trans ?_
  have h := row_at m c t i (⟨1536 + a.val, by omega⟩ : Fin 1792)
  exact congrArg (fun z : EReal => if a.val < 64 then Ideal.tanh z else z) h

/-- The low-rank part of the decay: the block matrix's left half meets the first 64 columns alone. -/
theorem sum_decay (w2 a2 : FVec Ideal S64x512 .f32) (l : Fin 128 → EReal) (a : Fin 512) :
    ∑ k : Fin 128, l k * blocks w2 a2 (ix2 k (⟨a.val, by omega⟩ : Fin 1024)) = ∑ d : Fin 64, l (⟨d.val, by omega⟩ : Fin 128) * w2 (ix2 d a) := by
  refine (sum_low l (fun k => blocks w2 a2 (ix2 k (⟨a.val, by omega⟩ : Fin 1024))) fun k hk => ?_).trans (Finset.sum_congr rfl fun d _ => congrArg (l _ * ·) ?_)
  · show blocks w2 a2 (ix2 k (⟨a.val, by omega⟩ : Fin 1024)) = 0
    rw [blocks_at, dif_neg (by simp only [not_and]; omega), dif_neg (by simp only [not_and]; omega)]
  · show blocks w2 a2 (ix2 (⟨d.val, by omega⟩ : Fin 128) (⟨a.val, by omega⟩ : Fin 1024)) = _
    rw [blocks_at, dif_neg (by simp only [not_and]; omega), dif_pos ⟨d.isLt, a.isLt⟩]

/-- The low-rank part of the rate: the block matrix's right half meets the last 64 columns alone. -/
theorem sum_rate (w2 a2 : FVec Ideal S64x512 .f32) (l : Fin 128 → EReal) (a : Fin 512) :
    ∑ k : Fin 128, l k * blocks w2 a2 (ix2 k (⟨512 + a.val, by omega⟩ : Fin 1024)) = ∑ d : Fin 64, l (⟨64 + d.val, by omega⟩ : Fin 128) * a2 (ix2 d a) := by
  refine (sum_high l (fun k => blocks w2 a2 (ix2 k (⟨512 + a.val, by omega⟩ : Fin 1024))) fun k hk => ?_).trans (Finset.sum_congr rfl fun d _ => congrArg (l _ * ·) ?_)
  · show blocks w2 a2 (ix2 k (⟨512 + a.val, by omega⟩ : Fin 1024)) = 0
    rw [blocks_at, dif_neg (by simp only [not_and]; omega), dif_neg (by simp only [not_and]; omega)]
  · show blocks w2 a2 (ix2 (⟨64 + d.val, by omega⟩ : Fin 128) (⟨512 + a.val, by omega⟩ : Fin 1024)) = _
    rw [blocks_at, dif_pos ⟨by show 64 ≤ 64 + d.val; omega, by show 512 ≤ 512 + a.val; omega⟩]
    exact congrArg₂ (fun x y => a2 (ix2 x y)) (Fin.ext (by show 64 + d.val - 64 = d.val; omega)) (Fin.ext (by show 512 + a.val - 512 = a.val; omega))

theorem logistic_sum (b : EReal) {x y : EReal} (h : x = y) : Ideal.logistic (b + x) = Ideal.logistic (b + y) := by rw [h]
theorem decay_sum (b : EReal) {x y : EReal} (h : x = y) :
    -Ideal.exp (-softplus (-(b + x)) - Ideal.ofBits .f32 0x3F000000#32) = -Ideal.exp (-softplus (-(b + y)) - Ideal.ofBits .f32 0x3F000000#32) := by rw [h]

/-- Token `n`'s in-context rate at column `a`. -/
abbrev rateOf (c : Dev nD) (n : Fin 16384) (a : Fin 512) : EReal :=
  rate (fun d => row m c n (⟨1600 + d.val, by omega⟩ : Fin 1792)) (fun d => (m ((c : Thread nD τ).loc main_arg5)) (ix2 d a)) ((m ((c : Thread nD τ).loc main_arg4)) (ix1 a))

theorem rate_at (c : Dev nD) (t : Fin cfg0.N) (i a : Fin 512) : k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i a) = rateOf m c (rowOf t i) a := by
  unfold k0_pay29
  rw [pay11_at, whole4]
  simp only [whole8]
  rw [sum_rate _ _ (fun k => k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k))]
  unfold rateOf rate
  refine logistic_sum _ (Finset.sum_congr rfl fun d _ => congrArg (· * _) ?_)
  show k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i (⟨64 + d.val, by omega⟩ : Fin 128)) = _
  rw [low_at, if_neg (by show ¬ 64 + d.val < 64; omega)]
  exact congrArg (row m c (rowOf t i)) (Fin.ext (by show 1536 + (64 + d.val) = 1600 + d.val; omega))

theorem decay_at (c : Dev nD) (t : Fin cfg0.N) (i a : Fin 512) :
    k0_pay21 (k0_pay10 (k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 8 t) r0_3) (View.ld (iblk m c 3 t) r0_4)) (ix2 i a)
      = decay (decayArg (fun d => row m c (rowOf t i) (⟨1536 + d.val, by omega⟩ : Fin 1792)) (fun d => (m ((c : Thread nD τ).loc main_arg3)) (ix2 d a)) ((m ((c : Thread nD τ).loc main_arg2)) (ix1 a))) := by
  rw [pay21_at, pay10_at, whole3]
  simp only [whole8]
  rw [sum_decay _ _ (fun k => k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i k))]
  unfold decay decayArg
  refine decay_sum _ (Finset.sum_congr rfl fun d _ => congrArg (· * _) ?_)
  show k0_pay28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i (⟨d.val, by omega⟩ : Fin 128)) = _
  rw [low_at, if_pos d.isLt]

theorem bent_at (c : Dev nD) (t : Fin cfg0.N) (i a : Fin 512) :
    k0_pay19 (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_4) (ix2 i a)
      = scaled (row m c (rowOf t i) (⟨512 + a.val, by omega⟩ : Fin 1792)) (rateOf m c (rowOf t i) a) ((m ((c : Thread nD τ).loc main_arg8)) (ix1 a)) := by
  rw [pay19_at, key_at, rate_at, whole6]

theorem gate_at (c : Dev nD) (t : Fin cfg0.N) (i a : Fin 512) :
    k0_pay2 (k0_pay7 (grid0.coords t) (View.ld (iblk m c 0 t) r0_0) (View.ld (iblk m c 1 t) r0_1) (View.ld (iblk m c 2 t) r0_2)) (View.ld (iblk m c 9 t) r0_6) (ix2 i a)
      = gate (fun d => row m c (rowOf t i) (⟨1664 + d.val, by omega⟩ : Fin 1792)) (fun d => (m ((c : Thread nD τ).loc main_arg6)) (ix2 d a)) := by
  rw [pay2_at]
  have h : ∀ d : Fin 128, k0_pay7 (grid0.coords t) (View.ld (iblk m c 0 t) r0_0) (View.ld (iblk m c 1 t) r0_1) (View.ld (iblk m c 2 t) r0_2) (ix2 i d) = row m c (rowOf t i) (⟨1664 + d.val, by omega⟩ : Fin 1792) := fun d =>
    (pay7_at _ _ _ _ i d).trans (row_at m c t i _)
  simp only [h, whole9]

/-! ## Sums over a head -/

/-- A number whose first half-width part is itself leaves nothing, and the sum by zeros and ones is the head's. -/
theorem sum_parts (f : Fin 512 → EReal) (o : Fin 512 → EReal) (a : Fin 512) (hf : ∀ k, Finite (f k)) (ho : ∀ k, o k = if k.val / 64 = a.val / 64 then 1 else 0) :
    (∑ k, f k * o k) + ∑ k, (f k - f k) * o k = ∑ d : Fin 64, f (Cert.RwkvPrepRefIdeal.Val.mate a d) := by
  have h0 : ∑ k, (f k - f k) * o k = 0 := by
    refine Finset.sum_eq_zero fun k _ => ?_
    rw [(hf k).sub_self, zero_mul]
  rw [h0, add_zero, sum_head f o a ho]

/-- The columns of receptance and key, and what multiplies them, are finite. -/
structure FiniteKeys (c : Dev nD) : Prop where
  cols : ∀ (n : Fin 16384) (k : Fin 1792), k.val < 1024 → Finite ((m ((c : Thread nD τ).loc main_arg0)) (ix2 n k))
  draw : ∀ k : Fin 1792, k.val < 1024 → Finite ((m ((c : Thread nD τ).loc main_arg1)) (ix1 k))
  key : ∀ a : Fin 512, Finite ((m ((c : Thread nD τ).loc main_arg7)) (ix1 a))
  bend : ∀ a : Fin 512, Finite ((m ((c : Thread nD τ).loc main_arg8)) (ix1 a))
  bonus : ∀ (h : Fin 8) (d : Fin 64), Finite ((m ((c : Thread nD τ).loc main_arg9)) (ix2 h d))

theorem row_finite (c : Dev nD) (H : FiniteKeys m c) (n : Fin 16384) (k : Fin 1792) (hk : k.val < 1024) : Finite (row m c n k) := by
  rw [row, Cert.RwkvPrepRefIdeal.Val.drawn_at]
  refine Finite.mixed (H.cols n k hk) ?_ (H.draw k hk)
  by_cases h : n.val % 4096 = 0
  · rw [dif_pos h]
    exact Finite.zero
  · rw [dif_neg h]
    exact H.cols _ k hk

theorem unit_at (c : Dev nD) (H : FiniteKeys m c) (t : Fin cfg0.N) (i a : Fin 512) :
    k0_pay18 (k0_pay30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay31 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 i a)
      = unit (row m c (rowOf t i) (⟨512 + a.val, by omega⟩ : Fin 1792) * (m ((c : Thread nD τ).loc main_arg7)) (ix1 a))
          (fun d => row m c (rowOf t i) (⟨512 + (Cert.RwkvPrepRefIdeal.Val.mate a d).val, by omega⟩ : Fin 1792) * (m ((c : Thread nD τ).loc main_arg7)) (ix1 (Cert.RwkvPrepRefIdeal.Val.mate a d))) := by
  have hk : ∀ k : Fin 512, k0_pay13 (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_4) (ix2 i k)
      = (row m c (rowOf t i) (⟨512 + k.val, by omega⟩ : Fin 1792) * (m ((c : Thread nD τ).loc main_arg7)) (ix1 k) : EReal) := fun k => by
    rw [pay13_at, key_at, whole5]
  unfold k0_pay30 k0_pay31 k0_pay32 k0_pay33
  have h14 : ∀ k : Fin 512, k0_pay14 (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_4) (ix2 i k)
      = ((row m c (rowOf t i) (⟨512 + k.val, by omega⟩ : Fin 1792) * (m ((c : Thread nD τ).loc main_arg7)) (ix1 k)) * (row m c (rowOf t i) (⟨512 + k.val, by omega⟩ : Fin 1792) * (m ((c : Thread nD τ).loc main_arg7)) (ix1 k)) : EReal) := fun k => by
    rw [pay14_at, hk]
  refine (pay18_at (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 5 t) r0_4) (View.ld (iblk m c 10 t) r0_5) i a).trans ?_
  simp only [h14]
  rw [hk a, sum_parts (fun k => (row m c (rowOf t i) (⟨512 + k.val, by omega⟩ : Fin 1792) * (m ((c : Thread nD τ).loc main_arg7)) (ix1 k)) * (row m c (rowOf t i) (⟨512 + k.val, by omega⟩ : Fin 1792) * (m ((c : Thread nD τ).loc main_arg7)) (ix1 k)))
    (fun k => View.ld (iblk m c 10 t) r0_5 (ix2 k a)) a
    (fun k => ((row_finite m c H _ _ (by show 512 + k.val < 1024; omega)).mul (H.key k)).mul ((row_finite m c H _ _ (by show 512 + k.val < 1024; omega)).mul (H.key k)))
    (fun k => whole10 m c t k a)]
  rfl

theorem pay20_at (a : FVec Ideal S512x512 .f32) (o : FVec Ideal S512x512 .bf16) (k : FVec Ideal S512x512 .f32) (p : FVec Ideal S512x512 .bf16) (q : FVec Ideal S512x512 .f32) (y : S512x512.Idx) :
    k0_pay20 a o k p q y = (k0_pay18 o k p q y * a y : EReal) := rfl

theorem bonus_at (c : Dev nD) (H : FiniteKeys m c) (t : Fin cfg0.N) (i a : Fin 512) :
    k0_pay1 (k0_pay27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay23 (k0_pay25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_4) (View.ld (iblk m c 7 t) r0_4))
        (k0_pay24 (k0_pay25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_4) (View.ld (iblk m c 7 t) r0_4)) (ix2 i a)
      = ((∑ d : Fin 64, row m c (rowOf t i) (⟨(Cert.RwkvPrepRefIdeal.Val.mate a d).val, by omega⟩ : Fin 1792)
          * scaled (row m c (rowOf t i) (⟨512 + (Cert.RwkvPrepRefIdeal.Val.mate a d).val, by omega⟩ : Fin 1792)) (rateOf m c (rowOf t i) (Cert.RwkvPrepRefIdeal.Val.mate a d)) ((m ((c : Thread nD τ).loc main_arg8)) (ix1 (Cert.RwkvPrepRefIdeal.Val.mate a d)))
          * (m ((c : Thread nD τ).loc main_arg9)) (ix2 (⟨a.val / 64, by omega⟩ : Fin 8) d)) * row m c (rowOf t i) (⟨1024 + a.val, by omega⟩ : Fin 1792) : EReal) := by
  have hk : ∀ k : Fin 512, k0_pay22 (k0_pay25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 6 t) r0_4) (View.ld (iblk m c 7 t) r0_4) (ix2 i k)
      = (row m c (rowOf t i) (⟨k.val, by omega⟩ : Fin 1792) * scaled (row m c (rowOf t i) (⟨512 + k.val, by omega⟩ : Fin 1792)) (rateOf m c (rowOf t i) k) ((m ((c : Thread nD τ).loc main_arg8)) (ix1 k))
          * (m ((c : Thread nD τ).loc main_arg9)) (ix2 (⟨k.val / 64, by omega⟩ : Fin 8) (⟨k.val % 64, by omega⟩ : Fin 64)) : EReal) := fun k => by
    rw [pay22_at, receptance_at, key_at, rate_at, whole6, whole7]
  unfold k0_pay30
  rw [pay1_at, value_at]
  simp only [hk]
  rw [sum_parts (fun k => (row m c (rowOf t i) (⟨k.val, by omega⟩ : Fin 1792) * scaled (row m c (rowOf t i) (⟨512 + k.val, by omega⟩ : Fin 1792)) (rateOf m c (rowOf t i) k) ((m ((c : Thread nD τ).loc main_arg8)) (ix1 k))
          * (m ((c : Thread nD τ).loc main_arg9)) (ix2 (⟨k.val / 64, by omega⟩ : Fin 8) (⟨k.val % 64, by omega⟩ : Fin 64)) : EReal))
    (fun k => View.ld (iblk m c 10 t) r0_5 (ix2 k a)) a
    (fun k => ((row_finite m c H _ _ (by show k.val < 1024; omega)).mul ((row_finite m c H _ _ (by show 512 + k.val < 1024; omega)).scaled (Finite.logistic _) (H.bend k))).mul (H.bonus _ _))
    (fun k => whole10 m c t k a)]
  refine congrArg (· * row m c (rowOf t i) (⟨1024 + a.val, by omega⟩ : Fin 1792)) (Finset.sum_congr rfl fun d _ => congrArg (fun z : EReal => row m c (rowOf t i) (⟨(Cert.RwkvPrepRefIdeal.Val.mate a d).val, by omega⟩ : Fin 1792) * scaled (row m c (rowOf t i) (⟨512 + (Cert.RwkvPrepRefIdeal.Val.mate a d).val, by omega⟩ : Fin 1792)) (rateOf m c (rowOf t i) (Cert.RwkvPrepRefIdeal.Val.mate a d)) ((m ((c : Thread nD τ).loc main_arg8)) (ix1 (Cert.RwkvPrepRefIdeal.Val.mate a d))) * z) ?_)
  exact congrArg₂ (fun x y => (m ((c : Thread nD τ).loc main_arg9)) (ix2 x y)) (Fin.ext (by show (a.val / 64 * 64 + d.val) / 64 = a.val / 64; omega)) (Fin.ext (by show (a.val / 64 * 64 + d.val) % 64 = d.val; omega))

/-! ## The eight results -/

def ref11 (c : Dev nD) : FVec Ideal S16384x512 .f32 := Cert.RwkvPrepRefIdeal.Val.out0 (m ((c : Thread nD τ).loc main_arg0)) (m ((c : Thread nD τ).loc main_arg1))
abbrev tile11 (c : Dev nD) (t : Fin cfg0.N) : S512x512.Idx → Elt Ideal .f32 := fun y => ref11 m c (ix2 (rowOf t (y 0)) (y 1))
def ref12 (c : Dev nD) : FVec Ideal S16384x512 .f32 := Cert.RwkvPrepRefIdeal.Val.out1 (m ((c : Thread nD τ).loc main_arg0)) (m ((c : Thread nD τ).loc main_arg1)) (m ((c : Thread nD τ).loc main_arg4)) (m ((c : Thread nD τ).loc main_arg5)) (m ((c : Thread nD τ).loc main_arg8))
abbrev tile12 (c : Dev nD) (t : Fin cfg0.N) : S512x512.Idx → Elt Ideal .f32 := fun y => ref12 m c (ix2 (rowOf t (y 0)) (y 1))
def ref13 (c : Dev nD) : FVec Ideal S16384x512 .f32 := Cert.RwkvPrepRefIdeal.Val.out2 (m ((c : Thread nD τ).loc main_arg0)) (m ((c : Thread nD τ).loc main_arg1))
abbrev tile13 (c : Dev nD) (t : Fin cfg0.N) : S512x512.Idx → Elt Ideal .f32 := fun y => ref13 m c (ix2 (rowOf t (y 0)) (y 1))
def ref14 (c : Dev nD) : FVec Ideal S16384x512 .f32 := Cert.RwkvPrepRefIdeal.Val.out3 (m ((c : Thread nD τ).loc main_arg0)) (m ((c : Thread nD τ).loc main_arg1)) (m ((c : Thread nD τ).loc main_arg7))
abbrev tile14 (c : Dev nD) (t : Fin cfg0.N) : S512x512.Idx → Elt Ideal .f32 := fun y => ref14 m c (ix2 (rowOf t (y 0)) (y 1))
def ref15 (c : Dev nD) : FVec Ideal S16384x512 .f32 := Cert.RwkvPrepRefIdeal.Val.out4 (m ((c : Thread nD τ).loc main_arg0)) (m ((c : Thread nD τ).loc main_arg1)) (m ((c : Thread nD τ).loc main_arg4)) (m ((c : Thread nD τ).loc main_arg5)) (m ((c : Thread nD τ).loc main_arg7))
abbrev tile15 (c : Dev nD) (t : Fin cfg0.N) : S512x512.Idx → Elt Ideal .f32 := fun y => ref15 m c (ix2 (rowOf t (y 0)) (y 1))
def ref16 (c : Dev nD) : FVec Ideal S16384x512 .f32 := Cert.RwkvPrepRefIdeal.Val.out5 (m ((c : Thread nD τ).loc main_arg0)) (m ((c : Thread nD τ).loc main_arg1)) (m ((c : Thread nD τ).loc main_arg2)) (m ((c : Thread nD τ).loc main_arg3))
abbrev tile16 (c : Dev nD) (t : Fin cfg0.N) : S512x512.Idx → Elt Ideal .f32 := fun y => ref16 m c (ix2 (rowOf t (y 0)) (y 1))
def ref17 (c : Dev nD) : FVec Ideal S16384x512 .f32 := Cert.RwkvPrepRefIdeal.Val.out6 (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9))
abbrev tile17 (c : Dev nD) (t : Fin cfg0.N) : S512x512.Idx → Elt Ideal .f32 := fun y => ref17 m c (ix2 (rowOf t (y 0)) (y 1))
def ref18 (c : Dev nD) : FVec Ideal S16384x512 .f32 := Cert.RwkvPrepRefIdeal.Val.out7 (m ((c : Thread nD τ).loc main_arg0)) (m ((c : Thread nD τ).loc main_arg1)) (m ((c : Thread nD τ).loc main_arg6))
abbrev tile18 (c : Dev nD) (t : Fin cfg0.N) : S512x512.Idx → Elt Ideal .f32 := fun y => ref18 m c (ix2 (rowOf t (y 0)) (y 1))

theorem out11_eq (c : Dev nD) (t : Fin cfg0.N) (y : S512x512.Idx) : out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile11 m c t y := by
  refine View.canon_apply_of_pieces (tile11 m c t) _ ?_ y (cover0_11 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref11 m c (ix2 (rowOf t i) a)) ?_ (congrArg₂ (fun x y => ref11 m c (ix2 (rowOf t x) y)) (Fin.ext ?_) (Fin.ext ?_))
  · exact (receptance_at m c t i a).trans (Cert.RwkvPrepRefIdeal.Val.out0_at _ _ (rowOf t i) a).symm
  · show i.val = 0 + 1 * i.val
    omega
  · show a.val = 0 + 1 * a.val
    omega

theorem final11 (c : Dev nD) : (dats m 0 c).arrAt 11 (cfgs 0).N = ref11 m c := by
  refine (dats m 0 c).arrAt_eq_of_covers 11 _ (by decide +kernel) fun t hf y => ?_
  blk_simp; rw [after0_11]
  refine (out11_eq m c t y).trans ?_
  show ref11 m c (ix2 (rowOf t (y 0)) (y 1)) = _
  generalize ref11 m c = R
  blk_ext [idx_val t]

theorem out12_eq (c : Dev nD) (t : Fin cfg0.N) (y : S512x512.Idx) : out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile12 m c t y := by
  refine View.canon_apply_of_pieces (tile12 m c t) _ ?_ y (cover0_12 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref12 m c (ix2 (rowOf t i) a)) ?_ (congrArg₂ (fun x y => ref12 m c (ix2 (rowOf t x) y)) (Fin.ext ?_) (Fin.ext ?_))
  · exact (bent_at m c t i a).trans (Cert.RwkvPrepRefIdeal.Val.out1_at _ _ _ _ _ (rowOf t i) a).symm
  · show i.val = 0 + 1 * i.val
    omega
  · show a.val = 0 + 1 * a.val
    omega

theorem final12 (c : Dev nD) : (dats m 0 c).arrAt 12 (cfgs 0).N = ref12 m c := by
  refine (dats m 0 c).arrAt_eq_of_covers 12 _ (by decide +kernel) fun t hf y => ?_
  blk_simp; rw [after0_12]
  refine (out12_eq m c t y).trans ?_
  show ref12 m c (ix2 (rowOf t (y 0)) (y 1)) = _
  generalize ref12 m c = R
  blk_ext [idx_val t]

theorem out13_eq (c : Dev nD) (t : Fin cfg0.N) (y : S512x512.Idx) : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile13 m c t y := by
  refine View.canon_apply_of_pieces (tile13 m c t) _ ?_ y (cover0_13 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref13 m c (ix2 (rowOf t i) a)) ?_ (congrArg₂ (fun x y => ref13 m c (ix2 (rowOf t x) y)) (Fin.ext ?_) (Fin.ext ?_))
  · exact (value_at m c t i a).trans (Cert.RwkvPrepRefIdeal.Val.out2_at _ _ (rowOf t i) a).symm
  · show i.val = 0 + 1 * i.val
    omega
  · show a.val = 0 + 1 * a.val
    omega

theorem final13 (c : Dev nD) : (dats m 0 c).arrAt 13 (cfgs 0).N = ref13 m c := by
  refine (dats m 0 c).arrAt_eq_of_covers 13 _ (by decide +kernel) fun t hf y => ?_
  blk_simp; rw [after0_13]
  refine (out13_eq m c t y).trans ?_
  show ref13 m c (ix2 (rowOf t (y 0)) (y 1)) = _
  generalize ref13 m c = R
  blk_ext [idx_val t]

theorem out14_eq (c : Dev nD) (H : FiniteKeys m c) (t : Fin cfg0.N) (y : S512x512.Idx) : out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile14 m c t y := by
  refine View.canon_apply_of_pieces (tile14 m c t) _ ?_ y (cover0_14 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref14 m c (ix2 (rowOf t i) a)) ?_ (congrArg₂ (fun x y => ref14 m c (ix2 (rowOf t x) y)) (Fin.ext ?_) (Fin.ext ?_))
  · exact (unit_at m c H t i a).trans (Cert.RwkvPrepRefIdeal.Val.out3_at _ _ _ (rowOf t i) a).symm
  · show i.val = 0 + 1 * i.val
    omega
  · show a.val = 0 + 1 * a.val
    omega

theorem final14 (c : Dev nD) (H : FiniteKeys m c) : (dats m 0 c).arrAt 14 (cfgs 0).N = ref14 m c := by
  refine (dats m 0 c).arrAt_eq_of_covers 14 _ (by decide +kernel) fun t hf y => ?_
  blk_simp; rw [after0_14]
  refine (out14_eq m c H t y).trans ?_
  show ref14 m c (ix2 (rowOf t (y 0)) (y 1)) = _
  generalize ref14 m c = R
  blk_ext [idx_val t]

theorem out15_eq (c : Dev nD) (H : FiniteKeys m c) (t : Fin cfg0.N) (y : S512x512.Idx) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile15 m c t y := by
  refine View.canon_apply_of_pieces (tile15 m c t) _ ?_ y (cover0_15 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref15 m c (ix2 (rowOf t i) a)) ?_ (congrArg₂ (fun x y => ref15 m c (ix2 (rowOf t x) y)) (Fin.ext ?_) (Fin.ext ?_))
  · refine ((pay20_at _ _ _ _ _ (ix2 i a)).trans (congrArg₂ (fun x y : EReal => x * y) (unit_at m c H t i a) (rate_at m c t i a))).trans (Cert.RwkvPrepRefIdeal.Val.out4_at _ _ _ _ _ (rowOf t i) a).symm
  · show i.val = 0 + 1 * i.val
    omega
  · show a.val = 0 + 1 * a.val
    omega

theorem final15 (c : Dev nD) (H : FiniteKeys m c) : (dats m 0 c).arrAt 15 (cfgs 0).N = ref15 m c := by
  refine (dats m 0 c).arrAt_eq_of_covers 15 _ (by decide +kernel) fun t hf y => ?_
  blk_simp; rw [after0_15]
  refine (out15_eq m c H t y).trans ?_
  show ref15 m c (ix2 (rowOf t (y 0)) (y 1)) = _
  generalize ref15 m c = R
  blk_ext [idx_val t]

theorem out16_eq (c : Dev nD) (t : Fin cfg0.N) (y : S512x512.Idx) : out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile16 m c t y := by
  refine View.canon_apply_of_pieces (tile16 m c t) _ ?_ y (cover0_16 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref16 m c (ix2 (rowOf t i) a)) ?_ (congrArg₂ (fun x y => ref16 m c (ix2 (rowOf t x) y)) (Fin.ext ?_) (Fin.ext ?_))
  · exact (decay_at m c t i a).trans (Cert.RwkvPrepRefIdeal.Val.out5_at _ _ _ _ (rowOf t i) a).symm
  · show i.val = 0 + 1 * i.val
    omega
  · show a.val = 0 + 1 * a.val
    omega

theorem final16 (c : Dev nD) : (dats m 0 c).arrAt 16 (cfgs 0).N = ref16 m c := by
  refine (dats m 0 c).arrAt_eq_of_covers 16 _ (by decide +kernel) fun t hf y => ?_
  blk_simp; rw [after0_16]
  refine (out16_eq m c t y).trans ?_
  show ref16 m c (ix2 (rowOf t (y 0)) (y 1)) = _
  generalize ref16 m c = R
  blk_ext [idx_val t]

theorem out17_eq (c : Dev nD) (H : FiniteKeys m c) (t : Fin cfg0.N) (y : S512x512.Idx) : out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile17 m c t y := by
  refine View.canon_apply_of_pieces (tile17 m c t) _ ?_ y (cover0_17 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref17 m c (ix2 (rowOf t i) a)) ?_ (congrArg₂ (fun x y => ref17 m c (ix2 (rowOf t x) y)) (Fin.ext ?_) (Fin.ext ?_))
  · exact (bonus_at m c H t i a).trans (Cert.RwkvPrepRefIdeal.Val.out6_at _ _ _ _ _ _ (rowOf t i) a).symm
  · show i.val = 0 + 1 * i.val
    omega
  · show a.val = 0 + 1 * a.val
    omega

theorem final17 (c : Dev nD) (H : FiniteKeys m c) : (dats m 0 c).arrAt 17 (cfgs 0).N = ref17 m c := by
  refine (dats m 0 c).arrAt_eq_of_covers 17 _ (by decide +kernel) fun t hf y => ?_
  blk_simp; rw [after0_17]
  refine (out17_eq m c H t y).trans ?_
  show ref17 m c (ix2 (rowOf t (y 0)) (y 1)) = _
  generalize ref17 m c = R
  blk_ext [idx_val t]

theorem out18_eq (c : Dev nD) (t : Fin cfg0.N) (y : S512x512.Idx) : out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y = tile18 m c t y := by
  refine View.canon_apply_of_pieces (tile18 m c t) _ ?_ y (cover0_18 _ y)
  intro p hp z
  simp only [List.mem_cons, List.not_mem_nil, or_false] at hp
  subst hp
  obtain ⟨i, a, rfl⟩ : ∃ (i : Fin 512) (a : Fin 512), z = ix2 i a := ⟨z 0, z 1, by funext x; fin_cases x <;> rfl⟩
  refine Eq.trans (b := ref18 m c (ix2 (rowOf t i) a)) ?_ (congrArg₂ (fun x y => ref18 m c (ix2 (rowOf t x) y)) (Fin.ext ?_) (Fin.ext ?_))
  · exact (gate_at m c t i a).trans (Cert.RwkvPrepRefIdeal.Val.out7_at _ _ _ (rowOf t i) a).symm
  · show i.val = 0 + 1 * i.val
    omega
  · show a.val = 0 + 1 * a.val
    omega

theorem final18 (c : Dev nD) : (dats m 0 c).arrAt 18 (cfgs 0).N = ref18 m c := by
  refine (dats m 0 c).arrAt_eq_of_covers 18 _ (by decide +kernel) fun t hf y => ?_
  blk_simp; rw [after0_18]
  refine (out18_eq m c t y).trans ?_
  show ref18 m c (ix2 (rowOf t (y 0)) (y 1)) = _
  generalize ref18 m c = R
  blk_ext [idx_val t]

set_option maxHeartbeats 4000000 in
/-- The kernel's run: the eight results, and the arguments unchanged. -/
theorem run (ρ : Dev nD → PrngReg) (H : ∀ c : Dev nD, FiniteKeys m c) : θ_run defs (onTc (τ := τ) (main (F := Ideal))) ⟨m, fun _ => 0, ρ⟩ (fun r => ∀ c : Dev nD,
      r.2.mem ((c.tc : Thread nD τ).loc main_v26_0) = ref11 m c
      ∧ r.2.mem ((c.tc : Thread nD τ).loc main_v26_1) = ref12 m c
      ∧ r.2.mem ((c.tc : Thread nD τ).loc main_v26_2) = ref13 m c
      ∧ r.2.mem ((c.tc : Thread nD τ).loc main_v26_3) = ref14 m c
      ∧ r.2.mem ((c.tc : Thread nD τ).loc main_v26_4) = ref15 m c
      ∧ r.2.mem ((c.tc : Thread nD τ).loc main_v26_5) = ref16 m c
      ∧ r.2.mem ((c.tc : Thread nD τ).loc main_v26_6) = ref17 m c
      ∧ r.2.mem ((c.tc : Thread nD τ).loc main_v26_7) = ref18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
     ⟨((h.2 c).1 11).trans (final11 m c),
      ((h.2 c).1 12).trans (final12 m c),
      ((h.2 c).1 13).trans (final13 m c),
      ((h.2 c).1 14).trans (final14 m c (H c)),
      ((h.2 c).1 15).trans (final15 m c (H c)),
      ((h.2 c).1 16).trans (final16 m c),
      ((h.2 c).1 17).trans (final17 m c (H c)),
      ((h.2 c).1 18).trans (final18 m c),
      h.1 c⟩) (θ_run_and (unchanged m ρ) (run_main m ρ))

end Cert.RwkvPrepIdeal.Val

end
-- ==== Proof.FiniteKeys.lean ====
/- What the claim about the recurrent branch's operands supposes, read off its printed form: the columns of receptance and
   key, and what multiplies them, are real numbers. -/
module

public import proofs.«01_k».proof.Defs
public import proofs.«01_k».proof.Proof.Gen.Pre_finite_keys
public import proofs.«01_k».proof.Proof.RwkvPrep

set_option maxRecDepth 16384

@[expose] public noncomputable section

open Idealize.ShloMosaic Idealize.ShloMosaic.TcCoe Idealize.SL.Sem
open Cert.RwkvPrepIdeal.Val (Finite FiniteKeys)

namespace Cert.Pre_finite_keys

/-- The word that says a magnitude is below infinity. -/
def below (x : EReal) : BitVec 1 := Ideal.cmp .olt (max x (-x)) (Ideal.ofBits .f32 0x7F800000#32)

theorem finite_of_below (x : EReal) (h : below x = 1#1) : Finite x := by
  have htop : Ideal.ofBits .f32 0x7F800000#32 = ⊤ := by simp [Ideal.ofBits, Ideal.ieee]
  unfold below at h
  rw [htop] at h
  induction x using EReal.rec with
  | bot => simp [Ideal.cmp] at h
  | top => simp [Ideal.cmp] at h
  | coe r => exact ⟨r, rfl⟩

theorem both (a b : BitVec 1) (h : IntOp.andi a b = 1#1) : a = 1#1 ∧ b = 1#1 := by
  revert a b
  decide

variable [Facts]

theorem fn_at (x : FVec Ideal S16384x1792 .f32) (u : FVec Ideal S1792 .f32) (b0 : FVec Ideal S512 .f32) (w0 : FVec Ideal S64x512 .f32) (b1 : FVec Ideal S512 .f32) (w1 : FVec Ideal S64x512 .f32)
    (w2 : FVec Ideal S128x512 .f32) (n s : FVec Ideal S512 .f32) (q : FVec Ideal S8x64 .f32) (i : Fin 16384) (a : Fin 512) :
    fn x u b0 w0 b1 w1 w2 n s q (ix2 i a)
      = IntOp.andi (IntOp.andi (IntOp.andi (IntOp.andi (IntOp.andi (IntOp.andi (below (x (ix2 i (⟨a.val, by omega⟩ : Fin 1792)))) (below (x (ix2 i (⟨512 + a.val, by omega⟩ : Fin 1792)))))
          (below (u (ix1 (⟨a.val, by omega⟩ : Fin 1792))))) (below (u (ix1 (⟨512 + a.val, by omega⟩ : Fin 1792))))) (below (n (ix1 a)))) (below (s (ix1 a))))
          (below (q (ix2 (⟨a.val / 64, by omega⟩ : Fin 8) (⟨a.val % 64, by omega⟩ : Fin 64)))) := by
  pointwise [fn, fn_part1, fn_part2, below]
  rfl

theorem finite_keys (m : (ℓ : Loc Cert.RwkvPrepIdeal.nD Cert.RwkvPrepIdeal.τ Cert.RwkvPrepIdeal.sig) → Buf (Elt Ideal) ℓ) (hm : Cert.Pre_RwkvPrepIdeal_finite_keys m) (c : Dev Cert.RwkvPrepIdeal.nD) :
    FiniteKeys m c := by
  have hall : ∀ (i : Fin 16384) (a : Fin 512), _ := fun i a => (fn_at _ _ _ _ _ _ _ _ _ _ i a).symm.trans (congrFun (hm c) (ix2 i a))
  have h := fun (i : Fin 16384) (a : Fin 512) => both _ _ (hall i a)
  have h5 := fun (i : Fin 16384) (a : Fin 512) => both _ _ (h i a).1
  have h4 := fun (i : Fin 16384) (a : Fin 512) => both _ _ (h5 i a).1
  have h3 := fun (i : Fin 16384) (a : Fin 512) => both _ _ (h4 i a).1
  have h2 := fun (i : Fin 16384) (a : Fin 512) => both _ _ (h3 i a).1
  have h1 := fun (i : Fin 16384) (a : Fin 512) => both _ _ (h2 i a).1
  refine ⟨fun n k hk => ?_, fun k hk => ?_, fun a => finite_of_below _ (h4 0 a).2, fun a => finite_of_below _ (h5 0 a).2, fun e d => ?_⟩
  · by_cases hlt : k.val < 512
    · exact finite_of_below _ (h1 n ⟨k.val, hlt⟩).1
    · have hk' := finite_of_below _ (h1 n ⟨k.val - 512, by omega⟩).2
      have he : (⟨512 + (k.val - 512), by omega⟩ : Fin 1792) = k := Fin.ext (by show 512 + (k.val - 512) = k.val; omega)
      rw [he] at hk'
      exact hk'
  · by_cases hlt : k.val < 512
    · exact finite_of_below _ (h2 0 ⟨k.val, hlt⟩).2
    · have hk' := finite_of_below _ (h3 0 ⟨k.val - 512, by omega⟩).2
      have he : (⟨512 + (k.val - 512), by omega⟩ : Fin 1792) = k := Fin.ext (by show 512 + (k.val - 512) = k.val; omega)
      rw [he] at hk'
      exact hk'
  · have hq := finite_of_below _ (h 0 ⟨e.val * 64 + d.val, by omega⟩).2
    have he : (⟨(e.val * 64 + d.val) / 64, by omega⟩ : Fin 8) = e := Fin.ext (by show (e.val * 64 + d.val) / 64 = e.val; omega)
    have hd : (⟨(e.val * 64 + d.val) % 64, by omega⟩ : Fin 64) = d := Fin.ext (by show (e.val * 64 + d.val) % 64 = d.val; omega)
    rw [he, hd] at hq
    exact hq

end Cert.Pre_finite_keys

end
-- ==== Proof.lean ====
module

public import proofs.«01_k».proof.Defs
public import proofs.«01_k».proof.Proof.Gen.Kernel
public import proofs.«01_k».proof.Proof.Run
public import proofs.«01_k».proof.Proof.Gen.Merge
public import proofs.«01_k».proof.Proof.Gen.Merge.Frame
public import proofs.«01_k».proof.Proof.Merge
public import proofs.«01_k».proof.Proof.Linear
public import proofs.«01_k».proof.Proof.MemAttn
public import proofs.«01_k».proof.Proof.Experts
public import proofs.«01_k».proof.Proof.DsaPrep
public import proofs.«01_k».proof.Proof.RwkvRows
public import proofs.«01_k».proof.Proof.RwkvPrep
public import proofs.«01_k».proof.Proof.FiniteKeys
public import proofs.«01_k».proof.Proof.Gen.InDsa
public import proofs.«01_k».proof.Proof.Gen.InDsa.Frame
public import proofs.«01_k».proof.Proof.Gen.InDsaIdeal
public import proofs.«01_k».proof.Proof.Gen.InDsaIdeal.Skeleton
public import proofs.«01_k».proof.Proof.Gen.InDsaIdeal.Launch
public import proofs.«01_k».proof.Proof.Gen.InDsaIdeal.Points
public import proofs.«01_k».proof.Proof.Gen.InDsaIdeal.Frame
public import proofs.«01_k».proof.Proof.Gen.InDsaIdeal.Value
public import proofs.«01_k».proof.Proof.Gen.InDsaRefIdeal
public import proofs.«01_k».proof.Proof.Gen.InDsaRefIdeal.Run
public import proofs.«01_k».proof.Proof.Gen.InRwkv
public import proofs.«01_k».proof.Proof.Gen.InRwkv.Frame
public import proofs.«01_k».proof.Proof.Gen.InRwkvIdeal
public import proofs.«01_k».proof.Proof.Gen.InRwkvIdeal.Skeleton
public import proofs.«01_k».proof.Proof.Gen.InRwkvIdeal.Launch
public import proofs.«01_k».proof.Proof.Gen.InRwkvIdeal.Points
public import proofs.«01_k».proof.Proof.Gen.InRwkvIdeal.Frame
public import proofs.«01_k».proof.Proof.Gen.InRwkvIdeal.Value
public import proofs.«01_k».proof.Proof.Gen.InRwkvRefIdeal
public import proofs.«01_k».proof.Proof.Gen.InRwkvRefIdeal.Run
public import proofs.«01_k».proof.Proof.Gen.InMem
public import proofs.«01_k».proof.Proof.Gen.InMem.Frame
public import proofs.«01_k».proof.Proof.Gen.InMemIdeal
public import proofs.«01_k».proof.Proof.Gen.InMemIdeal.Skeleton
public import proofs.«01_k».proof.Proof.Gen.InMemIdeal.Launch
public import proofs.«01_k».proof.Proof.Gen.InMemIdeal.Points
public import proofs.«01_k».proof.Proof.Gen.InMemIdeal.Frame
public import proofs.«01_k».proof.Proof.Gen.InMemIdeal.Value
public import proofs.«01_k».proof.Proof.Gen.InMemRefIdeal
public import proofs.«01_k».proof.Proof.Gen.InMemRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.Experts
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.DsaPrep
public import proofs.«01_k».proof.Proof.Gen.DsaPrep.Frame
public import proofs.«01_k».proof.Proof.Gen.DsaPrepIdeal
public import proofs.«01_k».proof.Proof.Gen.DsaPrepIdeal.Skeleton
public import proofs.«01_k».proof.Proof.Gen.DsaPrepIdeal.Launch
public import proofs.«01_k».proof.Proof.Gen.DsaPrepIdeal.Points
public import proofs.«01_k».proof.Proof.Gen.DsaPrepIdeal.Frame
public import proofs.«01_k».proof.Proof.Gen.DsaPrepRefIdeal
public import proofs.«01_k».proof.Proof.Gen.DsaPrepRefIdeal.Run
public import proofs.«01_k».proof.Proof.Gen.RwkvPrep
public import proofs.«01_k».proof.Proof.Gen.RwkvPrep.Frame
public import proofs.«01_k».proof.Proof.Gen.RwkvPrepIdeal
public import proofs.«01_k».proof.Proof.Gen.RwkvPrepIdeal.Skeleton
public import proofs.«01_k».proof.Proof.Gen.RwkvPrepIdeal.Launch
public import proofs.«01_k».proof.Proof.Gen.RwkvPrepIdeal.Points
public import proofs.«01_k».proof.Proof.Gen.RwkvPrepIdeal.Frame
public import proofs.«01_k».proof.Proof.Gen.RwkvPrepIdeal.Value
public import proofs.«01_k».proof.Proof.Gen.RwkvPrepRefIdeal
public import proofs.«01_k».proof.Proof.Gen.RwkvPrepRefIdeal.Run
public import proofs.«01_k».proof.Proof.Gen.Pre_finite_keys
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The attention kernel terminates without a fault, its arguments as they were and every counter at zero. -/
theorem frame_kernel [hKernel : Cert.Kernel.Facts] : Cert.quiescent_Kernel := fun m ρ _ =>
  (θ_run Cert.Kernel.defs _ _).mono (fun _ h => ⟨fun c => Cert.Kernel.Hand.final_args m h.1 c, h.2⟩)
    (Cert.Kernel.Hand.run_main (F := Bits) m ρ)

/-- So does the merge kernel. -/
theorem frame_merge [hMerge : Cert.Merge.Facts] : Cert.quiescent_Merge := fun m ρ _ => Cert.Merge.Gen.frame m ρ

/-- And its ideal reading. -/
theorem frame_mergeIdeal [hMergeIdeal : Cert.MergeIdeal.Facts] : Cert.quiescent_MergeIdeal := fun m ρ _ => Cert.MergeIdeal.Gen.frame m ρ

/-- And the merge's reference. -/
theorem frame_mergeRef [hMergeRefIdeal : Cert.MergeRefIdeal.Facts] : Cert.quiescent_MergeRefIdeal := by
  intro m g _
  exact (θ_run _ _ _).mono (fun r h => ⟨fun c => (h c).2.2.2, Idealize.ShloMosaic.sem_eq_zero_of_no_sems (by decide) r.2⟩)
    (Cert.MergeRefIdeal.Value.run m g)

set_option maxHeartbeats 1600000 in
/-- From the same arguments the merge kernel and its reference end with the same three results. -/
theorem algebraic_merge [hMergeIdeal : Cert.MergeIdeal.Facts] [hMergeRefIdeal : Cert.MergeRefIdeal.Facts] :
    Cert.algebraic_MergeIdeal_MergeRefIdeal := by
  pair_intro
  · run_from Cert.MergeIdeal.Gen.run_main m g
  · run_from Cert.MergeRefIdeal.Value.run m' g'
    all_goals obtain ⟨h0, h1, h2, h3, h4, h5, h6, h7, h8, h9, h10⟩ := hagree c
    · rw [Cert.MergeIdeal.Val.final11 m c]
      refine (Cert.MergeRefIdeal.Val.res_out0_eq m' c).trans ?_
      rw [h0, h1, h2, h3, h4, h5, h6, h7, h8, h9, h10]
    · rw [Cert.MergeIdeal.Val.final12 m c]
      refine (Cert.MergeRefIdeal.Val.res_out1_eq m' c).trans ?_
      rw [Cert.MergeRefIdeal.Val.res_out0_eq m' c, h0, h1, h2, h3, h4, h5, h6, h7, h8, h9, h10]
    · rw [Cert.MergeIdeal.Val.final13 m c]
      refine (Cert.MergeRefIdeal.Val.res_out2_eq m' c).trans ?_
      rw [Cert.MergeRefIdeal.Val.res_out0_eq m' c, h0, h1, h2, h3, h4, h5, h6, h7, h8, h9, h10]

/-! ## The sparse attention's columns -/

theorem frame_inDsa [hInDsa : Cert.InDsa.Facts] : Cert.quiescent_InDsa := fun m ρ _ => Cert.InDsa.Gen.frame m ρ

theorem frame_inDsaIdeal [hInDsaIdeal : Cert.InDsaIdeal.Facts] : Cert.quiescent_InDsaIdeal := fun m ρ _ => Cert.InDsaIdeal.Gen.frame m ρ

theorem frame_inDsaRef [hInDsaRefIdeal : Cert.InDsaRefIdeal.Facts] : Cert.quiescent_InDsaRefIdeal := by
  intro m g _
  exact (θ_run _ _ _).mono (fun r h => ⟨fun c => (h c).2, Idealize.ShloMosaic.sem_eq_zero_of_no_sems (by decide) r.2⟩)
    (Cert.InDsaRefIdeal.Value.run m g)

theorem algebraic_inDsa [hInDsaIdeal : Cert.InDsaIdeal.Facts] [hInDsaRefIdeal : Cert.InDsaRefIdeal.Facts] :
    Cert.algebraic_InDsaIdeal_InDsaRefIdeal := by
  pair_intro
  · run_from Cert.InDsaIdeal.Gen.run_main m g
  · run_from Cert.InDsaRefIdeal.Value.run m' g'
    rw [Cert.InDsaIdeal.Val.final m c]

/-! ## The recurrence's columns -/

theorem frame_inRwkv [hInRwkv : Cert.InRwkv.Facts] : Cert.quiescent_InRwkv := fun m ρ _ => Cert.InRwkv.Gen.frame m ρ

theorem frame_inRwkvIdeal [hInRwkvIdeal : Cert.InRwkvIdeal.Facts] : Cert.quiescent_InRwkvIdeal := fun m ρ _ => Cert.InRwkvIdeal.Gen.frame m ρ

theorem frame_inRwkvRef [hInRwkvRefIdeal : Cert.InRwkvRefIdeal.Facts] : Cert.quiescent_InRwkvRefIdeal := by
  intro m g _
  exact (θ_run _ _ _).mono (fun r h => ⟨fun c => (h c).2, Idealize.ShloMosaic.sem_eq_zero_of_no_sems (by decide) r.2⟩)
    (Cert.InRwkvRefIdeal.Value.run m g)

theorem algebraic_inRwkv [hInRwkvIdeal : Cert.InRwkvIdeal.Facts] [hInRwkvRefIdeal : Cert.InRwkvRefIdeal.Facts] :
    Cert.algebraic_InRwkvIdeal_InRwkvRefIdeal := by
  pair_intro
  · run_from Cert.InRwkvIdeal.Gen.run_main m g
  · run_from Cert.InRwkvRefIdeal.Value.run m' g'
    rw [Cert.InRwkvIdeal.Val.final m c]

/-! ## The memory attention's queries -/

theorem frame_inMem [hInMem : Cert.InMem.Facts] : Cert.quiescent_InMem := fun m ρ _ => Cert.InMem.Gen.frame m ρ

theorem frame_inMemIdeal [hInMemIdeal : Cert.InMemIdeal.Facts] : Cert.quiescent_InMemIdeal := fun m ρ _ => Cert.InMemIdeal.Gen.frame m ρ

theorem frame_inMemRef [hInMemRefIdeal : Cert.InMemRefIdeal.Facts] : Cert.quiescent_InMemRefIdeal := by
  intro m g _
  exact (θ_run _ _ _).mono (fun r h => ⟨fun c => (h c).2, Idealize.ShloMosaic.sem_eq_zero_of_no_sems (by decide) r.2⟩)
    (Cert.InMemRefIdeal.Value.run m g)

theorem algebraic_inMem [hInMemIdeal : Cert.InMemIdeal.Facts] [hInMemRefIdeal : Cert.InMemRefIdeal.Facts] :
    Cert.algebraic_InMemIdeal_InMemRefIdeal := by
  pair_intro
  · run_from Cert.InMemIdeal.Gen.run_main m g
  · run_from Cert.InMemRefIdeal.Value.run m' g'
    rw [Cert.InMemIdeal.Val.final m c]

/-! ## The memory's keys and values -/

theorem frame_memKv [hMemKv : Cert.MemKv.Facts] : Cert.quiescent_MemKv := fun m ρ _ => Cert.MemKv.Gen.frame m ρ

theorem frame_memKvIdeal [hMemKvIdeal : Cert.MemKvIdeal.Facts] : Cert.quiescent_MemKvIdeal := fun m ρ _ => Cert.MemKvIdeal.Gen.frame m ρ

theorem frame_memKvRef [hMemKvRefIdeal : Cert.MemKvRefIdeal.Facts] : Cert.quiescent_MemKvRefIdeal := by
  intro m g _
  exact (θ_run _ _ _).mono (fun r h => ⟨fun c => (h c).2, Idealize.ShloMosaic.sem_eq_zero_of_no_sems (by decide) r.2⟩)
    (Cert.MemKvRefIdeal.Value.run m g)

theorem algebraic_memKv [hMemKvIdeal : Cert.MemKvIdeal.Facts] [hMemKvRefIdeal : Cert.MemKvRefIdeal.Facts] :
    Cert.algebraic_MemKvIdeal_MemKvRefIdeal := by
  pair_intro
  · run_from Cert.MemKvIdeal.Gen.run_main m g
  · run_from Cert.MemKvRefIdeal.Value.run m' g'
    rw [Cert.MemKvIdeal.Val.final m c]

/-! ## The memory attention -/

theorem frame_memAttn [hMemAttn : Cert.MemAttn.Facts] : Cert.quiescent_MemAttn := fun m ρ _ => Cert.MemAttn.Gen.frame m ρ

theorem frame_memAttnIdeal [hMemAttnIdeal : Cert.MemAttnIdeal.Facts] : Cert.quiescent_MemAttnIdeal := fun m ρ _ => Cert.MemAttnIdeal.Gen.frame m ρ

theorem frame_memAttnRef [hMemAttnRefIdeal : Cert.MemAttnRefIdeal.Facts] : Cert.quiescent_MemAttnRefIdeal := by
  intro m g _
  exact (θ_run _ _ _).mono (fun r h => ⟨fun c => (h c).2,
    Idealize.ShloMosaic.sem_eq_zero_of_no_sems (by decide) r.2⟩) (Cert.MemAttnRefIdeal.Value.run m g)

theorem algebraic_memAttn [hMemAttnIdeal : Cert.MemAttnIdeal.Facts] [hMemAttnRefIdeal : Cert.MemAttnRefIdeal.Facts] :
    Cert.algebraic_MemAttnIdeal_MemAttnRefIdeal := by
  pair_intro
  · run_from Cert.MemAttnIdeal.Gen.run_main m g
  · run_from Cert.MemAttnRefIdeal.Value.run m' g'
    rw [Cert.MemAttnIdeal.Val.final m c]
    rfl

/-! ## The experts -/

theorem frame_experts [hExperts : Cert.Experts.Facts] : Cert.quiescent_Experts := fun m ρ _ => Cert.Experts.Gen.frame m ρ

theorem frame_expertsIdeal [hExpertsIdeal : Cert.ExpertsIdeal.Facts] : Cert.quiescent_ExpertsIdeal := fun m ρ _ => Cert.ExpertsIdeal.Gen.frame m ρ

theorem frame_expertsRef [hExpertsRefIdeal : Cert.ExpertsRefIdeal.Facts] : Cert.quiescent_ExpertsRefIdeal := by
  intro m g _
  exact (θ_run _ _ _).mono (fun r h => ⟨fun c => (h c).2,
    Idealize.ShloMosaic.sem_eq_zero_of_no_sems (by decide) r.2⟩) (Cert.ExpertsRefIdeal.Value.run m g)

theorem algebraic_experts [hExpertsIdeal : Cert.ExpertsIdeal.Facts] [hExpertsRefIdeal : Cert.ExpertsRefIdeal.Facts] :
    Cert.algebraic_ExpertsIdeal_ExpertsRefIdeal := by
  pair_intro
  · run_from Cert.ExpertsIdeal.Gen.run_main m g
  · run_from Cert.ExpertsRefIdeal.Value.run m' g'
    obtain ⟨h0, h1, h2, h3, h4, h5, h6, h7, h8⟩ := hagree c
    rw [Cert.ExpertsIdeal.Val.final m c]
    refine (Cert.ExpertsRefIdeal.Val.res_out0_eq m' c).trans ?_
    rw [h0, h1, h2, h3, h4, h5, h6, h7, h8]
    rfl

/-! ## The sparse attention's operands -/

theorem frame_dsaPrep [hDsaPrep : Cert.DsaPrep.Facts] : Cert.quiescent_DsaPrep := fun m ρ _ => Cert.DsaPrep.Gen.frame m ρ

theorem frame_dsaPrepIdeal [hDsaPrepIdeal : Cert.DsaPrepIdeal.Facts] : Cert.quiescent_DsaPrepIdeal := fun m ρ _ => Cert.DsaPrepIdeal.Gen.frame m ρ

theorem frame_dsaPrepRef [hDsaPrepRefIdeal : Cert.DsaPrepRefIdeal.Facts] : Cert.quiescent_DsaPrepRefIdeal := by
  intro m g _
  exact (θ_run _ _ _).mono (fun r h => ⟨fun c => (h c).2.2.2.2.2,
    Idealize.ShloMosaic.sem_eq_zero_of_no_sems (by decide) r.2⟩) (Cert.DsaPrepRefIdeal.Val.run m g)

theorem algebraic_dsaPrep [hDsaPrepIdeal : Cert.DsaPrepIdeal.Facts] [hDsaPrepRefIdeal : Cert.DsaPrepRefIdeal.Facts] :
    Cert.algebraic_DsaPrepIdeal_DsaPrepRefIdeal := by
  pair_intro
  · run_from Cert.DsaPrepIdeal.Gen.run_main m g
  · run_from Cert.DsaPrepRefIdeal.Val.run m' g'
    · rw [Cert.DsaPrepIdeal.Val.final6 m c]
      rfl
    · rw [Cert.DsaPrepIdeal.Val.final7 m c]
      rfl
    · rw [Cert.DsaPrepIdeal.Val.final8 m c]
      rfl
    · rw [Cert.DsaPrepIdeal.Val.final9 m c]
      rfl
    · rw [Cert.DsaPrepIdeal.Val.final10 m c]
      rfl

/-! ## The recurrent branch's operands -/

theorem frame_rwkvPrep [hRwkvPrep : Cert.RwkvPrep.Facts] : Cert.quiescent_RwkvPrep := fun m ρ _ => Cert.RwkvPrep.Gen.frame m ρ

theorem frame_rwkvPrepIdeal [hRwkvPrepIdeal : Cert.RwkvPrepIdeal.Facts] : Cert.quiescent_RwkvPrepIdeal := fun m ρ _ => Cert.RwkvPrepIdeal.Gen.frame m ρ

theorem frame_rwkvPrepIdeal_finite [hRwkvPrepIdeal : Cert.RwkvPrepIdeal.Facts] [hPre_finite_keys : Cert.Pre_finite_keys.Facts] :
    Cert.quiescent_RwkvPrepIdeal_pre_finite_keys := fun m ρ _ => Cert.RwkvPrepIdeal.Gen.frame m ρ

theorem frame_rwkvPrepRef [hRwkvPrepRefIdeal : Cert.RwkvPrepRefIdeal.Facts] : Cert.quiescent_RwkvPrepRefIdeal := by
  intro m g _
  exact (θ_run _ _ _).mono (fun r h => ⟨fun c => (h c).2.2.2.2.2.2.2.2,
    Idealize.ShloMosaic.sem_eq_zero_of_no_sems (by decide) r.2⟩) (Cert.RwkvPrepRefIdeal.Val.run m g)

theorem frame_rwkvPrepRef_finite [hRwkvPrepRefIdeal : Cert.RwkvPrepRefIdeal.Facts] [hPre_finite_keys : Cert.Pre_finite_keys.Facts] :
    Cert.quiescent_RwkvPrepRefIdeal_pre_finite_keys := fun m g _ => frame_rwkvPrepRef m g trivial

theorem algebraic_rwkvPrep [hRwkvPrepIdeal : Cert.RwkvPrepIdeal.Facts] [hRwkvPrepRefIdeal : Cert.RwkvPrepRefIdeal.Facts] [hPre_finite_keys : Cert.Pre_finite_keys.Facts] :
    Cert.algebraic_RwkvPrepIdeal_RwkvPrepRefIdeal_pre_finite_keys := by
  pair_intro
  · run_from Cert.RwkvPrepIdeal.Val.run m g (Cert.Pre_finite_keys.finite_keys m hpre)
  · refine (θ_run _ _ _).mono (fun r h c => ?_) (Cert.RwkvPrepRefIdeal.Val.run m' g')
    obtain ⟨h0, h1, h2, h3, h4, h5, h6, h7, hargs⟩ := h c
    obtain ⟨a0, a1, a2, a3, a4, a5, a6, a7, a8, a9⟩ := hagree c
    rw [a0, a1] at h0 h2
    rw [a0, a1, a4, a5, a8] at h1
    rw [a0, a1, a7] at h3
    rw [a0, a1, a4, a5, a7] at h4
    rw [a0, a1, a2, a3] at h5
    rw [a0, a1, a4, a5, a8, a9] at h6
    rw [a0, a1, a6] at h7
    exact ⟨h0, h1, h2, h3, h4, h5, h6, h7, hargs⟩

theorem claim : Cert.Claim :=
  ⟨Cert.Kernel.Gen.facts,
    Cert.Merge.Gen.facts, Cert.MergeIdeal.Gen.facts, Cert.MergeRefIdeal.Gen.facts,
    Cert.InDsa.Gen.facts, Cert.InDsaIdeal.Gen.facts, Cert.InDsaRefIdeal.Gen.facts,
    Cert.InRwkv.Gen.facts, Cert.InRwkvIdeal.Gen.facts, Cert.InRwkvRefIdeal.Gen.facts,
    Cert.InMem.Gen.facts, Cert.InMemIdeal.Gen.facts, Cert.InMemRefIdeal.Gen.facts,
    Cert.MemKv.Gen.facts, Cert.MemKvIdeal.Gen.facts, Cert.MemKvRefIdeal.Gen.facts,
    Cert.MemAttn.Gen.facts, Cert.MemAttnIdeal.Gen.facts, Cert.MemAttnRefIdeal.Gen.facts,
    Cert.Experts.Gen.facts, Cert.ExpertsIdeal.Gen.facts, Cert.ExpertsRefIdeal.Gen.facts,
    Cert.DsaPrep.Gen.facts, Cert.DsaPrepIdeal.Gen.facts, Cert.DsaPrepRefIdeal.Gen.facts,
    Cert.RwkvPrep.Gen.facts, Cert.RwkvPrepIdeal.Gen.facts, Cert.RwkvPrepRefIdeal.Gen.facts, Cert.Pre_finite_keys.Gen.facts,
    frame_kernel (hKernel := Cert.Kernel.Gen.facts),
    frame_merge, frame_mergeIdeal, frame_mergeRef,
    frame_inDsa, frame_inDsaIdeal, frame_inDsaRef,
    frame_inRwkv, frame_inRwkvIdeal, frame_inRwkvRef,
    frame_inMem, frame_inMemIdeal, frame_inMemRef,
    frame_memKv, frame_memKvIdeal, frame_memKvRef,
    frame_memAttn, frame_memAttnIdeal, frame_memAttnRef,
    frame_experts, frame_expertsIdeal, frame_expertsRef,
    frame_dsaPrep, frame_dsaPrepIdeal, frame_dsaPrepRef,
    frame_rwkvPrep, frame_rwkvPrepIdeal, frame_rwkvPrepIdeal_finite, frame_rwkvPrepRef, frame_rwkvPrepRef_finite,
    trivial, algebraic_merge, trivial, algebraic_inDsa,
    trivial, algebraic_inRwkv, trivial, algebraic_inMem,
    trivial, algebraic_memKv, trivial, algebraic_memAttn,
    trivial, algebraic_experts,
    trivial, algebraic_dsaPrep,
    trivial, algebraic_rwkvPrep⟩

end Cert.Proof

end
